-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2 = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S7x32x128 : Shape := ⟨3, ![7, 32, 128]⟩
abbrev S180224x4 : Shape := ⟨2, ![180224, 4]⟩
abbrev S1001 : Shape := ⟨1, ![1001]⟩
abbrev S_ : Shape := ⟨0, ![]⟩
abbrev S1000 : Shape := ⟨1, ![1000]⟩

class Facts : Prop where
  bcast_S_S7x32x128 : S_.BroadcastsInDim S7x32x128 (![] : Fin 0 → Fin S7x32x128.rank)
  slices_S1001_S1000_0 : S1001.Slices ![0] S1000
  slices_S1001_S1000_1 : S1001.Slices ![1] S1000
  bcast_S_S1001 : S_.BroadcastsInDim S1001 (![] : Fin 0 → Fin S1001.rank)

variable [Facts]

def fn {F : FTy → Type} [FloatOps F] (main_arg0 : FVec F S7x32x128 .bf16) (main_arg1 : IVec S180224x4 32) (main_arg2 : IVec S1001 32) : IVec S7x32x128 1 × IVec S1000 1 × IVec S1001 1 :=
  let main_cst : FVec F S_ .bf16 := constant S_ .bf16 0x7F80#16
  let main_v0 : FVec F S7x32x128 .bf16 := broadcastInDim S7x32x128 ![] bcast_S_S7x32x128 main_cst
  let main_v1 : IVec S7x32x128 1 := cmpf .olt main_arg0 main_v0
  let main_cst_0 : FVec F S_ .bf16 := constant S_ .bf16 0xFF80#16
  let main_v2 : FVec F S7x32x128 .bf16 := broadcastInDim S7x32x128 ![] bcast_S_S7x32x128 main_cst_0
  let main_v3 : IVec S7x32x128 1 := cmpf .ogt main_arg0 main_v2
  let main_v4 : IVec S7x32x128 1 := andi main_v1 main_v3
  let main_v5 : IVec S1000 32 := (extractStridedSlice S1000 ![0] · slices_S1001_S1000_0) main_arg2
  let main_v6 : IVec S1000 32 := (extractStridedSlice S1000 ![1] · slices_S1001_S1000_1) main_arg2
  let main_v7 : IVec S1000 1 := cmpi .sle main_v5 main_v6
  let main_c : IVec S_ 32 := constantI S_ 32 0#32
  let main_v8 : IVec S1001 32 := broadcastInDim S1001 ![] bcast_S_S1001 main_c
  let main_v9 : IVec S1001 1 := cmpi .sge main_arg2 main_v8
  let main_c_1 : IVec S_ 32 := constantI S_ 32 180224#32
  let main_v10 : IVec S1001 32 := broadcastInDim S1001 ![] bcast_S_S1001 main_c_1
  let main_v11 : IVec S1001 1 := cmpi .sle main_arg2 main_v10
  let main_v12 : IVec S1001 1 := andi main_v9 main_v11
  (main_v4, main_v7, main_v12)
-- ==== Kernel.lean ====
abbrev S7x32x128 : Shape := ⟨3, ![7, 32, 128]⟩
abbrev S180224x4 : Shape := ⟨2, ![180224, 4]⟩
abbrev S1001 : Shape := ⟨1, ![1001]⟩
abbrev S1408x128x4 : Shape := ⟨3, ![1408, 128, 4]⟩
abbrev S1408x4x128 : Shape := ⟨3, ![1408, 4, 128]⟩
abbrev S5632x128 : Shape := ⟨2, ![5632, 128]⟩
abbrev S224x128 : Shape := ⟨2, ![224, 128]⟩
abbrev S1x1001 : Shape := ⟨2, ![1, 1001]⟩
abbrev S224x1000 : Shape := ⟨2, ![224, 1000]⟩
abbrev S7x1000 : Shape := ⟨2, ![7, 1000]⟩
abbrev S1x1024 : Shape := ⟨2, ![1, 1024]⟩
abbrev S352x128 : Shape := ⟨2, ![352, 128]⟩
abbrev S4x128x128 : Shape := ⟨3, ![4, 128, 128]⟩
abbrev S512x128 : Shape := ⟨2, ![512, 128]⟩
abbrev S45064x128 : Shape := ⟨2, ![45064, 128]⟩
abbrev S45064x96 : Shape := ⟨2, ![45064, 96]⟩
abbrev S136x128 : Shape := ⟨2, ![136, 128]⟩
abbrev S1024x128 : Shape := ⟨2, ![1024, 128]⟩
abbrev S1024x96 : Shape := ⟨2, ![1024, 96]⟩
abbrev S128x128 : Shape := ⟨2, ![128, 128]⟩
abbrev S352x1024 : Shape := ⟨2, ![352, 1024]⟩
abbrev S128x1024 : Shape := ⟨2, ![128, 1024]⟩
abbrev S1 : Shape := ⟨1, ![1]⟩
abbrev S4x128 : Shape := ⟨2, ![4, 128]⟩
abbrev S4x4 : Shape := ⟨2, ![4, 4]⟩
abbrev S1x128x128 : Shape := ⟨3, ![1, 128, 128]⟩
abbrev S1x128 : Shape := ⟨2, ![1, 128]⟩
abbrev S8x128 : Shape := ⟨2, ![8, 128]⟩
abbrev S1x1x128 : Shape := ⟨3, ![1, 1, 128]⟩
abbrev S64x128 : Shape := ⟨2, ![64, 128]⟩
abbrev S128x256 : Shape := ⟨2, ![128, 256]⟩
abbrev S224x256 : Shape := ⟨2, ![224, 256]⟩
abbrev S96x128 : Shape := ⟨2, ![96, 128]⟩
abbrev S128x96 : Shape := ⟨2, ![128, 96]⟩
abbrev S128 : Shape := ⟨1, ![128]⟩
abbrev S128x32 : Shape := ⟨2, ![128, 32]⟩
abbrev S8x96 : Shape := ⟨2, ![8, 96]⟩
abbrev S1x96 : Shape := ⟨2, ![1, 96]⟩
abbrev S224 : Shape := ⟨1, ![224]⟩
abbrev S224x1 : Shape := ⟨2, ![224, 1]⟩
abbrev S32x128 : Shape := ⟨2, ![32, 128]⟩
abbrev S224x104 : Shape := ⟨2, ![224, 104]⟩
abbrev S32x104 : Shape := ⟨2, ![32, 104]⟩
abbrev S104 : Shape := ⟨1, ![104]⟩
abbrev S1x104 : Shape := ⟨2, ![1, 104]⟩
abbrev S7x32x1000 : Shape := ⟨3, ![7, 32, 1000]⟩
abbrev S1000x7x32 : Shape := ⟨3, ![1000, 7, 32]⟩
abbrev S1000x7 : Shape := ⟨2, ![1000, 7]⟩

abbrev nBuf : Space → Nat
  | .hbm => 13
  | .vmem => 16
  | .smem => 1
  | _ => 0

abbrev bufTy : (tb : Table) → Fin (tcTables nBuf tb) → BufTy
  | .hbm, ⟨0, _⟩ => ⟨S7x32x128, .bf16⟩
  | .hbm, ⟨1, _⟩ => ⟨S180224x4, .i32⟩
  | .hbm, ⟨2, _⟩ => ⟨S1001, .i32⟩
  | .hbm, ⟨3, _⟩ => ⟨S1408x128x4, .i32⟩
  | .hbm, ⟨4, _⟩ => ⟨S1408x4x128, .i32⟩
  | .hbm, ⟨5, _⟩ => ⟨S5632x128, .i32⟩
  | .hbm, ⟨6, _⟩ => ⟨S224x128, .bf16⟩
  | .hbm, ⟨7, _⟩ => ⟨S1x1001, .i32⟩
  | .hbm, ⟨8, _⟩ => ⟨S224x1000, .f32⟩
  | .hbm, ⟨9, _⟩ => ⟨S7x1000, .f32⟩
  | .hbm, ⟨10, _⟩ => ⟨S7x32x1000, .f32⟩
  | .hbm, ⟨11, _⟩ => ⟨S1000x7x32, .f32⟩
  | .hbm, ⟨12, _⟩ => ⟨S1000x7, .f32⟩
  | .local _ .vmem, ⟨0, _⟩ => ⟨S224x128, .bf16⟩
  | .local _ .vmem, ⟨1, _⟩ => ⟨S1x1001, .i32⟩
  | .local _ .vmem, ⟨2, _⟩ => ⟨S5632x128, .i32⟩
  | .local _ .vmem, ⟨3, _⟩ => ⟨S224x1000, .f32⟩
  | .local _ .vmem, ⟨4, _⟩ => ⟨S7x1000, .f32⟩
  | .local _ .vmem, ⟨5, _⟩ => ⟨S1x1024, .i32⟩
  | .local _ .vmem, ⟨6, _⟩ => ⟨S352x128, .f32⟩
  | .local _ .vmem, ⟨7, _⟩ => ⟨S4x128x128, .i32⟩
  | .local _ .vmem, ⟨8, _⟩ => ⟨S512x128, .i32⟩
  | .local _ .vmem, ⟨9, _⟩ => ⟨S224x128, .f32⟩
  | .local _ .vmem, ⟨10, _⟩ => ⟨S45064x128, .f32⟩
  | .local _ .vmem, ⟨11, _⟩ => ⟨S45064x96, .f32⟩
  | .local _ .vmem, ⟨12, _⟩ => ⟨S136x128, .f32⟩
  | .local _ .vmem, ⟨13, _⟩ => ⟨S136x128, .f32⟩
  | .local _ .vmem, ⟨14, _⟩ => ⟨S1024x128, .f32⟩
  | .local _ .vmem, ⟨15, _⟩ => ⟨S1024x96, .f32⟩
  | .local _ .smem, ⟨0, _⟩ => ⟨S1001, .i32⟩
  | _, _ => ⟨S7x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v88 : BitVec 32 := Scalar.addi c0_i32 c128_i32
  let c1_i32_26 : BitVec 32 := 1#32
  ⟨c0_i32, v88, c1_i32_26⟩
def k0_off1 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c0_i32_1532 : BitVec 32 := 0#32
  let v3529 : BitVec 32 := Scalar.addi arg17 c0_i32_1532
  let c1_i32_1533 : BitVec 32 := 1#32
  let v3530 : BitVec 32 := Scalar.addi v3529 c1_i32_1533
  let c1000_i32 : BitVec 32 := 1000#32
  let v3531 : BitVec 32 := Scalar.minsi v3530 c1000_i32
  let v3532 : Index := Scalar.indexCast v3531
  ![v3532.toNat]
def k0_off2 (v3533 : BitVec 32) : Fin 2 → Nat :=
  let c1_i32_1534 : BitVec 32 := 1#32
  let v3534 : BitVec 32 := Scalar.subi v3533 c1_i32_1534
  let c0_i32_1535 : BitVec 32 := 0#32
  let v3535 : BitVec 32 := Scalar.maxsi v3534 c0_i32_1535
  let c2_i32_1536 : BitVec 32 := 2#32
  let v3536 : BitVec 32 := Scalar.shrsi v3535 c2_i32_1536
  let c5_i32_1537 : BitVec 32 := 5#32
  let v3537 : BitVec 32 := Scalar.shrsi v3536 c5_i32_1537
  let c4_i32_1538 : BitVec 32 := 4#32
  let v3538 : BitVec 32 := Scalar.muli v3537 c4_i32_1538
  let v3539 : Index := Scalar.indexCast v3538
  let c0_1539 : Index := 0#32
  ![v3539.toNat, 0]

def k0_chk1 (v3533 : BitVec 32) : Prop :=
  (∀ a, (k0_off2 v3533) a + S4x128.size a ≤ S5632x128.size a)
theorem k0_off2_inb : ∀ (v3533 : BitVec 32) (k0_hw1 : k0_chk1 v3533), ∀ a, (k0_off2 v3533) a + S4x128.size a ≤ S5632x128.size a := fun v3533 k0_hw1 => k0_hw1

def k0_off3 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1542 : BitVec 32 := 4#32
  let v3547 : BitVec 32 := Scalar.muli arg17 c4_i32_1542
  let v3548 : Index := Scalar.indexCast v3547
  let c0_1543 : Index := 0#32
  ![v3548.toNat, 0]
def k0_off4 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c128_i32_1544 : BitVec 32 := 128#32
  let v3552 : BitVec 32 := Scalar.addi arg17 c128_i32_1544
  let c1_i32_1545 : BitVec 32 := 1#32
  let v3553 : BitVec 32 := Scalar.addi v3552 c1_i32_1545
  let c1000_i32_1546 : BitVec 32 := 1000#32
  let v3554 : BitVec 32 := Scalar.minsi v3553 c1000_i32_1546
  let v3555 : Index := Scalar.indexCast v3554
  ![v3555.toNat]
def k0_off5 (v3556 : BitVec 32) : Fin 2 → Nat :=
  let c1_i32_1547 : BitVec 32 := 1#32
  let v3557 : BitVec 32 := Scalar.subi v3556 c1_i32_1547
  let c0_i32_1548 : BitVec 32 := 0#32
  let v3558 : BitVec 32 := Scalar.maxsi v3557 c0_i32_1548
  let c2_i32_1549 : BitVec 32 := 2#32
  let v3559 : BitVec 32 := Scalar.shrsi v3558 c2_i32_1549
  let c5_i32_1550 : BitVec 32 := 5#32
  let v3560 : BitVec 32 := Scalar.shrsi v3559 c5_i32_1550
  let c4_i32_1551 : BitVec 32 := 4#32
  let v3561 : BitVec 32 := Scalar.muli v3560 c4_i32_1551
  let v3562 : Index := Scalar.indexCast v3561
  let c0_1552 : Index := 0#32
  ![v3562.toNat, 0]

def k0_chk2 (v3556 : BitVec 32) : Prop :=
  (∀ a, (k0_off5 v3556) a + S4x128.size a ≤ S5632x128.size a)
theorem k0_off5_inb : ∀ (v3556 : BitVec 32) (k0_hw2 : k0_chk2 v3556), ∀ a, (k0_off5 v3556) a + S4x128.size a ≤ S5632x128.size a := fun v3556 k0_hw2 => k0_hw2

def k0_off6 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1556 : BitVec 32 := 4#32
  let v3570 : BitVec 32 := Scalar.muli arg17 c4_i32_1556
  let v3571 : Index := Scalar.indexCast v3570
  let c4_1557 : Index := 4#32
  ![v3571.toNat, 4]
def k0_off7 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c256_i32 : BitVec 32 := 256#32
  let v3575 : BitVec 32 := Scalar.addi arg17 c256_i32
  let c1_i32_1558 : BitVec 32 := 1#32
  let v3576 : BitVec 32 := Scalar.addi v3575 c1_i32_1558
  let c1000_i32_1559 : BitVec 32 := 1000#32
  let v3577 : BitVec 32 := Scalar.minsi v3576 c1000_i32_1559
  let v3578 : Index := Scalar.indexCast v3577
  ![v3578.toNat]
def k0_off8 (v3579 : BitVec 32) : Fin 2 → Nat :=
  let c1_i32_1560 : BitVec 32 := 1#32
  let v3580 : BitVec 32 := Scalar.subi v3579 c1_i32_1560
  let c0_i32_1561 : BitVec 32 := 0#32
  let v3581 : BitVec 32 := Scalar.maxsi v3580 c0_i32_1561
  let c2_i32_1562 : BitVec 32 := 2#32
  let v3582 : BitVec 32 := Scalar.shrsi v3581 c2_i32_1562
  let c5_i32_1563 : BitVec 32 := 5#32
  let v3583 : BitVec 32 := Scalar.shrsi v3582 c5_i32_1563
  let c4_i32_1564 : BitVec 32 := 4#32
  let v3584 : BitVec 32 := Scalar.muli v3583 c4_i32_1564
  let v3585 : Index := Scalar.indexCast v3584
  let c0_1565 : Index := 0#32
  ![v3585.toNat, 0]

def k0_chk3 (v3579 : BitVec 32) : Prop :=
  (∀ a, (k0_off8 v3579) a + S4x128.size a ≤ S5632x128.size a)
theorem k0_off8_inb : ∀ (v3579 : BitVec 32) (k0_hw3 : k0_chk3 v3579), ∀ a, (k0_off8 v3579) a + S4x128.size a ≤ S5632x128.size a := fun v3579 k0_hw3 => k0_hw3

def k0_off9 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1569 : BitVec 32 := 4#32
  let v3593 : BitVec 32 := Scalar.muli arg17 c4_i32_1569
  let v3594 : Index := Scalar.indexCast v3593
  let c8_1570 : Index := 8#32
  ![v3594.toNat, 8]
def k0_off10 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c384_i32 : BitVec 32 := 384#32
  let v3598 : BitVec 32 := Scalar.addi arg17 c384_i32
  let c1_i32_1571 : BitVec 32 := 1#32
  let v3599 : BitVec 32 := Scalar.addi v3598 c1_i32_1571
  let c1000_i32_1572 : BitVec 32 := 1000#32
  let v3600 : BitVec 32 := Scalar.minsi v3599 c1000_i32_1572
  let v3601 : Index := Scalar.indexCast v3600
  ![v3601.toNat]
def k0_off11 (v3602 : BitVec 32) : Fin 2 → Nat :=
  let c1_i32_1573 : BitVec 32 := 1#32
  let v3603 : BitVec 32 := Scalar.subi v3602 c1_i32_1573
  let c0_i32_1574 : BitVec 32 := 0#32
  let v3604 : BitVec 32 := Scalar.maxsi v3603 c0_i32_1574
  let c2_i32_1575 : BitVec 32 := 2#32
  let v3605 : BitVec 32 := Scalar.shrsi v3604 c2_i32_1575
  let c5_i32_1576 : BitVec 32 := 5#32
  let v3606 : BitVec 32 := Scalar.shrsi v3605 c5_i32_1576
  let c4_i32_1577 : BitVec 32 := 4#32
  let v3607 : BitVec 32 := Scalar.muli v3606 c4_i32_1577
  let v3608 : Index := Scalar.indexCast v3607
  let c0_1578 : Index := 0#32
  ![v3608.toNat, 0]

def k0_chk4 (v3602 : BitVec 32) : Prop :=
  (∀ a, (k0_off11 v3602) a + S4x128.size a ≤ S5632x128.size a)
theorem k0_off11_inb : ∀ (v3602 : BitVec 32) (k0_hw4 : k0_chk4 v3602), ∀ a, (k0_off11 v3602) a + S4x128.size a ≤ S5632x128.size a := fun v3602 k0_hw4 => k0_hw4

def k0_off12 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1581 : BitVec 32 := 4#32
  let v3616 : BitVec 32 := Scalar.muli arg17 c4_i32_1581
  let v3617 : Index := Scalar.indexCast v3616
  let c12_1582 : Index := 12#32
  ![v3617.toNat, 12]
def k0_off13 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c512_i32 : BitVec 32 := 512#32
  let v3621 : BitVec 32 := Scalar.addi arg17 c512_i32
  let c1_i32_1583 : BitVec 32 := 1#32
  let v3622 : BitVec 32 := Scalar.addi v3621 c1_i32_1583
  let c1000_i32_1584 : BitVec 32 := 1000#32
  let v3623 : BitVec 32 := Scalar.minsi v3622 c1000_i32_1584
  let v3624 : Index := Scalar.indexCast v3623
  ![v3624.toNat]
def k0_off14 (v3625 : BitVec 32) : Fin 2 → Nat :=
  let c1_i32_1585 : BitVec 32 := 1#32
  let v3626 : BitVec 32 := Scalar.subi v3625 c1_i32_1585
  let c0_i32_1586 : BitVec 32 := 0#32
  let v3627 : BitVec 32 := Scalar.maxsi v3626 c0_i32_1586
  let c2_i32_1587 : BitVec 32 := 2#32
  let v3628 : BitVec 32 := Scalar.shrsi v3627 c2_i32_1587
  let c5_i32_1588 : BitVec 32 := 5#32
  let v3629 : BitVec 32 := Scalar.shrsi v3628 c5_i32_1588
  let c4_i32_1589 : BitVec 32 := 4#32
  let v3630 : BitVec 32 := Scalar.muli v3629 c4_i32_1589
  let v3631 : Index := Scalar.indexCast v3630
  let c0_1590 : Index := 0#32
  ![v3631.toNat, 0]

def k0_chk5 (v3625 : BitVec 32) : Prop :=
  (∀ a, (k0_off14 v3625) a + S4x128.size a ≤ S5632x128.size a)
theorem k0_off14_inb : ∀ (v3625 : BitVec 32) (k0_hw5 : k0_chk5 v3625), ∀ a, (k0_off14 v3625) a + S4x128.size a ≤ S5632x128.size a := fun v3625 k0_hw5 => k0_hw5

def k0_off15 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1594 : BitVec 32 := 4#32
  let v3639 : BitVec 32 := Scalar.muli arg17 c4_i32_1594
  let v3640 : Index := Scalar.indexCast v3639
  let c16_1595 : Index := 16#32
  ![v3640.toNat, 16]
def k0_off16 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c640_i32 : BitVec 32 := 640#32
  let v3644 : BitVec 32 := Scalar.addi arg17 c640_i32
  let c1_i32_1596 : BitVec 32 := 1#32
  let v3645 : BitVec 32 := Scalar.addi v3644 c1_i32_1596
  let c1000_i32_1597 : BitVec 32 := 1000#32
  let v3646 : BitVec 32 := Scalar.minsi v3645 c1000_i32_1597
  let v3647 : Index := Scalar.indexCast v3646
  ![v3647.toNat]
def k0_off17 (v3648 : BitVec 32) : Fin 2 → Nat :=
  let c1_i32_1598 : BitVec 32 := 1#32
  let v3649 : BitVec 32 := Scalar.subi v3648 c1_i32_1598
  let c0_i32_1599 : BitVec 32 := 0#32
  let v3650 : BitVec 32 := Scalar.maxsi v3649 c0_i32_1599
  let c2_i32_1600 : BitVec 32 := 2#32
  let v3651 : BitVec 32 := Scalar.shrsi v3650 c2_i32_1600
  let c5_i32_1601 : BitVec 32 := 5#32
  let v3652 : BitVec 32 := Scalar.shrsi v3651 c5_i32_1601
  let c4_i32_1602 : BitVec 32 := 4#32
  let v3653 : BitVec 32 := Scalar.muli v3652 c4_i32_1602
  let v3654 : Index := Scalar.indexCast v3653
  let c0_1603 : Index := 0#32
  ![v3654.toNat, 0]

def k0_chk6 (v3648 : BitVec 32) : Prop :=
  (∀ a, (k0_off17 v3648) a + S4x128.size a ≤ S5632x128.size a)
theorem k0_off17_inb : ∀ (v3648 : BitVec 32) (k0_hw6 : k0_chk6 v3648), ∀ a, (k0_off17 v3648) a + S4x128.size a ≤ S5632x128.size a := fun v3648 k0_hw6 => k0_hw6

def k0_off18 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1606 : BitVec 32 := 4#32
  let v3662 : BitVec 32 := Scalar.muli arg17 c4_i32_1606
  let v3663 : Index := Scalar.indexCast v3662
  let c20_1607 : Index := 20#32
  ![v3663.toNat, 20]
def k0_off19 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c768_i32 : BitVec 32 := 768#32
  let v3667 : BitVec 32 := Scalar.addi arg17 c768_i32
  let c1_i32_1608 : BitVec 32 := 1#32
  let v3668 : BitVec 32 := Scalar.addi v3667 c1_i32_1608
  let c1000_i32_1609 : BitVec 32 := 1000#32
  let v3669 : BitVec 32 := Scalar.minsi v3668 c1000_i32_1609
  let v3670 : Index := Scalar.indexCast v3669
  ![v3670.toNat]
def k0_off20 (v3671 : BitVec 32) : Fin 2 → Nat :=
  let c1_i32_1610 : BitVec 32 := 1#32
  let v3672 : BitVec 32 := Scalar.subi v3671 c1_i32_1610
  let c0_i32_1611 : BitVec 32 := 0#32
  let v3673 : BitVec 32 := Scalar.maxsi v3672 c0_i32_1611
  let c2_i32_1612 : BitVec 32 := 2#32
  let v3674 : BitVec 32 := Scalar.shrsi v3673 c2_i32_1612
  let c5_i32_1613 : BitVec 32 := 5#32
  let v3675 : BitVec 32 := Scalar.shrsi v3674 c5_i32_1613
  let c4_i32_1614 : BitVec 32 := 4#32
  let v3676 : BitVec 32 := Scalar.muli v3675 c4_i32_1614
  let v3677 : Index := Scalar.indexCast v3676
  let c0_1615 : Index := 0#32
  ![v3677.toNat, 0]

def k0_chk7 (v3671 : BitVec 32) : Prop :=
  (∀ a, (k0_off20 v3671) a + S4x128.size a ≤ S5632x128.size a)
theorem k0_off20_inb : ∀ (v3671 : BitVec 32) (k0_hw7 : k0_chk7 v3671), ∀ a, (k0_off20 v3671) a + S4x128.size a ≤ S5632x128.size a := fun v3671 k0_hw7 => k0_hw7

def k0_off21 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1618 : BitVec 32 := 4#32
  let v3685 : BitVec 32 := Scalar.muli arg17 c4_i32_1618
  let v3686 : Index := Scalar.indexCast v3685
  let c24_1619 : Index := 24#32
  ![v3686.toNat, 24]
def k0_off22 (k0_t1 : Fin k0_t1_loop.trips) : Fin 1 → Nat :=
  let c0_i32 : BitVec 32 := 0#32
  let c1_i32_26 : BitVec 32 := 1#32
  let arg17 : BitVec 32 := Scf.iv c0_i32 c1_i32_26 k0_t1
  let c896_i32 : BitVec 32 := 896#32
  let v3690 : BitVec 32 := Scalar.addi arg17 c896_i32
  let c1_i32_1620 : BitVec 32 := 1#32
  let v3691 : BitVec 32 := Scalar.addi v3690 c1_i32_1620
  let c1000_i32_1621 : BitVec 32 := 1000#32
  let v3692 : BitVec 32 := Scalar.minsi v3691 c1000_i32_1621
  let v3693 : Index := Scalar.indexCast v3692
  ![v3693.toNat]
def k0_off23 (v3694 : BitVec 32) : Fin 2 → Nat :=
  let c1_i32_1622 : BitVec 32 := 1#32
  let v3695 : BitVec 32 := Scalar.subi v3694 c1_i32_1622
  let c0_i32_1623 : BitVec 32 := 0#32
  let v3696 : BitVec 32 := Scalar.maxsi v3695 c0_i32_1623
  let c2_i32_1624 : BitVec 32 := 2#32
  let v3697 : BitVec 32 := Scalar.shrsi v3696 c2_i32_1624
  let c5_i32_1625 : BitVec 32 := 5#32
  let v3698 : BitVec 32 := Scalar.shrsi v3697 c5_i32_1625
  let c4_i32_1626 : BitVec 32 := 4#32
  let v3699 : BitVec 32 := Scalar.muli v3698 c4_i32_1626
  let v3700 : Index := Scalar.indexCast v3699
  let c0_1627 : Index := 0#32
  ![v3700.toNat, 0]

def k0_chk8 (v3694 : BitVec 32) : Prop :=
  (∀ a, (k0_off23 v3694) a + S4x128.size a ≤ S5632x128.size a)
theorem k0_off23_inb : ∀ (v3694 : BitVec 32) (k0_hw8 : k0_chk8 v3694), ∀ a, (k0_off23 v3694) a + S4x128.size a ≤ S5632x128.size a := fun v3694 k0_hw8 => k0_hw8

def k0_off24 (k0_t1 : Fin k0_t1_loop.trips) : Fin 2 → Nat :=
  let c0_i32 : BitVec 32 := 0#32
  let c1_i32_26 : BitVec 32 := 1#32
  let arg17 : BitVec 32 := Scf.iv c0_i32 c1_i32_26 k0_t1
  let c4_i32_1630 : BitVec 32 := 4#32
  let v3708 : BitVec 32 := Scalar.muli arg17 c4_i32_1630
  let v3709 : Index := Scalar.indexCast v3708
  let c28_1631 : Index := 28#32
  ![v3709.toNat, 28]
@[reducible] def k0_t2_loop : Scf.Loop 32 :=
  let c0_i32_31 : BitVec 32 := 0#32
  let c11_i32 : BitVec 32 := 11#32
  let v93 : BitVec 32 := Scalar.addi c0_i32_31 c11_i32
  let c1_i32_32 : BitVec 32 := 1#32
  ⟨c0_i32_31, v93, c1_i32_32⟩
def k0_off25 (k0_t2 : Fin k0_t2_loop.trips) (c0_i32_1533 : BitVec 32) : Fin 2 → Nat :=
  let c0_i32_31 : BitVec 32 := 0#32
  let c1_i32_32 : BitVec 32 := 1#32
  let arg17 : BitVec 32 := Scf.iv c0_i32_31 c1_i32_32 k0_t2
  let c4_i32_1532 : BitVec 32 := 4#32
  let v3529 : BitVec 32 := Scalar.muli arg17 c4_i32_1532
  let v3530 : BitVec 32 := Scalar.addi v3529 c0_i32_1533
  let v3531 : Index := Scalar.indexCast v3530
  let c0_1534 : Index := 0#32
  ![v3531.toNat, 0]
def k0_off26 (k0_t2 : Fin k0_t2_loop.trips) (c0_i32_1557 : BitVec 32) : Fin 2 → Nat :=
  let c0_i32_31 : BitVec 32 := 0#32
  let c1_i32_32 : BitVec 32 := 1#32
  let arg17 : BitVec 32 := Scf.iv c0_i32_31 c1_i32_32 k0_t2
  let c32_i32_1556 : BitVec 32 := 32#32
  let v3565 : BitVec 32 := Scalar.muli arg17 c32_i32_1556
  let v3566 : BitVec 32 := Scalar.addi v3565 c0_i32_1557
  let v3567 : Index := Scalar.indexCast v3566
  let c0_1558 : Index := 0#32
  ![v3567.toNat, 0]
def k0_off27 (k0_t2 : Fin k0_t2_loop.trips) (c0_i32_1702 : BitVec 32) : Fin 2 → Nat :=
  let c0_i32_31 : BitVec 32 := 0#32
  let c1_i32_32 : BitVec 32 := 1#32
  let arg17 : BitVec 32 := Scf.iv c0_i32_31 c1_i32_32 k0_t2
  let c32_i32_1701 : BitVec 32 := 32#32
  let v3883 : BitVec 32 := Scalar.muli arg17 c32_i32_1701
  let v3884 : BitVec 32 := Scalar.addi v3883 c0_i32_1702
  let c128_i32_1703 : BitVec 32 := 128#32
  let v3885 : BitVec 32 := Scalar.muli v3884 c128_i32_1703
  let v3888 : Index := Scalar.indexCast v3885
  let c0_1704 : Index := 0#32
  ![v3888.toNat, 0]
def k0_off28 (k0_t2 : Fin k0_t2_loop.trips) (c0_i32_1702 : BitVec 32) : Fin 2 → Nat :=
  let c0_i32_31 : BitVec 32 := 0#32
  let c1_i32_32 : BitVec 32 := 1#32
  let arg17 : BitVec 32 := Scf.iv c0_i32_31 c1_i32_32 k0_t2
  let c32_i32_1701 : BitVec 32 := 32#32
  let v3883 : BitVec 32 := Scalar.muli arg17 c32_i32_1701
  let v3884 : BitVec 32 := Scalar.addi v3883 c0_i32_1702
  let c128_i32_1703 : BitVec 32 := 128#32
  let v3885 : BitVec 32 := Scalar.muli v3884 c128_i32_1703
  let v3894 : Index := Scalar.indexCast v3885
  let c0_1705 : Index := 0#32
  ![v3894.toNat, 0]
@[reducible] def k0_t3_loop : Scf.Loop 32 :=
  let c0_i32_90 : BitVec 32 := 0#32
  let c128_i32_91 : BitVec 32 := 128#32
  let v232 : BitVec 32 := Scalar.addi c0_i32_90 c128_i32_91
  let c1_i32_92 : BitVec 32 := 1#32
  ⟨c0_i32_90, v232, c1_i32_92⟩
def k0_off29 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1532 : BitVec 32 := 8#32
  let v3529 : BitVec 32 := Scalar.muli arg17 c8_i32_1532
  let c0_i32_1533 : BitVec 32 := 0#32
  let v3530 : BitVec 32 := Scalar.addi v3529 c0_i32_1533
  let c1000_i32 : BitVec 32 := 1000#32
  let v3531 : BitVec 32 := Scalar.minsi v3530 c1000_i32
  let v3532 : Index := Scalar.indexCast v3531
  ![v3532.toNat]
def k0_off30 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1532 : BitVec 32 := 8#32
  let v3529 : BitVec 32 := Scalar.muli arg17 c8_i32_1532
  let c0_i32_1533 : BitVec 32 := 0#32
  let v3530 : BitVec 32 := Scalar.addi v3529 c0_i32_1533
  let c1_i32_1534 : BitVec 32 := 1#32
  let v3534 : BitVec 32 := Scalar.addi v3530 c1_i32_1534
  let c1000_i32_1535 : BitVec 32 := 1000#32
  let v3535 : BitVec 32 := Scalar.minsi v3534 c1000_i32_1535
  let v3536 : Index := Scalar.indexCast v3535
  ![v3536.toNat]
def k0_off31 (v3533 : BitVec 32) (v3537 : BitVec 32) : Fin 2 → Nat :=
  let c1_i32_1537 : BitVec 32 := 1#32
  let v3539 : BitVec 32 := Scalar.subi v3537 c1_i32_1537
  let c0_i32_1538 : BitVec 32 := 0#32
  let v3540 : BitVec 32 := Scalar.maxsi v3539 c0_i32_1538
  let c2_i32_1539 : BitVec 32 := 2#32
  let v3541 : BitVec 32 := Scalar.shrsi v3540 c2_i32_1539
  let c1_i32_1540 : BitVec 32 := 1#32
  let v3542 : BitVec 32 := Scalar.subi v3541 c1_i32_1540
  let c2_i32_1536 : BitVec 32 := 2#32
  let v3538 : BitVec 32 := Scalar.shrsi v3533 c2_i32_1536
  let v3550 : BitVec 1 := Scalar.cmpi .sge v3542 v3538
  let v3551 : BitVec 1 := Scalar.cmpi .sgt v3537 v3533
  let v3552 : BitVec 1 := Scalar.andi v3550 v3551
  let c0_i32_1544 : BitVec 32 := 0#32
  let v3546 : BitVec 32 := Scalar.maxsi v3542 c0_i32_1544
  let c5_i32_1545 : BitVec 32 := 5#32
  let v3547 : BitVec 32 := Scalar.shrsi v3546 c5_i32_1545
  let c5958_i32_1546 : BitVec 32 := 5958#32
  let v3548 : BitVec 32 := Scalar.muli v3547 c5958_i32_1546
  let c16_i32_1547 : BitVec 32 := 16#32
  let v3549 : BitVec 32 := Scalar.shrsi v3548 c16_i32_1547
  let c352_i32_1548 : BitVec 32 := 352#32
  let v3553 : BitVec 32 := Scalar.muli v3549 c352_i32_1548
  let v3554 : BitVec 32 := Scalar.subi v3542 v3553
  let c128_i32_1549 : BitVec 32 := 128#32
  let v3555 : BitVec 32 := Scalar.muli v3554 c128_i32_1549
  let v3556 : BitVec 32 := Scalar.addi v3555 v3549
  let c45056_i32 : BitVec 32 := 45056#32
  let v3557 : BitVec 32 := Scalar.select v3552 v3556 c45056_i32
  let v3562 : Index := Scalar.indexCast v3557
  let c0_1552 : Index := 0#32
  ![v3562.toNat, 0]

def k0_off32 (v3533 : BitVec 32) (v3537 : BitVec 32) : Fin 2 → Nat :=
  let c1_i32_1537 : BitVec 32 := 1#32
  let v3539 : BitVec 32 := Scalar.subi v3537 c1_i32_1537
  let c0_i32_1538 : BitVec 32 := 0#32
  let v3540 : BitVec 32 := Scalar.maxsi v3539 c0_i32_1538
  let c2_i32_1539 : BitVec 32 := 2#32
  let v3541 : BitVec 32 := Scalar.shrsi v3540 c2_i32_1539
  let c1_i32_1540 : BitVec 32 := 1#32
  let v3542 : BitVec 32 := Scalar.subi v3541 c1_i32_1540
  let c2_i32_1536 : BitVec 32 := 2#32
  let v3538 : BitVec 32 := Scalar.shrsi v3533 c2_i32_1536
  let v3550 : BitVec 1 := Scalar.cmpi .sge v3542 v3538
  let v3551 : BitVec 1 := Scalar.cmpi .sgt v3537 v3533
  let v3552 : BitVec 1 := Scalar.andi v3550 v3551
  let c0_i32_1544 : BitVec 32 := 0#32
  let v3546 : BitVec 32 := Scalar.maxsi v3542 c0_i32_1544
  let c5_i32_1545 : BitVec 32 := 5#32
  let v3547 : BitVec 32 := Scalar.shrsi v3546 c5_i32_1545
  let c5958_i32_1546 : BitVec 32 := 5958#32
  let v3548 : BitVec 32 := Scalar.muli v3547 c5958_i32_1546
  let c16_i32_1547 : BitVec 32 := 16#32
  let v3549 : BitVec 32 := Scalar.shrsi v3548 c16_i32_1547
  let c5_i32_1541 : BitVec 32 := 5#32
  let v3543 : BitVec 32 := Scalar.shrsi v3538 c5_i32_1541
  let c5958_i32_1542 : BitVec 32 := 5958#32
  let v3544 : BitVec 32 := Scalar.muli v3543 c5958_i32_1542
  let c16_i32_1543 : BitVec 32 := 16#32
  let v3545 : BitVec 32 := Scalar.shrsi v3544 c16_i32_1543
  let v3558 : BitVec 1 := Scalar.cmpi .sgt v3549 v3545
  let v3559 : BitVec 1 := Scalar.andi v3552 v3558
  let c1_i32_1550 : BitVec 32 := 1#32
  let v3560 : BitVec 32 := Scalar.subi v3549 c1_i32_1550
  let c128_i32_1551 : BitVec 32 := 128#32
  let v3561 : BitVec 32 := Scalar.select v3559 v3560 c128_i32_1551
  let v3564 : Index := Scalar.indexCast v3561
  let c0_1553 : Index := 0#32
  ![v3564.toNat, 0]
def k0_off33 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1532 : BitVec 32 := 8#32
  let v3529 : BitVec 32 := Scalar.muli arg17 c8_i32_1532
  let c0_i32_1533 : BitVec 32 := 0#32
  let v3530 : BitVec 32 := Scalar.addi v3529 c0_i32_1533
  let v3567 : Index := Scalar.indexCast v3530
  let c0_1554 : Index := 0#32
  ![v3567.toNat, 0]
def k0_off34 (v3533 : BitVec 32) (v3537 : BitVec 32) : Fin 2 → Nat :=
  let c1_i32_1537 : BitVec 32 := 1#32
  let v3539 : BitVec 32 := Scalar.subi v3537 c1_i32_1537
  let c0_i32_1538 : BitVec 32 := 0#32
  let v3540 : BitVec 32 := Scalar.maxsi v3539 c0_i32_1538
  let c2_i32_1539 : BitVec 32 := 2#32
  let v3541 : BitVec 32 := Scalar.shrsi v3540 c2_i32_1539
  let c1_i32_1540 : BitVec 32 := 1#32
  let v3542 : BitVec 32 := Scalar.subi v3541 c1_i32_1540
  let c2_i32_1536 : BitVec 32 := 2#32
  let v3538 : BitVec 32 := Scalar.shrsi v3533 c2_i32_1536
  let v3550 : BitVec 1 := Scalar.cmpi .sge v3542 v3538
  let v3551 : BitVec 1 := Scalar.cmpi .sgt v3537 v3533
  let v3552 : BitVec 1 := Scalar.andi v3550 v3551
  let c0_i32_1544 : BitVec 32 := 0#32
  let v3546 : BitVec 32 := Scalar.maxsi v3542 c0_i32_1544
  let c5_i32_1545 : BitVec 32 := 5#32
  let v3547 : BitVec 32 := Scalar.shrsi v3546 c5_i32_1545
  let c5958_i32_1546 : BitVec 32 := 5958#32
  let v3548 : BitVec 32 := Scalar.muli v3547 c5958_i32_1546
  let c16_i32_1547 : BitVec 32 := 16#32
  let v3549 : BitVec 32 := Scalar.shrsi v3548 c16_i32_1547
  let c352_i32_1548 : BitVec 32 := 352#32
  let v3553 : BitVec 32 := Scalar.muli v3549 c352_i32_1548
  let v3554 : BitVec 32 := Scalar.subi v3542 v3553
  let c128_i32_1549 : BitVec 32 := 128#32
  let v3555 : BitVec 32 := Scalar.muli v3554 c128_i32_1549
  let v3556 : BitVec 32 := Scalar.addi v3555 v3549
  let c45056_i32 : BitVec 32 := 45056#32
  let v3557 : BitVec 32 := Scalar.select v3552 v3556 c45056_i32
  let v3571 : Index := Scalar.indexCast v3557
  let c0_1555 : Index := 0#32
  ![v3571.toNat, 0]
def k0_off35 (v3533 : BitVec 32) (v3537 : BitVec 32) : Fin 2 → Nat :=
  let c1_i32_1537 : BitVec 32 := 1#32
  let v3539 : BitVec 32 := Scalar.subi v3537 c1_i32_1537
  let c0_i32_1538 : BitVec 32 := 0#32
  let v3540 : BitVec 32 := Scalar.maxsi v3539 c0_i32_1538
  let c2_i32_1539 : BitVec 32 := 2#32
  let v3541 : BitVec 32 := Scalar.shrsi v3540 c2_i32_1539
  let c1_i32_1540 : BitVec 32 := 1#32
  let v3542 : BitVec 32 := Scalar.subi v3541 c1_i32_1540
  let c2_i32_1536 : BitVec 32 := 2#32
  let v3538 : BitVec 32 := Scalar.shrsi v3533 c2_i32_1536
  let v3550 : BitVec 1 := Scalar.cmpi .sge v3542 v3538
  let v3551 : BitVec 1 := Scalar.cmpi .sgt v3537 v3533
  let v3552 : BitVec 1 := Scalar.andi v3550 v3551
  let c0_i32_1544 : BitVec 32 := 0#32
  let v3546 : BitVec 32 := Scalar.maxsi v3542 c0_i32_1544
  let c5_i32_1545 : BitVec 32 := 5#32
  let v3547 : BitVec 32 := Scalar.shrsi v3546 c5_i32_1545
  let c5958_i32_1546 : BitVec 32 := 5958#32
  let v3548 : BitVec 32 := Scalar.muli v3547 c5958_i32_1546
  let c16_i32_1547 : BitVec 32 := 16#32
  let v3549 : BitVec 32 := Scalar.shrsi v3548 c16_i32_1547
  let c5_i32_1541 : BitVec 32 := 5#32
  let v3543 : BitVec 32 := Scalar.shrsi v3538 c5_i32_1541
  let c5958_i32_1542 : BitVec 32 := 5958#32
  let v3544 : BitVec 32 := Scalar.muli v3543 c5958_i32_1542
  let c16_i32_1543 : BitVec 32 := 16#32
  let v3545 : BitVec 32 := Scalar.shrsi v3544 c16_i32_1543
  let v3558 : BitVec 1 := Scalar.cmpi .sgt v3549 v3545
  let v3559 : BitVec 1 := Scalar.andi v3552 v3558
  let c1_i32_1550 : BitVec 32 := 1#32
  let v3560 : BitVec 32 := Scalar.subi v3549 c1_i32_1550
  let c128_i32_1551 : BitVec 32 := 128#32
  let v3561 : BitVec 32 := Scalar.select v3559 v3560 c128_i32_1551
  let v3573 : Index := Scalar.indexCast v3561
  let c0_1556 : Index := 0#32
  ![v3573.toNat, 0]

def k0_chk9 (v3533 : BitVec 32) (v3537 : BitVec 32) : Prop :=
  (∀ a, (k0_off31 v3533 v3537) a + S1x128.size a ≤ S45064x128.size a) ∧
  (∀ a, (k0_off32 v3533 v3537) a + S1x128.size a ≤ S136x128.size a) ∧
  (∀ a, (k0_off34 v3533 v3537) a + S1x96.size a ≤ S45064x96.size a) ∧
  (∀ a, (k0_off35 v3533 v3537) a + S1x96.size a ≤ S136x128.size a)
theorem k0_off31_inb : ∀ (v3533 : BitVec 32) (v3537 : BitVec 32) (k0_hw9 : k0_chk9 v3533 v3537), ∀ a, (k0_off31 v3533 v3537) a + S1x128.size a ≤ S45064x128.size a := fun v3533 v3537 k0_hw9 => k0_hw9.1
theorem k0_off32_inb : ∀ (v3533 : BitVec 32) (v3537 : BitVec 32) (k0_hw9 : k0_chk9 v3533 v3537), ∀ a, (k0_off32 v3533 v3537) a + S1x128.size a ≤ S136x128.size a := fun v3533 v3537 k0_hw9 => k0_hw9.2.1
theorem k0_off34_inb : ∀ (v3533 : BitVec 32) (v3537 : BitVec 32) (k0_hw9 : k0_chk9 v3533 v3537), ∀ a, (k0_off34 v3533 v3537) a + S1x96.size a ≤ S45064x96.size a := fun v3533 v3537 k0_hw9 => k0_hw9.2.2.1
theorem k0_off35_inb : ∀ (v3533 : BitVec 32) (v3537 : BitVec 32) (k0_hw9 : k0_chk9 v3533 v3537), ∀ a, (k0_off35 v3533 v3537) a + S1x96.size a ≤ S136x128.size a := fun v3533 v3537 k0_hw9 => k0_hw9.2.2.2

def k0_off36 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1532 : BitVec 32 := 8#32
  let v3529 : BitVec 32 := Scalar.muli arg17 c8_i32_1532
  let c0_i32_1533 : BitVec 32 := 0#32
  let v3530 : BitVec 32 := Scalar.addi v3529 c0_i32_1533
  let v3576 : Index := Scalar.indexCast v3530
  let c0_1557 : Index := 0#32
  ![v3576.toNat, 0]
def k0_off37 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1558 : BitVec 32 := 8#32
  let v3580 : BitVec 32 := Scalar.muli arg17 c8_i32_1558
  let c1_i32_1559 : BitVec 32 := 1#32
  let v3581 : BitVec 32 := Scalar.addi v3580 c1_i32_1559
  let c1000_i32_1560 : BitVec 32 := 1000#32
  let v3582 : BitVec 32 := Scalar.minsi v3581 c1000_i32_1560
  let v3583 : Index := Scalar.indexCast v3582
  ![v3583.toNat]
def k0_off38 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1558 : BitVec 32 := 8#32
  let v3580 : BitVec 32 := Scalar.muli arg17 c8_i32_1558
  let c1_i32_1559 : BitVec 32 := 1#32
  let v3581 : BitVec 32 := Scalar.addi v3580 c1_i32_1559
  let c1_i32_1561 : BitVec 32 := 1#32
  let v3585 : BitVec 32 := Scalar.addi v3581 c1_i32_1561
  let c1000_i32_1562 : BitVec 32 := 1000#32
  let v3586 : BitVec 32 := Scalar.minsi v3585 c1000_i32_1562
  let v3587 : Index := Scalar.indexCast v3586
  ![v3587.toNat]
def k0_off39 (v3584 : BitVec 32) (v3588 : BitVec 32) : Fin 2 → Nat :=
  let c1_i32_1564 : BitVec 32 := 1#32
  let v3590 : BitVec 32 := Scalar.subi v3588 c1_i32_1564
  let c0_i32_1565 : BitVec 32 := 0#32
  let v3591 : BitVec 32 := Scalar.maxsi v3590 c0_i32_1565
  let c2_i32_1566 : BitVec 32 := 2#32
  let v3592 : BitVec 32 := Scalar.shrsi v3591 c2_i32_1566
  let c1_i32_1567 : BitVec 32 := 1#32
  let v3593 : BitVec 32 := Scalar.subi v3592 c1_i32_1567
  let c2_i32_1563 : BitVec 32 := 2#32
  let v3589 : BitVec 32 := Scalar.shrsi v3584 c2_i32_1563
  let v3601 : BitVec 1 := Scalar.cmpi .sge v3593 v3589
  let v3602 : BitVec 1 := Scalar.cmpi .sgt v3588 v3584
  let v3603 : BitVec 1 := Scalar.andi v3601 v3602
  let c0_i32_1571 : BitVec 32 := 0#32
  let v3597 : BitVec 32 := Scalar.maxsi v3593 c0_i32_1571
  let c5_i32_1572 : BitVec 32 := 5#32
  let v3598 : BitVec 32 := Scalar.shrsi v3597 c5_i32_1572
  let c5958_i32_1573 : BitVec 32 := 5958#32
  let v3599 : BitVec 32 := Scalar.muli v3598 c5958_i32_1573
  let c16_i32_1574 : BitVec 32 := 16#32
  let v3600 : BitVec 32 := Scalar.shrsi v3599 c16_i32_1574
  let c352_i32_1575 : BitVec 32 := 352#32
  let v3604 : BitVec 32 := Scalar.muli v3600 c352_i32_1575
  let v3605 : BitVec 32 := Scalar.subi v3593 v3604
  let c128_i32_1576 : BitVec 32 := 128#32
  let v3606 : BitVec 32 := Scalar.muli v3605 c128_i32_1576
  let v3607 : BitVec 32 := Scalar.addi v3606 v3600
  let c45056_i32_1577 : BitVec 32 := 45056#32
  let v3608 : BitVec 32 := Scalar.select v3603 v3607 c45056_i32_1577
  let v3613 : Index := Scalar.indexCast v3608
  let c0_1580 : Index := 0#32
  ![v3613.toNat, 0]

def k0_off40 (v3584 : BitVec 32) (v3588 : BitVec 32) : Fin 2 → Nat :=
  let c1_i32_1564 : BitVec 32 := 1#32
  let v3590 : BitVec 32 := Scalar.subi v3588 c1_i32_1564
  let c0_i32_1565 : BitVec 32 := 0#32
  let v3591 : BitVec 32 := Scalar.maxsi v3590 c0_i32_1565
  let c2_i32_1566 : BitVec 32 := 2#32
  let v3592 : BitVec 32 := Scalar.shrsi v3591 c2_i32_1566
  let c1_i32_1567 : BitVec 32 := 1#32
  let v3593 : BitVec 32 := Scalar.subi v3592 c1_i32_1567
  let c2_i32_1563 : BitVec 32 := 2#32
  let v3589 : BitVec 32 := Scalar.shrsi v3584 c2_i32_1563
  let v3601 : BitVec 1 := Scalar.cmpi .sge v3593 v3589
  let v3602 : BitVec 1 := Scalar.cmpi .sgt v3588 v3584
  let v3603 : BitVec 1 := Scalar.andi v3601 v3602
  let c0_i32_1571 : BitVec 32 := 0#32
  let v3597 : BitVec 32 := Scalar.maxsi v3593 c0_i32_1571
  let c5_i32_1572 : BitVec 32 := 5#32
  let v3598 : BitVec 32 := Scalar.shrsi v3597 c5_i32_1572
  let c5958_i32_1573 : BitVec 32 := 5958#32
  let v3599 : BitVec 32 := Scalar.muli v3598 c5958_i32_1573
  let c16_i32_1574 : BitVec 32 := 16#32
  let v3600 : BitVec 32 := Scalar.shrsi v3599 c16_i32_1574
  let c5_i32_1568 : BitVec 32 := 5#32
  let v3594 : BitVec 32 := Scalar.shrsi v3589 c5_i32_1568
  let c5958_i32_1569 : BitVec 32 := 5958#32
  let v3595 : BitVec 32 := Scalar.muli v3594 c5958_i32_1569
  let c16_i32_1570 : BitVec 32 := 16#32
  let v3596 : BitVec 32 := Scalar.shrsi v3595 c16_i32_1570
  let v3609 : BitVec 1 := Scalar.cmpi .sgt v3600 v3596
  let v3610 : BitVec 1 := Scalar.andi v3603 v3609
  let c1_i32_1578 : BitVec 32 := 1#32
  let v3611 : BitVec 32 := Scalar.subi v3600 c1_i32_1578
  let c128_i32_1579 : BitVec 32 := 128#32
  let v3612 : BitVec 32 := Scalar.select v3610 v3611 c128_i32_1579
  let v3615 : Index := Scalar.indexCast v3612
  let c0_1581 : Index := 0#32
  ![v3615.toNat, 0]
def k0_off41 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1558 : BitVec 32 := 8#32
  let v3580 : BitVec 32 := Scalar.muli arg17 c8_i32_1558
  let c1_i32_1559 : BitVec 32 := 1#32
  let v3581 : BitVec 32 := Scalar.addi v3580 c1_i32_1559
  let v3618 : Index := Scalar.indexCast v3581
  let c0_1582 : Index := 0#32
  ![v3618.toNat, 0]
def k0_off42 (v3584 : BitVec 32) (v3588 : BitVec 32) : Fin 2 → Nat :=
  let c1_i32_1564 : BitVec 32 := 1#32
  let v3590 : BitVec 32 := Scalar.subi v3588 c1_i32_1564
  let c0_i32_1565 : BitVec 32 := 0#32
  let v3591 : BitVec 32 := Scalar.maxsi v3590 c0_i32_1565
  let c2_i32_1566 : BitVec 32 := 2#32
  let v3592 : BitVec 32 := Scalar.shrsi v3591 c2_i32_1566
  let c1_i32_1567 : BitVec 32 := 1#32
  let v3593 : BitVec 32 := Scalar.subi v3592 c1_i32_1567
  let c2_i32_1563 : BitVec 32 := 2#32
  let v3589 : BitVec 32 := Scalar.shrsi v3584 c2_i32_1563
  let v3601 : BitVec 1 := Scalar.cmpi .sge v3593 v3589
  let v3602 : BitVec 1 := Scalar.cmpi .sgt v3588 v3584
  let v3603 : BitVec 1 := Scalar.andi v3601 v3602
  let c0_i32_1571 : BitVec 32 := 0#32
  let v3597 : BitVec 32 := Scalar.maxsi v3593 c0_i32_1571
  let c5_i32_1572 : BitVec 32 := 5#32
  let v3598 : BitVec 32 := Scalar.shrsi v3597 c5_i32_1572
  let c5958_i32_1573 : BitVec 32 := 5958#32
  let v3599 : BitVec 32 := Scalar.muli v3598 c5958_i32_1573
  let c16_i32_1574 : BitVec 32 := 16#32
  let v3600 : BitVec 32 := Scalar.shrsi v3599 c16_i32_1574
  let c352_i32_1575 : BitVec 32 := 352#32
  let v3604 : BitVec 32 := Scalar.muli v3600 c352_i32_1575
  let v3605 : BitVec 32 := Scalar.subi v3593 v3604
  let c128_i32_1576 : BitVec 32 := 128#32
  let v3606 : BitVec 32 := Scalar.muli v3605 c128_i32_1576
  let v3607 : BitVec 32 := Scalar.addi v3606 v3600
  let c45056_i32_1577 : BitVec 32 := 45056#32
  let v3608 : BitVec 32 := Scalar.select v3603 v3607 c45056_i32_1577
  let v3622 : Index := Scalar.indexCast v3608
  let c0_1583 : Index := 0#32
  ![v3622.toNat, 0]
def k0_off43 (v3584 : BitVec 32) (v3588 : BitVec 32) : Fin 2 → Nat :=
  let c1_i32_1564 : BitVec 32 := 1#32
  let v3590 : BitVec 32 := Scalar.subi v3588 c1_i32_1564
  let c0_i32_1565 : BitVec 32 := 0#32
  let v3591 : BitVec 32 := Scalar.maxsi v3590 c0_i32_1565
  let c2_i32_1566 : BitVec 32 := 2#32
  let v3592 : BitVec 32 := Scalar.shrsi v3591 c2_i32_1566
  let c1_i32_1567 : BitVec 32 := 1#32
  let v3593 : BitVec 32 := Scalar.subi v3592 c1_i32_1567
  let c2_i32_1563 : BitVec 32 := 2#32
  let v3589 : BitVec 32 := Scalar.shrsi v3584 c2_i32_1563
  let v3601 : BitVec 1 := Scalar.cmpi .sge v3593 v3589
  let v3602 : BitVec 1 := Scalar.cmpi .sgt v3588 v3584
  let v3603 : BitVec 1 := Scalar.andi v3601 v3602
  let c0_i32_1571 : BitVec 32 := 0#32
  let v3597 : BitVec 32 := Scalar.maxsi v3593 c0_i32_1571
  let c5_i32_1572 : BitVec 32 := 5#32
  let v3598 : BitVec 32 := Scalar.shrsi v3597 c5_i32_1572
  let c5958_i32_1573 : BitVec 32 := 5958#32
  let v3599 : BitVec 32 := Scalar.muli v3598 c5958_i32_1573
  let c16_i32_1574 : BitVec 32 := 16#32
  let v3600 : BitVec 32 := Scalar.shrsi v3599 c16_i32_1574
  let c5_i32_1568 : BitVec 32 := 5#32
  let v3594 : BitVec 32 := Scalar.shrsi v3589 c5_i32_1568
  let c5958_i32_1569 : BitVec 32 := 5958#32
  let v3595 : BitVec 32 := Scalar.muli v3594 c5958_i32_1569
  let c16_i32_1570 : BitVec 32 := 16#32
  let v3596 : BitVec 32 := Scalar.shrsi v3595 c16_i32_1570
  let v3609 : BitVec 1 := Scalar.cmpi .sgt v3600 v3596
  let v3610 : BitVec 1 := Scalar.andi v3603 v3609
  let c1_i32_1578 : BitVec 32 := 1#32
  let v3611 : BitVec 32 := Scalar.subi v3600 c1_i32_1578
  let c128_i32_1579 : BitVec 32 := 128#32
  let v3612 : BitVec 32 := Scalar.select v3610 v3611 c128_i32_1579
  let v3624 : Index := Scalar.indexCast v3612
  let c0_1584 : Index := 0#32
  ![v3624.toNat, 0]

def k0_chk10 (v3584 : BitVec 32) (v3588 : BitVec 32) : Prop :=
  (∀ a, (k0_off39 v3584 v3588) a + S1x128.size a ≤ S45064x128.size a) ∧
  (∀ a, (k0_off40 v3584 v3588) a + S1x128.size a ≤ S136x128.size a) ∧
  (∀ a, (k0_off42 v3584 v3588) a + S1x96.size a ≤ S45064x96.size a) ∧
  (∀ a, (k0_off43 v3584 v3588) a + S1x96.size a ≤ S136x128.size a)
theorem k0_off39_inb : ∀ (v3584 : BitVec 32) (v3588 : BitVec 32) (k0_hw10 : k0_chk10 v3584 v3588), ∀ a, (k0_off39 v3584 v3588) a + S1x128.size a ≤ S45064x128.size a := fun v3584 v3588 k0_hw10 => k0_hw10.1
theorem k0_off40_inb : ∀ (v3584 : BitVec 32) (v3588 : BitVec 32) (k0_hw10 : k0_chk10 v3584 v3588), ∀ a, (k0_off40 v3584 v3588) a + S1x128.size a ≤ S136x128.size a := fun v3584 v3588 k0_hw10 => k0_hw10.2.1
theorem k0_off42_inb : ∀ (v3584 : BitVec 32) (v3588 : BitVec 32) (k0_hw10 : k0_chk10 v3584 v3588), ∀ a, (k0_off42 v3584 v3588) a + S1x96.size a ≤ S45064x96.size a := fun v3584 v3588 k0_hw10 => k0_hw10.2.2.1
theorem k0_off43_inb : ∀ (v3584 : BitVec 32) (v3588 : BitVec 32) (k0_hw10 : k0_chk10 v3584 v3588), ∀ a, (k0_off43 v3584 v3588) a + S1x96.size a ≤ S136x128.size a := fun v3584 v3588 k0_hw10 => k0_hw10.2.2.2

def k0_off44 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1558 : BitVec 32 := 8#32
  let v3580 : BitVec 32 := Scalar.muli arg17 c8_i32_1558
  let c1_i32_1559 : BitVec 32 := 1#32
  let v3581 : BitVec 32 := Scalar.addi v3580 c1_i32_1559
  let v3627 : Index := Scalar.indexCast v3581
  let c0_1585 : Index := 0#32
  ![v3627.toNat, 0]
def k0_off45 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1586 : BitVec 32 := 8#32
  let v3631 : BitVec 32 := Scalar.muli arg17 c8_i32_1586
  let c2_i32_1587 : BitVec 32 := 2#32
  let v3632 : BitVec 32 := Scalar.addi v3631 c2_i32_1587
  let c1000_i32_1588 : BitVec 32 := 1000#32
  let v3633 : BitVec 32 := Scalar.minsi v3632 c1000_i32_1588
  let v3634 : Index := Scalar.indexCast v3633
  ![v3634.toNat]
def k0_off46 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1586 : BitVec 32 := 8#32
  let v3631 : BitVec 32 := Scalar.muli arg17 c8_i32_1586
  let c2_i32_1587 : BitVec 32 := 2#32
  let v3632 : BitVec 32 := Scalar.addi v3631 c2_i32_1587
  let c1_i32_1589 : BitVec 32 := 1#32
  let v3636 : BitVec 32 := Scalar.addi v3632 c1_i32_1589
  let c1000_i32_1590 : BitVec 32 := 1000#32
  let v3637 : BitVec 32 := Scalar.minsi v3636 c1000_i32_1590
  let v3638 : Index := Scalar.indexCast v3637
  ![v3638.toNat]
def k0_off47 (v3635 : BitVec 32) (v3639 : BitVec 32) : Fin 2 → Nat :=
  let c1_i32_1592 : BitVec 32 := 1#32
  let v3641 : BitVec 32 := Scalar.subi v3639 c1_i32_1592
  let c0_i32_1593 : BitVec 32 := 0#32
  let v3642 : BitVec 32 := Scalar.maxsi v3641 c0_i32_1593
  let c2_i32_1594 : BitVec 32 := 2#32
  let v3643 : BitVec 32 := Scalar.shrsi v3642 c2_i32_1594
  let c1_i32_1595 : BitVec 32 := 1#32
  let v3644 : BitVec 32 := Scalar.subi v3643 c1_i32_1595
  let c2_i32_1591 : BitVec 32 := 2#32
  let v3640 : BitVec 32 := Scalar.shrsi v3635 c2_i32_1591
  let v3652 : BitVec 1 := Scalar.cmpi .sge v3644 v3640
  let v3653 : BitVec 1 := Scalar.cmpi .sgt v3639 v3635
  let v3654 : BitVec 1 := Scalar.andi v3652 v3653
  let c0_i32_1599 : BitVec 32 := 0#32
  let v3648 : BitVec 32 := Scalar.maxsi v3644 c0_i32_1599
  let c5_i32_1600 : BitVec 32 := 5#32
  let v3649 : BitVec 32 := Scalar.shrsi v3648 c5_i32_1600
  let c5958_i32_1601 : BitVec 32 := 5958#32
  let v3650 : BitVec 32 := Scalar.muli v3649 c5958_i32_1601
  let c16_i32_1602 : BitVec 32 := 16#32
  let v3651 : BitVec 32 := Scalar.shrsi v3650 c16_i32_1602
  let c352_i32_1603 : BitVec 32 := 352#32
  let v3655 : BitVec 32 := Scalar.muli v3651 c352_i32_1603
  let v3656 : BitVec 32 := Scalar.subi v3644 v3655
  let c128_i32_1604 : BitVec 32 := 128#32
  let v3657 : BitVec 32 := Scalar.muli v3656 c128_i32_1604
  let v3658 : BitVec 32 := Scalar.addi v3657 v3651
  let c45056_i32_1605 : BitVec 32 := 45056#32
  let v3659 : BitVec 32 := Scalar.select v3654 v3658 c45056_i32_1605
  let v3664 : Index := Scalar.indexCast v3659
  let c0_1608 : Index := 0#32
  ![v3664.toNat, 0]

def k0_off48 (v3635 : BitVec 32) (v3639 : BitVec 32) : Fin 2 → Nat :=
  let c1_i32_1592 : BitVec 32 := 1#32
  let v3641 : BitVec 32 := Scalar.subi v3639 c1_i32_1592
  let c0_i32_1593 : BitVec 32 := 0#32
  let v3642 : BitVec 32 := Scalar.maxsi v3641 c0_i32_1593
  let c2_i32_1594 : BitVec 32 := 2#32
  let v3643 : BitVec 32 := Scalar.shrsi v3642 c2_i32_1594
  let c1_i32_1595 : BitVec 32 := 1#32
  let v3644 : BitVec 32 := Scalar.subi v3643 c1_i32_1595
  let c2_i32_1591 : BitVec 32 := 2#32
  let v3640 : BitVec 32 := Scalar.shrsi v3635 c2_i32_1591
  let v3652 : BitVec 1 := Scalar.cmpi .sge v3644 v3640
  let v3653 : BitVec 1 := Scalar.cmpi .sgt v3639 v3635
  let v3654 : BitVec 1 := Scalar.andi v3652 v3653
  let c0_i32_1599 : BitVec 32 := 0#32
  let v3648 : BitVec 32 := Scalar.maxsi v3644 c0_i32_1599
  let c5_i32_1600 : BitVec 32 := 5#32
  let v3649 : BitVec 32 := Scalar.shrsi v3648 c5_i32_1600
  let c5958_i32_1601 : BitVec 32 := 5958#32
  let v3650 : BitVec 32 := Scalar.muli v3649 c5958_i32_1601
  let c16_i32_1602 : BitVec 32 := 16#32
  let v3651 : BitVec 32 := Scalar.shrsi v3650 c16_i32_1602
  let c5_i32_1596 : BitVec 32 := 5#32
  let v3645 : BitVec 32 := Scalar.shrsi v3640 c5_i32_1596
  let c5958_i32_1597 : BitVec 32 := 5958#32
  let v3646 : BitVec 32 := Scalar.muli v3645 c5958_i32_1597
  let c16_i32_1598 : BitVec 32 := 16#32
  let v3647 : BitVec 32 := Scalar.shrsi v3646 c16_i32_1598
  let v3660 : BitVec 1 := Scalar.cmpi .sgt v3651 v3647
  let v3661 : BitVec 1 := Scalar.andi v3654 v3660
  let c1_i32_1606 : BitVec 32 := 1#32
  let v3662 : BitVec 32 := Scalar.subi v3651 c1_i32_1606
  let c128_i32_1607 : BitVec 32 := 128#32
  let v3663 : BitVec 32 := Scalar.select v3661 v3662 c128_i32_1607
  let v3666 : Index := Scalar.indexCast v3663
  let c0_1609 : Index := 0#32
  ![v3666.toNat, 0]
def k0_off49 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1586 : BitVec 32 := 8#32
  let v3631 : BitVec 32 := Scalar.muli arg17 c8_i32_1586
  let c2_i32_1587 : BitVec 32 := 2#32
  let v3632 : BitVec 32 := Scalar.addi v3631 c2_i32_1587
  let v3669 : Index := Scalar.indexCast v3632
  let c0_1610 : Index := 0#32
  ![v3669.toNat, 0]
def k0_off50 (v3635 : BitVec 32) (v3639 : BitVec 32) : Fin 2 → Nat :=
  let c1_i32_1592 : BitVec 32 := 1#32
  let v3641 : BitVec 32 := Scalar.subi v3639 c1_i32_1592
  let c0_i32_1593 : BitVec 32 := 0#32
  let v3642 : BitVec 32 := Scalar.maxsi v3641 c0_i32_1593
  let c2_i32_1594 : BitVec 32 := 2#32
  let v3643 : BitVec 32 := Scalar.shrsi v3642 c2_i32_1594
  let c1_i32_1595 : BitVec 32 := 1#32
  let v3644 : BitVec 32 := Scalar.subi v3643 c1_i32_1595
  let c2_i32_1591 : BitVec 32 := 2#32
  let v3640 : BitVec 32 := Scalar.shrsi v3635 c2_i32_1591
  let v3652 : BitVec 1 := Scalar.cmpi .sge v3644 v3640
  let v3653 : BitVec 1 := Scalar.cmpi .sgt v3639 v3635
  let v3654 : BitVec 1 := Scalar.andi v3652 v3653
  let c0_i32_1599 : BitVec 32 := 0#32
  let v3648 : BitVec 32 := Scalar.maxsi v3644 c0_i32_1599
  let c5_i32_1600 : BitVec 32 := 5#32
  let v3649 : BitVec 32 := Scalar.shrsi v3648 c5_i32_1600
  let c5958_i32_1601 : BitVec 32 := 5958#32
  let v3650 : BitVec 32 := Scalar.muli v3649 c5958_i32_1601
  let c16_i32_1602 : BitVec 32 := 16#32
  let v3651 : BitVec 32 := Scalar.shrsi v3650 c16_i32_1602
  let c352_i32_1603 : BitVec 32 := 352#32
  let v3655 : BitVec 32 := Scalar.muli v3651 c352_i32_1603
  let v3656 : BitVec 32 := Scalar.subi v3644 v3655
  let c128_i32_1604 : BitVec 32 := 128#32
  let v3657 : BitVec 32 := Scalar.muli v3656 c128_i32_1604
  let v3658 : BitVec 32 := Scalar.addi v3657 v3651
  let c45056_i32_1605 : BitVec 32 := 45056#32
  let v3659 : BitVec 32 := Scalar.select v3654 v3658 c45056_i32_1605
  let v3673 : Index := Scalar.indexCast v3659
  let c0_1611 : Index := 0#32
  ![v3673.toNat, 0]
def k0_off51 (v3635 : BitVec 32) (v3639 : BitVec 32) : Fin 2 → Nat :=
  let c1_i32_1592 : BitVec 32 := 1#32
  let v3641 : BitVec 32 := Scalar.subi v3639 c1_i32_1592
  let c0_i32_1593 : BitVec 32 := 0#32
  let v3642 : BitVec 32 := Scalar.maxsi v3641 c0_i32_1593
  let c2_i32_1594 : BitVec 32 := 2#32
  let v3643 : BitVec 32 := Scalar.shrsi v3642 c2_i32_1594
  let c1_i32_1595 : BitVec 32 := 1#32
  let v3644 : BitVec 32 := Scalar.subi v3643 c1_i32_1595
  let c2_i32_1591 : BitVec 32 := 2#32
  let v3640 : BitVec 32 := Scalar.shrsi v3635 c2_i32_1591
  let v3652 : BitVec 1 := Scalar.cmpi .sge v3644 v3640
  let v3653 : BitVec 1 := Scalar.cmpi .sgt v3639 v3635
  let v3654 : BitVec 1 := Scalar.andi v3652 v3653
  let c0_i32_1599 : BitVec 32 := 0#32
  let v3648 : BitVec 32 := Scalar.maxsi v3644 c0_i32_1599
  let c5_i32_1600 : BitVec 32 := 5#32
  let v3649 : BitVec 32 := Scalar.shrsi v3648 c5_i32_1600
  let c5958_i32_1601 : BitVec 32 := 5958#32
  let v3650 : BitVec 32 := Scalar.muli v3649 c5958_i32_1601
  let c16_i32_1602 : BitVec 32 := 16#32
  let v3651 : BitVec 32 := Scalar.shrsi v3650 c16_i32_1602
  let c5_i32_1596 : BitVec 32 := 5#32
  let v3645 : BitVec 32 := Scalar.shrsi v3640 c5_i32_1596
  let c5958_i32_1597 : BitVec 32 := 5958#32
  let v3646 : BitVec 32 := Scalar.muli v3645 c5958_i32_1597
  let c16_i32_1598 : BitVec 32 := 16#32
  let v3647 : BitVec 32 := Scalar.shrsi v3646 c16_i32_1598
  let v3660 : BitVec 1 := Scalar.cmpi .sgt v3651 v3647
  let v3661 : BitVec 1 := Scalar.andi v3654 v3660
  let c1_i32_1606 : BitVec 32 := 1#32
  let v3662 : BitVec 32 := Scalar.subi v3651 c1_i32_1606
  let c128_i32_1607 : BitVec 32 := 128#32
  let v3663 : BitVec 32 := Scalar.select v3661 v3662 c128_i32_1607
  let v3675 : Index := Scalar.indexCast v3663
  let c0_1612 : Index := 0#32
  ![v3675.toNat, 0]

def k0_chk11 (v3635 : BitVec 32) (v3639 : BitVec 32) : Prop :=
  (∀ a, (k0_off47 v3635 v3639) a + S1x128.size a ≤ S45064x128.size a) ∧
  (∀ a, (k0_off48 v3635 v3639) a + S1x128.size a ≤ S136x128.size a) ∧
  (∀ a, (k0_off50 v3635 v3639) a + S1x96.size a ≤ S45064x96.size a) ∧
  (∀ a, (k0_off51 v3635 v3639) a + S1x96.size a ≤ S136x128.size a)
theorem k0_off47_inb : ∀ (v3635 : BitVec 32) (v3639 : BitVec 32) (k0_hw11 : k0_chk11 v3635 v3639), ∀ a, (k0_off47 v3635 v3639) a + S1x128.size a ≤ S45064x128.size a := fun v3635 v3639 k0_hw11 => k0_hw11.1
theorem k0_off48_inb : ∀ (v3635 : BitVec 32) (v3639 : BitVec 32) (k0_hw11 : k0_chk11 v3635 v3639), ∀ a, (k0_off48 v3635 v3639) a + S1x128.size a ≤ S136x128.size a := fun v3635 v3639 k0_hw11 => k0_hw11.2.1
theorem k0_off50_inb : ∀ (v3635 : BitVec 32) (v3639 : BitVec 32) (k0_hw11 : k0_chk11 v3635 v3639), ∀ a, (k0_off50 v3635 v3639) a + S1x96.size a ≤ S45064x96.size a := fun v3635 v3639 k0_hw11 => k0_hw11.2.2.1
theorem k0_off51_inb : ∀ (v3635 : BitVec 32) (v3639 : BitVec 32) (k0_hw11 : k0_chk11 v3635 v3639), ∀ a, (k0_off51 v3635 v3639) a + S1x96.size a ≤ S136x128.size a := fun v3635 v3639 k0_hw11 => k0_hw11.2.2.2

def k0_off52 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1586 : BitVec 32 := 8#32
  let v3631 : BitVec 32 := Scalar.muli arg17 c8_i32_1586
  let c2_i32_1587 : BitVec 32 := 2#32
  let v3632 : BitVec 32 := Scalar.addi v3631 c2_i32_1587
  let v3678 : Index := Scalar.indexCast v3632
  let c0_1613 : Index := 0#32
  ![v3678.toNat, 0]
def k0_off53 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1614 : BitVec 32 := 8#32
  let v3682 : BitVec 32 := Scalar.muli arg17 c8_i32_1614
  let c3_i32_1615 : BitVec 32 := 3#32
  let v3683 : BitVec 32 := Scalar.addi v3682 c3_i32_1615
  let c1000_i32_1616 : BitVec 32 := 1000#32
  let v3684 : BitVec 32 := Scalar.minsi v3683 c1000_i32_1616
  let v3685 : Index := Scalar.indexCast v3684
  ![v3685.toNat]
def k0_off54 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1614 : BitVec 32 := 8#32
  let v3682 : BitVec 32 := Scalar.muli arg17 c8_i32_1614
  let c3_i32_1615 : BitVec 32 := 3#32
  let v3683 : BitVec 32 := Scalar.addi v3682 c3_i32_1615
  let c1_i32_1617 : BitVec 32 := 1#32
  let v3687 : BitVec 32 := Scalar.addi v3683 c1_i32_1617
  let c1000_i32_1618 : BitVec 32 := 1000#32
  let v3688 : BitVec 32 := Scalar.minsi v3687 c1000_i32_1618
  let v3689 : Index := Scalar.indexCast v3688
  ![v3689.toNat]
def k0_off55 (v3686 : BitVec 32) (v3690 : BitVec 32) : Fin 2 → Nat :=
  let c1_i32_1620 : BitVec 32 := 1#32
  let v3692 : BitVec 32 := Scalar.subi v3690 c1_i32_1620
  let c0_i32_1621 : BitVec 32 := 0#32
  let v3693 : BitVec 32 := Scalar.maxsi v3692 c0_i32_1621
  let c2_i32_1622 : BitVec 32 := 2#32
  let v3694 : BitVec 32 := Scalar.shrsi v3693 c2_i32_1622
  let c1_i32_1623 : BitVec 32 := 1#32
  let v3695 : BitVec 32 := Scalar.subi v3694 c1_i32_1623
  let c2_i32_1619 : BitVec 32 := 2#32
  let v3691 : BitVec 32 := Scalar.shrsi v3686 c2_i32_1619
  let v3703 : BitVec 1 := Scalar.cmpi .sge v3695 v3691
  let v3704 : BitVec 1 := Scalar.cmpi .sgt v3690 v3686
  let v3705 : BitVec 1 := Scalar.andi v3703 v3704
  let c0_i32_1627 : BitVec 32 := 0#32
  let v3699 : BitVec 32 := Scalar.maxsi v3695 c0_i32_1627
  let c5_i32_1628 : BitVec 32 := 5#32
  let v3700 : BitVec 32 := Scalar.shrsi v3699 c5_i32_1628
  let c5958_i32_1629 : BitVec 32 := 5958#32
  let v3701 : BitVec 32 := Scalar.muli v3700 c5958_i32_1629
  let c16_i32_1630 : BitVec 32 := 16#32
  let v3702 : BitVec 32 := Scalar.shrsi v3701 c16_i32_1630
  let c352_i32_1631 : BitVec 32 := 352#32
  let v3706 : BitVec 32 := Scalar.muli v3702 c352_i32_1631
  let v3707 : BitVec 32 := Scalar.subi v3695 v3706
  let c128_i32_1632 : BitVec 32 := 128#32
  let v3708 : BitVec 32 := Scalar.muli v3707 c128_i32_1632
  let v3709 : BitVec 32 := Scalar.addi v3708 v3702
  let c45056_i32_1633 : BitVec 32 := 45056#32
  let v3710 : BitVec 32 := Scalar.select v3705 v3709 c45056_i32_1633
  let v3715 : Index := Scalar.indexCast v3710
  let c0_1636 : Index := 0#32
  ![v3715.toNat, 0]

def k0_off56 (v3686 : BitVec 32) (v3690 : BitVec 32) : Fin 2 → Nat :=
  let c1_i32_1620 : BitVec 32 := 1#32
  let v3692 : BitVec 32 := Scalar.subi v3690 c1_i32_1620
  let c0_i32_1621 : BitVec 32 := 0#32
  let v3693 : BitVec 32 := Scalar.maxsi v3692 c0_i32_1621
  let c2_i32_1622 : BitVec 32 := 2#32
  let v3694 : BitVec 32 := Scalar.shrsi v3693 c2_i32_1622
  let c1_i32_1623 : BitVec 32 := 1#32
  let v3695 : BitVec 32 := Scalar.subi v3694 c1_i32_1623
  let c2_i32_1619 : BitVec 32 := 2#32
  let v3691 : BitVec 32 := Scalar.shrsi v3686 c2_i32_1619
  let v3703 : BitVec 1 := Scalar.cmpi .sge v3695 v3691
  let v3704 : BitVec 1 := Scalar.cmpi .sgt v3690 v3686
  let v3705 : BitVec 1 := Scalar.andi v3703 v3704
  let c0_i32_1627 : BitVec 32 := 0#32
  let v3699 : BitVec 32 := Scalar.maxsi v3695 c0_i32_1627
  let c5_i32_1628 : BitVec 32 := 5#32
  let v3700 : BitVec 32 := Scalar.shrsi v3699 c5_i32_1628
  let c5958_i32_1629 : BitVec 32 := 5958#32
  let v3701 : BitVec 32 := Scalar.muli v3700 c5958_i32_1629
  let c16_i32_1630 : BitVec 32 := 16#32
  let v3702 : BitVec 32 := Scalar.shrsi v3701 c16_i32_1630
  let c5_i32_1624 : BitVec 32 := 5#32
  let v3696 : BitVec 32 := Scalar.shrsi v3691 c5_i32_1624
  let c5958_i32_1625 : BitVec 32 := 5958#32
  let v3697 : BitVec 32 := Scalar.muli v3696 c5958_i32_1625
  let c16_i32_1626 : BitVec 32 := 16#32
  let v3698 : BitVec 32 := Scalar.shrsi v3697 c16_i32_1626
  let v3711 : BitVec 1 := Scalar.cmpi .sgt v3702 v3698
  let v3712 : BitVec 1 := Scalar.andi v3705 v3711
  let c1_i32_1634 : BitVec 32 := 1#32
  let v3713 : BitVec 32 := Scalar.subi v3702 c1_i32_1634
  let c128_i32_1635 : BitVec 32 := 128#32
  let v3714 : BitVec 32 := Scalar.select v3712 v3713 c128_i32_1635
  let v3717 : Index := Scalar.indexCast v3714
  let c0_1637 : Index := 0#32
  ![v3717.toNat, 0]
def k0_off57 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1614 : BitVec 32 := 8#32
  let v3682 : BitVec 32 := Scalar.muli arg17 c8_i32_1614
  let c3_i32_1615 : BitVec 32 := 3#32
  let v3683 : BitVec 32 := Scalar.addi v3682 c3_i32_1615
  let v3720 : Index := Scalar.indexCast v3683
  let c0_1638 : Index := 0#32
  ![v3720.toNat, 0]
def k0_off58 (v3686 : BitVec 32) (v3690 : BitVec 32) : Fin 2 → Nat :=
  let c1_i32_1620 : BitVec 32 := 1#32
  let v3692 : BitVec 32 := Scalar.subi v3690 c1_i32_1620
  let c0_i32_1621 : BitVec 32 := 0#32
  let v3693 : BitVec 32 := Scalar.maxsi v3692 c0_i32_1621
  let c2_i32_1622 : BitVec 32 := 2#32
  let v3694 : BitVec 32 := Scalar.shrsi v3693 c2_i32_1622
  let c1_i32_1623 : BitVec 32 := 1#32
  let v3695 : BitVec 32 := Scalar.subi v3694 c1_i32_1623
  let c2_i32_1619 : BitVec 32 := 2#32
  let v3691 : BitVec 32 := Scalar.shrsi v3686 c2_i32_1619
  let v3703 : BitVec 1 := Scalar.cmpi .sge v3695 v3691
  let v3704 : BitVec 1 := Scalar.cmpi .sgt v3690 v3686
  let v3705 : BitVec 1 := Scalar.andi v3703 v3704
  let c0_i32_1627 : BitVec 32 := 0#32
  let v3699 : BitVec 32 := Scalar.maxsi v3695 c0_i32_1627
  let c5_i32_1628 : BitVec 32 := 5#32
  let v3700 : BitVec 32 := Scalar.shrsi v3699 c5_i32_1628
  let c5958_i32_1629 : BitVec 32 := 5958#32
  let v3701 : BitVec 32 := Scalar.muli v3700 c5958_i32_1629
  let c16_i32_1630 : BitVec 32 := 16#32
  let v3702 : BitVec 32 := Scalar.shrsi v3701 c16_i32_1630
  let c352_i32_1631 : BitVec 32 := 352#32
  let v3706 : BitVec 32 := Scalar.muli v3702 c352_i32_1631
  let v3707 : BitVec 32 := Scalar.subi v3695 v3706
  let c128_i32_1632 : BitVec 32 := 128#32
  let v3708 : BitVec 32 := Scalar.muli v3707 c128_i32_1632
  let v3709 : BitVec 32 := Scalar.addi v3708 v3702
  let c45056_i32_1633 : BitVec 32 := 45056#32
  let v3710 : BitVec 32 := Scalar.select v3705 v3709 c45056_i32_1633
  let v3724 : Index := Scalar.indexCast v3710
  let c0_1639 : Index := 0#32
  ![v3724.toNat, 0]
def k0_off59 (v3686 : BitVec 32) (v3690 : BitVec 32) : Fin 2 → Nat :=
  let c1_i32_1620 : BitVec 32 := 1#32
  let v3692 : BitVec 32 := Scalar.subi v3690 c1_i32_1620
  let c0_i32_1621 : BitVec 32 := 0#32
  let v3693 : BitVec 32 := Scalar.maxsi v3692 c0_i32_1621
  let c2_i32_1622 : BitVec 32 := 2#32
  let v3694 : BitVec 32 := Scalar.shrsi v3693 c2_i32_1622
  let c1_i32_1623 : BitVec 32 := 1#32
  let v3695 : BitVec 32 := Scalar.subi v3694 c1_i32_1623
  let c2_i32_1619 : BitVec 32 := 2#32
  let v3691 : BitVec 32 := Scalar.shrsi v3686 c2_i32_1619
  let v3703 : BitVec 1 := Scalar.cmpi .sge v3695 v3691
  let v3704 : BitVec 1 := Scalar.cmpi .sgt v3690 v3686
  let v3705 : BitVec 1 := Scalar.andi v3703 v3704
  let c0_i32_1627 : BitVec 32 := 0#32
  let v3699 : BitVec 32 := Scalar.maxsi v3695 c0_i32_1627
  let c5_i32_1628 : BitVec 32 := 5#32
  let v3700 : BitVec 32 := Scalar.shrsi v3699 c5_i32_1628
  let c5958_i32_1629 : BitVec 32 := 5958#32
  let v3701 : BitVec 32 := Scalar.muli v3700 c5958_i32_1629
  let c16_i32_1630 : BitVec 32 := 16#32
  let v3702 : BitVec 32 := Scalar.shrsi v3701 c16_i32_1630
  let c5_i32_1624 : BitVec 32 := 5#32
  let v3696 : BitVec 32 := Scalar.shrsi v3691 c5_i32_1624
  let c5958_i32_1625 : BitVec 32 := 5958#32
  let v3697 : BitVec 32 := Scalar.muli v3696 c5958_i32_1625
  let c16_i32_1626 : BitVec 32 := 16#32
  let v3698 : BitVec 32 := Scalar.shrsi v3697 c16_i32_1626
  let v3711 : BitVec 1 := Scalar.cmpi .sgt v3702 v3698
  let v3712 : BitVec 1 := Scalar.andi v3705 v3711
  let c1_i32_1634 : BitVec 32 := 1#32
  let v3713 : BitVec 32 := Scalar.subi v3702 c1_i32_1634
  let c128_i32_1635 : BitVec 32 := 128#32
  let v3714 : BitVec 32 := Scalar.select v3712 v3713 c128_i32_1635
  let v3726 : Index := Scalar.indexCast v3714
  let c0_1640 : Index := 0#32
  ![v3726.toNat, 0]

def k0_chk12 (v3686 : BitVec 32) (v3690 : BitVec 32) : Prop :=
  (∀ a, (k0_off55 v3686 v3690) a + S1x128.size a ≤ S45064x128.size a) ∧
  (∀ a, (k0_off56 v3686 v3690) a + S1x128.size a ≤ S136x128.size a) ∧
  (∀ a, (k0_off58 v3686 v3690) a + S1x96.size a ≤ S45064x96.size a) ∧
  (∀ a, (k0_off59 v3686 v3690) a + S1x96.size a ≤ S136x128.size a)
theorem k0_off55_inb : ∀ (v3686 : BitVec 32) (v3690 : BitVec 32) (k0_hw12 : k0_chk12 v3686 v3690), ∀ a, (k0_off55 v3686 v3690) a + S1x128.size a ≤ S45064x128.size a := fun v3686 v3690 k0_hw12 => k0_hw12.1
theorem k0_off56_inb : ∀ (v3686 : BitVec 32) (v3690 : BitVec 32) (k0_hw12 : k0_chk12 v3686 v3690), ∀ a, (k0_off56 v3686 v3690) a + S1x128.size a ≤ S136x128.size a := fun v3686 v3690 k0_hw12 => k0_hw12.2.1
theorem k0_off58_inb : ∀ (v3686 : BitVec 32) (v3690 : BitVec 32) (k0_hw12 : k0_chk12 v3686 v3690), ∀ a, (k0_off58 v3686 v3690) a + S1x96.size a ≤ S45064x96.size a := fun v3686 v3690 k0_hw12 => k0_hw12.2.2.1
theorem k0_off59_inb : ∀ (v3686 : BitVec 32) (v3690 : BitVec 32) (k0_hw12 : k0_chk12 v3686 v3690), ∀ a, (k0_off59 v3686 v3690) a + S1x96.size a ≤ S136x128.size a := fun v3686 v3690 k0_hw12 => k0_hw12.2.2.2

def k0_off60 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1614 : BitVec 32 := 8#32
  let v3682 : BitVec 32 := Scalar.muli arg17 c8_i32_1614
  let c3_i32_1615 : BitVec 32 := 3#32
  let v3683 : BitVec 32 := Scalar.addi v3682 c3_i32_1615
  let v3729 : Index := Scalar.indexCast v3683
  let c0_1641 : Index := 0#32
  ![v3729.toNat, 0]
def k0_off61 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1642 : BitVec 32 := 8#32
  let v3733 : BitVec 32 := Scalar.muli arg17 c8_i32_1642
  let c4_i32_1643 : BitVec 32 := 4#32
  let v3734 : BitVec 32 := Scalar.addi v3733 c4_i32_1643
  let c1000_i32_1644 : BitVec 32 := 1000#32
  let v3735 : BitVec 32 := Scalar.minsi v3734 c1000_i32_1644
  let v3736 : Index := Scalar.indexCast v3735
  ![v3736.toNat]
def k0_off62 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1642 : BitVec 32 := 8#32
  let v3733 : BitVec 32 := Scalar.muli arg17 c8_i32_1642
  let c4_i32_1643 : BitVec 32 := 4#32
  let v3734 : BitVec 32 := Scalar.addi v3733 c4_i32_1643
  let c1_i32_1645 : BitVec 32 := 1#32
  let v3738 : BitVec 32 := Scalar.addi v3734 c1_i32_1645
  let c1000_i32_1646 : BitVec 32 := 1000#32
  let v3739 : BitVec 32 := Scalar.minsi v3738 c1000_i32_1646
  let v3740 : Index := Scalar.indexCast v3739
  ![v3740.toNat]
def k0_off63 (v3737 : BitVec 32) (v3741 : BitVec 32) : Fin 2 → Nat :=
  let c1_i32_1648 : BitVec 32 := 1#32
  let v3743 : BitVec 32 := Scalar.subi v3741 c1_i32_1648
  let c0_i32_1649 : BitVec 32 := 0#32
  let v3744 : BitVec 32 := Scalar.maxsi v3743 c0_i32_1649
  let c2_i32_1650 : BitVec 32 := 2#32
  let v3745 : BitVec 32 := Scalar.shrsi v3744 c2_i32_1650
  let c1_i32_1651 : BitVec 32 := 1#32
  let v3746 : BitVec 32 := Scalar.subi v3745 c1_i32_1651
  let c2_i32_1647 : BitVec 32 := 2#32
  let v3742 : BitVec 32 := Scalar.shrsi v3737 c2_i32_1647
  let v3754 : BitVec 1 := Scalar.cmpi .sge v3746 v3742
  let v3755 : BitVec 1 := Scalar.cmpi .sgt v3741 v3737
  let v3756 : BitVec 1 := Scalar.andi v3754 v3755
  let c0_i32_1655 : BitVec 32 := 0#32
  let v3750 : BitVec 32 := Scalar.maxsi v3746 c0_i32_1655
  let c5_i32_1656 : BitVec 32 := 5#32
  let v3751 : BitVec 32 := Scalar.shrsi v3750 c5_i32_1656
  let c5958_i32_1657 : BitVec 32 := 5958#32
  let v3752 : BitVec 32 := Scalar.muli v3751 c5958_i32_1657
  let c16_i32_1658 : BitVec 32 := 16#32
  let v3753 : BitVec 32 := Scalar.shrsi v3752 c16_i32_1658
  let c352_i32_1659 : BitVec 32 := 352#32
  let v3757 : BitVec 32 := Scalar.muli v3753 c352_i32_1659
  let v3758 : BitVec 32 := Scalar.subi v3746 v3757
  let c128_i32_1660 : BitVec 32 := 128#32
  let v3759 : BitVec 32 := Scalar.muli v3758 c128_i32_1660
  let v3760 : BitVec 32 := Scalar.addi v3759 v3753
  let c45056_i32_1661 : BitVec 32 := 45056#32
  let v3761 : BitVec 32 := Scalar.select v3756 v3760 c45056_i32_1661
  let v3766 : Index := Scalar.indexCast v3761
  let c0_1664 : Index := 0#32
  ![v3766.toNat, 0]

def k0_off64 (v3737 : BitVec 32) (v3741 : BitVec 32) : Fin 2 → Nat :=
  let c1_i32_1648 : BitVec 32 := 1#32
  let v3743 : BitVec 32 := Scalar.subi v3741 c1_i32_1648
  let c0_i32_1649 : BitVec 32 := 0#32
  let v3744 : BitVec 32 := Scalar.maxsi v3743 c0_i32_1649
  let c2_i32_1650 : BitVec 32 := 2#32
  let v3745 : BitVec 32 := Scalar.shrsi v3744 c2_i32_1650
  let c1_i32_1651 : BitVec 32 := 1#32
  let v3746 : BitVec 32 := Scalar.subi v3745 c1_i32_1651
  let c2_i32_1647 : BitVec 32 := 2#32
  let v3742 : BitVec 32 := Scalar.shrsi v3737 c2_i32_1647
  let v3754 : BitVec 1 := Scalar.cmpi .sge v3746 v3742
  let v3755 : BitVec 1 := Scalar.cmpi .sgt v3741 v3737
  let v3756 : BitVec 1 := Scalar.andi v3754 v3755
  let c0_i32_1655 : BitVec 32 := 0#32
  let v3750 : BitVec 32 := Scalar.maxsi v3746 c0_i32_1655
  let c5_i32_1656 : BitVec 32 := 5#32
  let v3751 : BitVec 32 := Scalar.shrsi v3750 c5_i32_1656
  let c5958_i32_1657 : BitVec 32 := 5958#32
  let v3752 : BitVec 32 := Scalar.muli v3751 c5958_i32_1657
  let c16_i32_1658 : BitVec 32 := 16#32
  let v3753 : BitVec 32 := Scalar.shrsi v3752 c16_i32_1658
  let c5_i32_1652 : BitVec 32 := 5#32
  let v3747 : BitVec 32 := Scalar.shrsi v3742 c5_i32_1652
  let c5958_i32_1653 : BitVec 32 := 5958#32
  let v3748 : BitVec 32 := Scalar.muli v3747 c5958_i32_1653
  let c16_i32_1654 : BitVec 32 := 16#32
  let v3749 : BitVec 32 := Scalar.shrsi v3748 c16_i32_1654
  let v3762 : BitVec 1 := Scalar.cmpi .sgt v3753 v3749
  let v3763 : BitVec 1 := Scalar.andi v3756 v3762
  let c1_i32_1662 : BitVec 32 := 1#32
  let v3764 : BitVec 32 := Scalar.subi v3753 c1_i32_1662
  let c128_i32_1663 : BitVec 32 := 128#32
  let v3765 : BitVec 32 := Scalar.select v3763 v3764 c128_i32_1663
  let v3768 : Index := Scalar.indexCast v3765
  let c0_1665 : Index := 0#32
  ![v3768.toNat, 0]
def k0_off65 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1642 : BitVec 32 := 8#32
  let v3733 : BitVec 32 := Scalar.muli arg17 c8_i32_1642
  let c4_i32_1643 : BitVec 32 := 4#32
  let v3734 : BitVec 32 := Scalar.addi v3733 c4_i32_1643
  let v3771 : Index := Scalar.indexCast v3734
  let c0_1666 : Index := 0#32
  ![v3771.toNat, 0]
def k0_off66 (v3737 : BitVec 32) (v3741 : BitVec 32) : Fin 2 → Nat :=
  let c1_i32_1648 : BitVec 32 := 1#32
  let v3743 : BitVec 32 := Scalar.subi v3741 c1_i32_1648
  let c0_i32_1649 : BitVec 32 := 0#32
  let v3744 : BitVec 32 := Scalar.maxsi v3743 c0_i32_1649
  let c2_i32_1650 : BitVec 32 := 2#32
  let v3745 : BitVec 32 := Scalar.shrsi v3744 c2_i32_1650
  let c1_i32_1651 : BitVec 32 := 1#32
  let v3746 : BitVec 32 := Scalar.subi v3745 c1_i32_1651
  let c2_i32_1647 : BitVec 32 := 2#32
  let v3742 : BitVec 32 := Scalar.shrsi v3737 c2_i32_1647
  let v3754 : BitVec 1 := Scalar.cmpi .sge v3746 v3742
  let v3755 : BitVec 1 := Scalar.cmpi .sgt v3741 v3737
  let v3756 : BitVec 1 := Scalar.andi v3754 v3755
  let c0_i32_1655 : BitVec 32 := 0#32
  let v3750 : BitVec 32 := Scalar.maxsi v3746 c0_i32_1655
  let c5_i32_1656 : BitVec 32 := 5#32
  let v3751 : BitVec 32 := Scalar.shrsi v3750 c5_i32_1656
  let c5958_i32_1657 : BitVec 32 := 5958#32
  let v3752 : BitVec 32 := Scalar.muli v3751 c5958_i32_1657
  let c16_i32_1658 : BitVec 32 := 16#32
  let v3753 : BitVec 32 := Scalar.shrsi v3752 c16_i32_1658
  let c352_i32_1659 : BitVec 32 := 352#32
  let v3757 : BitVec 32 := Scalar.muli v3753 c352_i32_1659
  let v3758 : BitVec 32 := Scalar.subi v3746 v3757
  let c128_i32_1660 : BitVec 32 := 128#32
  let v3759 : BitVec 32 := Scalar.muli v3758 c128_i32_1660
  let v3760 : BitVec 32 := Scalar.addi v3759 v3753
  let c45056_i32_1661 : BitVec 32 := 45056#32
  let v3761 : BitVec 32 := Scalar.select v3756 v3760 c45056_i32_1661
  let v3775 : Index := Scalar.indexCast v3761
  let c0_1667 : Index := 0#32
  ![v3775.toNat, 0]
def k0_off67 (v3737 : BitVec 32) (v3741 : BitVec 32) : Fin 2 → Nat :=
  let c1_i32_1648 : BitVec 32 := 1#32
  let v3743 : BitVec 32 := Scalar.subi v3741 c1_i32_1648
  let c0_i32_1649 : BitVec 32 := 0#32
  let v3744 : BitVec 32 := Scalar.maxsi v3743 c0_i32_1649
  let c2_i32_1650 : BitVec 32 := 2#32
  let v3745 : BitVec 32 := Scalar.shrsi v3744 c2_i32_1650
  let c1_i32_1651 : BitVec 32 := 1#32
  let v3746 : BitVec 32 := Scalar.subi v3745 c1_i32_1651
  let c2_i32_1647 : BitVec 32 := 2#32
  let v3742 : BitVec 32 := Scalar.shrsi v3737 c2_i32_1647
  let v3754 : BitVec 1 := Scalar.cmpi .sge v3746 v3742
  let v3755 : BitVec 1 := Scalar.cmpi .sgt v3741 v3737
  let v3756 : BitVec 1 := Scalar.andi v3754 v3755
  let c0_i32_1655 : BitVec 32 := 0#32
  let v3750 : BitVec 32 := Scalar.maxsi v3746 c0_i32_1655
  let c5_i32_1656 : BitVec 32 := 5#32
  let v3751 : BitVec 32 := Scalar.shrsi v3750 c5_i32_1656
  let c5958_i32_1657 : BitVec 32 := 5958#32
  let v3752 : BitVec 32 := Scalar.muli v3751 c5958_i32_1657
  let c16_i32_1658 : BitVec 32 := 16#32
  let v3753 : BitVec 32 := Scalar.shrsi v3752 c16_i32_1658
  let c5_i32_1652 : BitVec 32 := 5#32
  let v3747 : BitVec 32 := Scalar.shrsi v3742 c5_i32_1652
  let c5958_i32_1653 : BitVec 32 := 5958#32
  let v3748 : BitVec 32 := Scalar.muli v3747 c5958_i32_1653
  let c16_i32_1654 : BitVec 32 := 16#32
  let v3749 : BitVec 32 := Scalar.shrsi v3748 c16_i32_1654
  let v3762 : BitVec 1 := Scalar.cmpi .sgt v3753 v3749
  let v3763 : BitVec 1 := Scalar.andi v3756 v3762
  let c1_i32_1662 : BitVec 32 := 1#32
  let v3764 : BitVec 32 := Scalar.subi v3753 c1_i32_1662
  let c128_i32_1663 : BitVec 32 := 128#32
  let v3765 : BitVec 32 := Scalar.select v3763 v3764 c128_i32_1663
  let v3777 : Index := Scalar.indexCast v3765
  let c0_1668 : Index := 0#32
  ![v3777.toNat, 0]

def k0_chk13 (v3737 : BitVec 32) (v3741 : BitVec 32) : Prop :=
  (∀ a, (k0_off63 v3737 v3741) a + S1x128.size a ≤ S45064x128.size a) ∧
  (∀ a, (k0_off64 v3737 v3741) a + S1x128.size a ≤ S136x128.size a) ∧
  (∀ a, (k0_off66 v3737 v3741) a + S1x96.size a ≤ S45064x96.size a) ∧
  (∀ a, (k0_off67 v3737 v3741) a + S1x96.size a ≤ S136x128.size a)
theorem k0_off63_inb : ∀ (v3737 : BitVec 32) (v3741 : BitVec 32) (k0_hw13 : k0_chk13 v3737 v3741), ∀ a, (k0_off63 v3737 v3741) a + S1x128.size a ≤ S45064x128.size a := fun v3737 v3741 k0_hw13 => k0_hw13.1
theorem k0_off64_inb : ∀ (v3737 : BitVec 32) (v3741 : BitVec 32) (k0_hw13 : k0_chk13 v3737 v3741), ∀ a, (k0_off64 v3737 v3741) a + S1x128.size a ≤ S136x128.size a := fun v3737 v3741 k0_hw13 => k0_hw13.2.1
theorem k0_off66_inb : ∀ (v3737 : BitVec 32) (v3741 : BitVec 32) (k0_hw13 : k0_chk13 v3737 v3741), ∀ a, (k0_off66 v3737 v3741) a + S1x96.size a ≤ S45064x96.size a := fun v3737 v3741 k0_hw13 => k0_hw13.2.2.1
theorem k0_off67_inb : ∀ (v3737 : BitVec 32) (v3741 : BitVec 32) (k0_hw13 : k0_chk13 v3737 v3741), ∀ a, (k0_off67 v3737 v3741) a + S1x96.size a ≤ S136x128.size a := fun v3737 v3741 k0_hw13 => k0_hw13.2.2.2

def k0_off68 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1642 : BitVec 32 := 8#32
  let v3733 : BitVec 32 := Scalar.muli arg17 c8_i32_1642
  let c4_i32_1643 : BitVec 32 := 4#32
  let v3734 : BitVec 32 := Scalar.addi v3733 c4_i32_1643
  let v3780 : Index := Scalar.indexCast v3734
  let c0_1669 : Index := 0#32
  ![v3780.toNat, 0]
def k0_off69 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1670 : BitVec 32 := 8#32
  let v3784 : BitVec 32 := Scalar.muli arg17 c8_i32_1670
  let c5_i32_1671 : BitVec 32 := 5#32
  let v3785 : BitVec 32 := Scalar.addi v3784 c5_i32_1671
  let c1000_i32_1672 : BitVec 32 := 1000#32
  let v3786 : BitVec 32 := Scalar.minsi v3785 c1000_i32_1672
  let v3787 : Index := Scalar.indexCast v3786
  ![v3787.toNat]
def k0_off70 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1670 : BitVec 32 := 8#32
  let v3784 : BitVec 32 := Scalar.muli arg17 c8_i32_1670
  let c5_i32_1671 : BitVec 32 := 5#32
  let v3785 : BitVec 32 := Scalar.addi v3784 c5_i32_1671
  let c1_i32_1673 : BitVec 32 := 1#32
  let v3789 : BitVec 32 := Scalar.addi v3785 c1_i32_1673
  let c1000_i32_1674 : BitVec 32 := 1000#32
  let v3790 : BitVec 32 := Scalar.minsi v3789 c1000_i32_1674
  let v3791 : Index := Scalar.indexCast v3790
  ![v3791.toNat]
def k0_off71 (v3788 : BitVec 32) (v3792 : BitVec 32) : Fin 2 → Nat :=
  let c1_i32_1676 : BitVec 32 := 1#32
  let v3794 : BitVec 32 := Scalar.subi v3792 c1_i32_1676
  let c0_i32_1677 : BitVec 32 := 0#32
  let v3795 : BitVec 32 := Scalar.maxsi v3794 c0_i32_1677
  let c2_i32_1678 : BitVec 32 := 2#32
  let v3796 : BitVec 32 := Scalar.shrsi v3795 c2_i32_1678
  let c1_i32_1679 : BitVec 32 := 1#32
  let v3797 : BitVec 32 := Scalar.subi v3796 c1_i32_1679
  let c2_i32_1675 : BitVec 32 := 2#32
  let v3793 : BitVec 32 := Scalar.shrsi v3788 c2_i32_1675
  let v3805 : BitVec 1 := Scalar.cmpi .sge v3797 v3793
  let v3806 : BitVec 1 := Scalar.cmpi .sgt v3792 v3788
  let v3807 : BitVec 1 := Scalar.andi v3805 v3806
  let c0_i32_1683 : BitVec 32 := 0#32
  let v3801 : BitVec 32 := Scalar.maxsi v3797 c0_i32_1683
  let c5_i32_1684 : BitVec 32 := 5#32
  let v3802 : BitVec 32 := Scalar.shrsi v3801 c5_i32_1684
  let c5958_i32_1685 : BitVec 32 := 5958#32
  let v3803 : BitVec 32 := Scalar.muli v3802 c5958_i32_1685
  let c16_i32_1686 : BitVec 32 := 16#32
  let v3804 : BitVec 32 := Scalar.shrsi v3803 c16_i32_1686
  let c352_i32_1687 : BitVec 32 := 352#32
  let v3808 : BitVec 32 := Scalar.muli v3804 c352_i32_1687
  let v3809 : BitVec 32 := Scalar.subi v3797 v3808
  let c128_i32_1688 : BitVec 32 := 128#32
  let v3810 : BitVec 32 := Scalar.muli v3809 c128_i32_1688
  let v3811 : BitVec 32 := Scalar.addi v3810 v3804
  let c45056_i32_1689 : BitVec 32 := 45056#32
  let v3812 : BitVec 32 := Scalar.select v3807 v3811 c45056_i32_1689
  let v3817 : Index := Scalar.indexCast v3812
  let c0_1692 : Index := 0#32
  ![v3817.toNat, 0]

def k0_off72 (v3788 : BitVec 32) (v3792 : BitVec 32) : Fin 2 → Nat :=
  let c1_i32_1676 : BitVec 32 := 1#32
  let v3794 : BitVec 32 := Scalar.subi v3792 c1_i32_1676
  let c0_i32_1677 : BitVec 32 := 0#32
  let v3795 : BitVec 32 := Scalar.maxsi v3794 c0_i32_1677
  let c2_i32_1678 : BitVec 32 := 2#32
  let v3796 : BitVec 32 := Scalar.shrsi v3795 c2_i32_1678
  let c1_i32_1679 : BitVec 32 := 1#32
  let v3797 : BitVec 32 := Scalar.subi v3796 c1_i32_1679
  let c2_i32_1675 : BitVec 32 := 2#32
  let v3793 : BitVec 32 := Scalar.shrsi v3788 c2_i32_1675
  let v3805 : BitVec 1 := Scalar.cmpi .sge v3797 v3793
  let v3806 : BitVec 1 := Scalar.cmpi .sgt v3792 v3788
  let v3807 : BitVec 1 := Scalar.andi v3805 v3806
  let c0_i32_1683 : BitVec 32 := 0#32
  let v3801 : BitVec 32 := Scalar.maxsi v3797 c0_i32_1683
  let c5_i32_1684 : BitVec 32 := 5#32
  let v3802 : BitVec 32 := Scalar.shrsi v3801 c5_i32_1684
  let c5958_i32_1685 : BitVec 32 := 5958#32
  let v3803 : BitVec 32 := Scalar.muli v3802 c5958_i32_1685
  let c16_i32_1686 : BitVec 32 := 16#32
  let v3804 : BitVec 32 := Scalar.shrsi v3803 c16_i32_1686
  let c5_i32_1680 : BitVec 32 := 5#32
  let v3798 : BitVec 32 := Scalar.shrsi v3793 c5_i32_1680
  let c5958_i32_1681 : BitVec 32 := 5958#32
  let v3799 : BitVec 32 := Scalar.muli v3798 c5958_i32_1681
  let c16_i32_1682 : BitVec 32 := 16#32
  let v3800 : BitVec 32 := Scalar.shrsi v3799 c16_i32_1682
  let v3813 : BitVec 1 := Scalar.cmpi .sgt v3804 v3800
  let v3814 : BitVec 1 := Scalar.andi v3807 v3813
  let c1_i32_1690 : BitVec 32 := 1#32
  let v3815 : BitVec 32 := Scalar.subi v3804 c1_i32_1690
  let c128_i32_1691 : BitVec 32 := 128#32
  let v3816 : BitVec 32 := Scalar.select v3814 v3815 c128_i32_1691
  let v3819 : Index := Scalar.indexCast v3816
  let c0_1693 : Index := 0#32
  ![v3819.toNat, 0]
def k0_off73 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1670 : BitVec 32 := 8#32
  let v3784 : BitVec 32 := Scalar.muli arg17 c8_i32_1670
  let c5_i32_1671 : BitVec 32 := 5#32
  let v3785 : BitVec 32 := Scalar.addi v3784 c5_i32_1671
  let v3822 : Index := Scalar.indexCast v3785
  let c0_1694 : Index := 0#32
  ![v3822.toNat, 0]
def k0_off74 (v3788 : BitVec 32) (v3792 : BitVec 32) : Fin 2 → Nat :=
  let c1_i32_1676 : BitVec 32 := 1#32
  let v3794 : BitVec 32 := Scalar.subi v3792 c1_i32_1676
  let c0_i32_1677 : BitVec 32 := 0#32
  let v3795 : BitVec 32 := Scalar.maxsi v3794 c0_i32_1677
  let c2_i32_1678 : BitVec 32 := 2#32
  let v3796 : BitVec 32 := Scalar.shrsi v3795 c2_i32_1678
  let c1_i32_1679 : BitVec 32 := 1#32
  let v3797 : BitVec 32 := Scalar.subi v3796 c1_i32_1679
  let c2_i32_1675 : BitVec 32 := 2#32
  let v3793 : BitVec 32 := Scalar.shrsi v3788 c2_i32_1675
  let v3805 : BitVec 1 := Scalar.cmpi .sge v3797 v3793
  let v3806 : BitVec 1 := Scalar.cmpi .sgt v3792 v3788
  let v3807 : BitVec 1 := Scalar.andi v3805 v3806
  let c0_i32_1683 : BitVec 32 := 0#32
  let v3801 : BitVec 32 := Scalar.maxsi v3797 c0_i32_1683
  let c5_i32_1684 : BitVec 32 := 5#32
  let v3802 : BitVec 32 := Scalar.shrsi v3801 c5_i32_1684
  let c5958_i32_1685 : BitVec 32 := 5958#32
  let v3803 : BitVec 32 := Scalar.muli v3802 c5958_i32_1685
  let c16_i32_1686 : BitVec 32 := 16#32
  let v3804 : BitVec 32 := Scalar.shrsi v3803 c16_i32_1686
  let c352_i32_1687 : BitVec 32 := 352#32
  let v3808 : BitVec 32 := Scalar.muli v3804 c352_i32_1687
  let v3809 : BitVec 32 := Scalar.subi v3797 v3808
  let c128_i32_1688 : BitVec 32 := 128#32
  let v3810 : BitVec 32 := Scalar.muli v3809 c128_i32_1688
  let v3811 : BitVec 32 := Scalar.addi v3810 v3804
  let c45056_i32_1689 : BitVec 32 := 45056#32
  let v3812 : BitVec 32 := Scalar.select v3807 v3811 c45056_i32_1689
  let v3826 : Index := Scalar.indexCast v3812
  let c0_1695 : Index := 0#32
  ![v3826.toNat, 0]
def k0_off75 (v3788 : BitVec 32) (v3792 : BitVec 32) : Fin 2 → Nat :=
  let c1_i32_1676 : BitVec 32 := 1#32
  let v3794 : BitVec 32 := Scalar.subi v3792 c1_i32_1676
  let c0_i32_1677 : BitVec 32 := 0#32
  let v3795 : BitVec 32 := Scalar.maxsi v3794 c0_i32_1677
  let c2_i32_1678 : BitVec 32 := 2#32
  let v3796 : BitVec 32 := Scalar.shrsi v3795 c2_i32_1678
  let c1_i32_1679 : BitVec 32 := 1#32
  let v3797 : BitVec 32 := Scalar.subi v3796 c1_i32_1679
  let c2_i32_1675 : BitVec 32 := 2#32
  let v3793 : BitVec 32 := Scalar.shrsi v3788 c2_i32_1675
  let v3805 : BitVec 1 := Scalar.cmpi .sge v3797 v3793
  let v3806 : BitVec 1 := Scalar.cmpi .sgt v3792 v3788
  let v3807 : BitVec 1 := Scalar.andi v3805 v3806
  let c0_i32_1683 : BitVec 32 := 0#32
  let v3801 : BitVec 32 := Scalar.maxsi v3797 c0_i32_1683
  let c5_i32_1684 : BitVec 32 := 5#32
  let v3802 : BitVec 32 := Scalar.shrsi v3801 c5_i32_1684
  let c5958_i32_1685 : BitVec 32 := 5958#32
  let v3803 : BitVec 32 := Scalar.muli v3802 c5958_i32_1685
  let c16_i32_1686 : BitVec 32 := 16#32
  let v3804 : BitVec 32 := Scalar.shrsi v3803 c16_i32_1686
  let c5_i32_1680 : BitVec 32 := 5#32
  let v3798 : BitVec 32 := Scalar.shrsi v3793 c5_i32_1680
  let c5958_i32_1681 : BitVec 32 := 5958#32
  let v3799 : BitVec 32 := Scalar.muli v3798 c5958_i32_1681
  let c16_i32_1682 : BitVec 32 := 16#32
  let v3800 : BitVec 32 := Scalar.shrsi v3799 c16_i32_1682
  let v3813 : BitVec 1 := Scalar.cmpi .sgt v3804 v3800
  let v3814 : BitVec 1 := Scalar.andi v3807 v3813
  let c1_i32_1690 : BitVec 32 := 1#32
  let v3815 : BitVec 32 := Scalar.subi v3804 c1_i32_1690
  let c128_i32_1691 : BitVec 32 := 128#32
  let v3816 : BitVec 32 := Scalar.select v3814 v3815 c128_i32_1691
  let v3828 : Index := Scalar.indexCast v3816
  let c0_1696 : Index := 0#32
  ![v3828.toNat, 0]

def k0_chk14 (v3788 : BitVec 32) (v3792 : BitVec 32) : Prop :=
  (∀ a, (k0_off71 v3788 v3792) a + S1x128.size a ≤ S45064x128.size a) ∧
  (∀ a, (k0_off72 v3788 v3792) a + S1x128.size a ≤ S136x128.size a) ∧
  (∀ a, (k0_off74 v3788 v3792) a + S1x96.size a ≤ S45064x96.size a) ∧
  (∀ a, (k0_off75 v3788 v3792) a + S1x96.size a ≤ S136x128.size a)
theorem k0_off71_inb : ∀ (v3788 : BitVec 32) (v3792 : BitVec 32) (k0_hw14 : k0_chk14 v3788 v3792), ∀ a, (k0_off71 v3788 v3792) a + S1x128.size a ≤ S45064x128.size a := fun v3788 v3792 k0_hw14 => k0_hw14.1
theorem k0_off72_inb : ∀ (v3788 : BitVec 32) (v3792 : BitVec 32) (k0_hw14 : k0_chk14 v3788 v3792), ∀ a, (k0_off72 v3788 v3792) a + S1x128.size a ≤ S136x128.size a := fun v3788 v3792 k0_hw14 => k0_hw14.2.1
theorem k0_off74_inb : ∀ (v3788 : BitVec 32) (v3792 : BitVec 32) (k0_hw14 : k0_chk14 v3788 v3792), ∀ a, (k0_off74 v3788 v3792) a + S1x96.size a ≤ S45064x96.size a := fun v3788 v3792 k0_hw14 => k0_hw14.2.2.1
theorem k0_off75_inb : ∀ (v3788 : BitVec 32) (v3792 : BitVec 32) (k0_hw14 : k0_chk14 v3788 v3792), ∀ a, (k0_off75 v3788 v3792) a + S1x96.size a ≤ S136x128.size a := fun v3788 v3792 k0_hw14 => k0_hw14.2.2.2

def k0_off76 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1670 : BitVec 32 := 8#32
  let v3784 : BitVec 32 := Scalar.muli arg17 c8_i32_1670
  let c5_i32_1671 : BitVec 32 := 5#32
  let v3785 : BitVec 32 := Scalar.addi v3784 c5_i32_1671
  let v3831 : Index := Scalar.indexCast v3785
  let c0_1697 : Index := 0#32
  ![v3831.toNat, 0]
def k0_off77 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1698 : BitVec 32 := 8#32
  let v3835 : BitVec 32 := Scalar.muli arg17 c8_i32_1698
  let c6_i32 : BitVec 32 := 6#32
  let v3836 : BitVec 32 := Scalar.addi v3835 c6_i32
  let c1000_i32_1699 : BitVec 32 := 1000#32
  let v3837 : BitVec 32 := Scalar.minsi v3836 c1000_i32_1699
  let v3838 : Index := Scalar.indexCast v3837
  ![v3838.toNat]
def k0_off78 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1698 : BitVec 32 := 8#32
  let v3835 : BitVec 32 := Scalar.muli arg17 c8_i32_1698
  let c6_i32 : BitVec 32 := 6#32
  let v3836 : BitVec 32 := Scalar.addi v3835 c6_i32
  let c1_i32_1700 : BitVec 32 := 1#32
  let v3840 : BitVec 32 := Scalar.addi v3836 c1_i32_1700
  let c1000_i32_1701 : BitVec 32 := 1000#32
  let v3841 : BitVec 32 := Scalar.minsi v3840 c1000_i32_1701
  let v3842 : Index := Scalar.indexCast v3841
  ![v3842.toNat]
def k0_off79 (v3839 : BitVec 32) (v3843 : BitVec 32) : Fin 2 → Nat :=
  let c1_i32_1703 : BitVec 32 := 1#32
  let v3845 : BitVec 32 := Scalar.subi v3843 c1_i32_1703
  let c0_i32_1704 : BitVec 32 := 0#32
  let v3846 : BitVec 32 := Scalar.maxsi v3845 c0_i32_1704
  let c2_i32_1705 : BitVec 32 := 2#32
  let v3847 : BitVec 32 := Scalar.shrsi v3846 c2_i32_1705
  let c1_i32_1706 : BitVec 32 := 1#32
  let v3848 : BitVec 32 := Scalar.subi v3847 c1_i32_1706
  let c2_i32_1702 : BitVec 32 := 2#32
  let v3844 : BitVec 32 := Scalar.shrsi v3839 c2_i32_1702
  let v3856 : BitVec 1 := Scalar.cmpi .sge v3848 v3844
  let v3857 : BitVec 1 := Scalar.cmpi .sgt v3843 v3839
  let v3858 : BitVec 1 := Scalar.andi v3856 v3857
  let c0_i32_1710 : BitVec 32 := 0#32
  let v3852 : BitVec 32 := Scalar.maxsi v3848 c0_i32_1710
  let c5_i32_1711 : BitVec 32 := 5#32
  let v3853 : BitVec 32 := Scalar.shrsi v3852 c5_i32_1711
  let c5958_i32_1712 : BitVec 32 := 5958#32
  let v3854 : BitVec 32 := Scalar.muli v3853 c5958_i32_1712
  let c16_i32_1713 : BitVec 32 := 16#32
  let v3855 : BitVec 32 := Scalar.shrsi v3854 c16_i32_1713
  let c352_i32_1714 : BitVec 32 := 352#32
  let v3859 : BitVec 32 := Scalar.muli v3855 c352_i32_1714
  let v3860 : BitVec 32 := Scalar.subi v3848 v3859
  let c128_i32_1715 : BitVec 32 := 128#32
  let v3861 : BitVec 32 := Scalar.muli v3860 c128_i32_1715
  let v3862 : BitVec 32 := Scalar.addi v3861 v3855
  let c45056_i32_1716 : BitVec 32 := 45056#32
  let v3863 : BitVec 32 := Scalar.select v3858 v3862 c45056_i32_1716
  let v3868 : Index := Scalar.indexCast v3863
  let c0_1719 : Index := 0#32
  ![v3868.toNat, 0]

def k0_off80 (v3839 : BitVec 32) (v3843 : BitVec 32) : Fin 2 → Nat :=
  let c1_i32_1703 : BitVec 32 := 1#32
  let v3845 : BitVec 32 := Scalar.subi v3843 c1_i32_1703
  let c0_i32_1704 : BitVec 32 := 0#32
  let v3846 : BitVec 32 := Scalar.maxsi v3845 c0_i32_1704
  let c2_i32_1705 : BitVec 32 := 2#32
  let v3847 : BitVec 32 := Scalar.shrsi v3846 c2_i32_1705
  let c1_i32_1706 : BitVec 32 := 1#32
  let v3848 : BitVec 32 := Scalar.subi v3847 c1_i32_1706
  let c2_i32_1702 : BitVec 32 := 2#32
  let v3844 : BitVec 32 := Scalar.shrsi v3839 c2_i32_1702
  let v3856 : BitVec 1 := Scalar.cmpi .sge v3848 v3844
  let v3857 : BitVec 1 := Scalar.cmpi .sgt v3843 v3839
  let v3858 : BitVec 1 := Scalar.andi v3856 v3857
  let c0_i32_1710 : BitVec 32 := 0#32
  let v3852 : BitVec 32 := Scalar.maxsi v3848 c0_i32_1710
  let c5_i32_1711 : BitVec 32 := 5#32
  let v3853 : BitVec 32 := Scalar.shrsi v3852 c5_i32_1711
  let c5958_i32_1712 : BitVec 32 := 5958#32
  let v3854 : BitVec 32 := Scalar.muli v3853 c5958_i32_1712
  let c16_i32_1713 : BitVec 32 := 16#32
  let v3855 : BitVec 32 := Scalar.shrsi v3854 c16_i32_1713
  let c5_i32_1707 : BitVec 32 := 5#32
  let v3849 : BitVec 32 := Scalar.shrsi v3844 c5_i32_1707
  let c5958_i32_1708 : BitVec 32 := 5958#32
  let v3850 : BitVec 32 := Scalar.muli v3849 c5958_i32_1708
  let c16_i32_1709 : BitVec 32 := 16#32
  let v3851 : BitVec 32 := Scalar.shrsi v3850 c16_i32_1709
  let v3864 : BitVec 1 := Scalar.cmpi .sgt v3855 v3851
  let v3865 : BitVec 1 := Scalar.andi v3858 v3864
  let c1_i32_1717 : BitVec 32 := 1#32
  let v3866 : BitVec 32 := Scalar.subi v3855 c1_i32_1717
  let c128_i32_1718 : BitVec 32 := 128#32
  let v3867 : BitVec 32 := Scalar.select v3865 v3866 c128_i32_1718
  let v3870 : Index := Scalar.indexCast v3867
  let c0_1720 : Index := 0#32
  ![v3870.toNat, 0]
def k0_off81 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1698 : BitVec 32 := 8#32
  let v3835 : BitVec 32 := Scalar.muli arg17 c8_i32_1698
  let c6_i32 : BitVec 32 := 6#32
  let v3836 : BitVec 32 := Scalar.addi v3835 c6_i32
  let v3873 : Index := Scalar.indexCast v3836
  let c0_1721 : Index := 0#32
  ![v3873.toNat, 0]
def k0_off82 (v3839 : BitVec 32) (v3843 : BitVec 32) : Fin 2 → Nat :=
  let c1_i32_1703 : BitVec 32 := 1#32
  let v3845 : BitVec 32 := Scalar.subi v3843 c1_i32_1703
  let c0_i32_1704 : BitVec 32 := 0#32
  let v3846 : BitVec 32 := Scalar.maxsi v3845 c0_i32_1704
  let c2_i32_1705 : BitVec 32 := 2#32
  let v3847 : BitVec 32 := Scalar.shrsi v3846 c2_i32_1705
  let c1_i32_1706 : BitVec 32 := 1#32
  let v3848 : BitVec 32 := Scalar.subi v3847 c1_i32_1706
  let c2_i32_1702 : BitVec 32 := 2#32
  let v3844 : BitVec 32 := Scalar.shrsi v3839 c2_i32_1702
  let v3856 : BitVec 1 := Scalar.cmpi .sge v3848 v3844
  let v3857 : BitVec 1 := Scalar.cmpi .sgt v3843 v3839
  let v3858 : BitVec 1 := Scalar.andi v3856 v3857
  let c0_i32_1710 : BitVec 32 := 0#32
  let v3852 : BitVec 32 := Scalar.maxsi v3848 c0_i32_1710
  let c5_i32_1711 : BitVec 32 := 5#32
  let v3853 : BitVec 32 := Scalar.shrsi v3852 c5_i32_1711
  let c5958_i32_1712 : BitVec 32 := 5958#32
  let v3854 : BitVec 32 := Scalar.muli v3853 c5958_i32_1712
  let c16_i32_1713 : BitVec 32 := 16#32
  let v3855 : BitVec 32 := Scalar.shrsi v3854 c16_i32_1713
  let c352_i32_1714 : BitVec 32 := 352#32
  let v3859 : BitVec 32 := Scalar.muli v3855 c352_i32_1714
  let v3860 : BitVec 32 := Scalar.subi v3848 v3859
  let c128_i32_1715 : BitVec 32 := 128#32
  let v3861 : BitVec 32 := Scalar.muli v3860 c128_i32_1715
  let v3862 : BitVec 32 := Scalar.addi v3861 v3855
  let c45056_i32_1716 : BitVec 32 := 45056#32
  let v3863 : BitVec 32 := Scalar.select v3858 v3862 c45056_i32_1716
  let v3877 : Index := Scalar.indexCast v3863
  let c0_1722 : Index := 0#32
  ![v3877.toNat, 0]
def k0_off83 (v3839 : BitVec 32) (v3843 : BitVec 32) : Fin 2 → Nat :=
  let c1_i32_1703 : BitVec 32 := 1#32
  let v3845 : BitVec 32 := Scalar.subi v3843 c1_i32_1703
  let c0_i32_1704 : BitVec 32 := 0#32
  let v3846 : BitVec 32 := Scalar.maxsi v3845 c0_i32_1704
  let c2_i32_1705 : BitVec 32 := 2#32
  let v3847 : BitVec 32 := Scalar.shrsi v3846 c2_i32_1705
  let c1_i32_1706 : BitVec 32 := 1#32
  let v3848 : BitVec 32 := Scalar.subi v3847 c1_i32_1706
  let c2_i32_1702 : BitVec 32 := 2#32
  let v3844 : BitVec 32 := Scalar.shrsi v3839 c2_i32_1702
  let v3856 : BitVec 1 := Scalar.cmpi .sge v3848 v3844
  let v3857 : BitVec 1 := Scalar.cmpi .sgt v3843 v3839
  let v3858 : BitVec 1 := Scalar.andi v3856 v3857
  let c0_i32_1710 : BitVec 32 := 0#32
  let v3852 : BitVec 32 := Scalar.maxsi v3848 c0_i32_1710
  let c5_i32_1711 : BitVec 32 := 5#32
  let v3853 : BitVec 32 := Scalar.shrsi v3852 c5_i32_1711
  let c5958_i32_1712 : BitVec 32 := 5958#32
  let v3854 : BitVec 32 := Scalar.muli v3853 c5958_i32_1712
  let c16_i32_1713 : BitVec 32 := 16#32
  let v3855 : BitVec 32 := Scalar.shrsi v3854 c16_i32_1713
  let c5_i32_1707 : BitVec 32 := 5#32
  let v3849 : BitVec 32 := Scalar.shrsi v3844 c5_i32_1707
  let c5958_i32_1708 : BitVec 32 := 5958#32
  let v3850 : BitVec 32 := Scalar.muli v3849 c5958_i32_1708
  let c16_i32_1709 : BitVec 32 := 16#32
  let v3851 : BitVec 32 := Scalar.shrsi v3850 c16_i32_1709
  let v3864 : BitVec 1 := Scalar.cmpi .sgt v3855 v3851
  let v3865 : BitVec 1 := Scalar.andi v3858 v3864
  let c1_i32_1717 : BitVec 32 := 1#32
  let v3866 : BitVec 32 := Scalar.subi v3855 c1_i32_1717
  let c128_i32_1718 : BitVec 32 := 128#32
  let v3867 : BitVec 32 := Scalar.select v3865 v3866 c128_i32_1718
  let v3879 : Index := Scalar.indexCast v3867
  let c0_1723 : Index := 0#32
  ![v3879.toNat, 0]

def k0_chk15 (v3839 : BitVec 32) (v3843 : BitVec 32) : Prop :=
  (∀ a, (k0_off79 v3839 v3843) a + S1x128.size a ≤ S45064x128.size a) ∧
  (∀ a, (k0_off80 v3839 v3843) a + S1x128.size a ≤ S136x128.size a) ∧
  (∀ a, (k0_off82 v3839 v3843) a + S1x96.size a ≤ S45064x96.size a) ∧
  (∀ a, (k0_off83 v3839 v3843) a + S1x96.size a ≤ S136x128.size a)
theorem k0_off79_inb : ∀ (v3839 : BitVec 32) (v3843 : BitVec 32) (k0_hw15 : k0_chk15 v3839 v3843), ∀ a, (k0_off79 v3839 v3843) a + S1x128.size a ≤ S45064x128.size a := fun v3839 v3843 k0_hw15 => k0_hw15.1
theorem k0_off80_inb : ∀ (v3839 : BitVec 32) (v3843 : BitVec 32) (k0_hw15 : k0_chk15 v3839 v3843), ∀ a, (k0_off80 v3839 v3843) a + S1x128.size a ≤ S136x128.size a := fun v3839 v3843 k0_hw15 => k0_hw15.2.1
theorem k0_off82_inb : ∀ (v3839 : BitVec 32) (v3843 : BitVec 32) (k0_hw15 : k0_chk15 v3839 v3843), ∀ a, (k0_off82 v3839 v3843) a + S1x96.size a ≤ S45064x96.size a := fun v3839 v3843 k0_hw15 => k0_hw15.2.2.1
theorem k0_off83_inb : ∀ (v3839 : BitVec 32) (v3843 : BitVec 32) (k0_hw15 : k0_chk15 v3839 v3843), ∀ a, (k0_off83 v3839 v3843) a + S1x96.size a ≤ S136x128.size a := fun v3839 v3843 k0_hw15 => k0_hw15.2.2.2

def k0_off84 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1698 : BitVec 32 := 8#32
  let v3835 : BitVec 32 := Scalar.muli arg17 c8_i32_1698
  let c6_i32 : BitVec 32 := 6#32
  let v3836 : BitVec 32 := Scalar.addi v3835 c6_i32
  let v3882 : Index := Scalar.indexCast v3836
  let c0_1724 : Index := 0#32
  ![v3882.toNat, 0]
def k0_off85 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1725 : BitVec 32 := 8#32
  let v3886 : BitVec 32 := Scalar.muli arg17 c8_i32_1725
  let c7_i32_1726 : BitVec 32 := 7#32
  let v3887 : BitVec 32 := Scalar.addi v3886 c7_i32_1726
  let c1000_i32_1727 : BitVec 32 := 1000#32
  let v3888 : BitVec 32 := Scalar.minsi v3887 c1000_i32_1727
  let v3889 : Index := Scalar.indexCast v3888
  ![v3889.toNat]
def k0_off86 (k0_t3 : Fin k0_t3_loop.trips) : Fin 1 → Nat :=
  let c0_i32_90 : BitVec 32 := 0#32
  let c1_i32_92 : BitVec 32 := 1#32
  let arg17 : BitVec 32 := Scf.iv c0_i32_90 c1_i32_92 k0_t3
  let c8_i32_1725 : BitVec 32 := 8#32
  let v3886 : BitVec 32 := Scalar.muli arg17 c8_i32_1725
  let c7_i32_1726 : BitVec 32 := 7#32
  let v3887 : BitVec 32 := Scalar.addi v3886 c7_i32_1726
  let c1_i32_1728 : BitVec 32 := 1#32
  let v3891 : BitVec 32 := Scalar.addi v3887 c1_i32_1728
  let c1000_i32_1729 : BitVec 32 := 1000#32
  let v3892 : BitVec 32 := Scalar.minsi v3891 c1000_i32_1729
  let v3893 : Index := Scalar.indexCast v3892
  ![v3893.toNat]
def k0_off87 (v3890 : BitVec 32) (v3894 : BitVec 32) : Fin 2 → Nat :=
  let c1_i32_1731 : BitVec 32 := 1#32
  let v3896 : BitVec 32 := Scalar.subi v3894 c1_i32_1731
  let c0_i32_1732 : BitVec 32 := 0#32
  let v3897 : BitVec 32 := Scalar.maxsi v3896 c0_i32_1732
  let c2_i32_1733 : BitVec 32 := 2#32
  let v3898 : BitVec 32 := Scalar.shrsi v3897 c2_i32_1733
  let c1_i32_1734 : BitVec 32 := 1#32
  let v3899 : BitVec 32 := Scalar.subi v3898 c1_i32_1734
  let c2_i32_1730 : BitVec 32 := 2#32
  let v3895 : BitVec 32 := Scalar.shrsi v3890 c2_i32_1730
  let v3907 : BitVec 1 := Scalar.cmpi .sge v3899 v3895
  let v3908 : BitVec 1 := Scalar.cmpi .sgt v3894 v3890
  let v3909 : BitVec 1 := Scalar.andi v3907 v3908
  let c0_i32_1738 : BitVec 32 := 0#32
  let v3903 : BitVec 32 := Scalar.maxsi v3899 c0_i32_1738
  let c5_i32_1739 : BitVec 32 := 5#32
  let v3904 : BitVec 32 := Scalar.shrsi v3903 c5_i32_1739
  let c5958_i32_1740 : BitVec 32 := 5958#32
  let v3905 : BitVec 32 := Scalar.muli v3904 c5958_i32_1740
  let c16_i32_1741 : BitVec 32 := 16#32
  let v3906 : BitVec 32 := Scalar.shrsi v3905 c16_i32_1741
  let c352_i32_1742 : BitVec 32 := 352#32
  let v3910 : BitVec 32 := Scalar.muli v3906 c352_i32_1742
  let v3911 : BitVec 32 := Scalar.subi v3899 v3910
  let c128_i32_1743 : BitVec 32 := 128#32
  let v3912 : BitVec 32 := Scalar.muli v3911 c128_i32_1743
  let v3913 : BitVec 32 := Scalar.addi v3912 v3906
  let c45056_i32_1744 : BitVec 32 := 45056#32
  let v3914 : BitVec 32 := Scalar.select v3909 v3913 c45056_i32_1744
  let v3919 : Index := Scalar.indexCast v3914
  let c0_1747 : Index := 0#32
  ![v3919.toNat, 0]

def k0_off88 (v3890 : BitVec 32) (v3894 : BitVec 32) : Fin 2 → Nat :=
  let c1_i32_1731 : BitVec 32 := 1#32
  let v3896 : BitVec 32 := Scalar.subi v3894 c1_i32_1731
  let c0_i32_1732 : BitVec 32 := 0#32
  let v3897 : BitVec 32 := Scalar.maxsi v3896 c0_i32_1732
  let c2_i32_1733 : BitVec 32 := 2#32
  let v3898 : BitVec 32 := Scalar.shrsi v3897 c2_i32_1733
  let c1_i32_1734 : BitVec 32 := 1#32
  let v3899 : BitVec 32 := Scalar.subi v3898 c1_i32_1734
  let c2_i32_1730 : BitVec 32 := 2#32
  let v3895 : BitVec 32 := Scalar.shrsi v3890 c2_i32_1730
  let v3907 : BitVec 1 := Scalar.cmpi .sge v3899 v3895
  let v3908 : BitVec 1 := Scalar.cmpi .sgt v3894 v3890
  let v3909 : BitVec 1 := Scalar.andi v3907 v3908
  let c0_i32_1738 : BitVec 32 := 0#32
  let v3903 : BitVec 32 := Scalar.maxsi v3899 c0_i32_1738
  let c5_i32_1739 : BitVec 32 := 5#32
  let v3904 : BitVec 32 := Scalar.shrsi v3903 c5_i32_1739
  let c5958_i32_1740 : BitVec 32 := 5958#32
  let v3905 : BitVec 32 := Scalar.muli v3904 c5958_i32_1740
  let c16_i32_1741 : BitVec 32 := 16#32
  let v3906 : BitVec 32 := Scalar.shrsi v3905 c16_i32_1741
  let c5_i32_1735 : BitVec 32 := 5#32
  let v3900 : BitVec 32 := Scalar.shrsi v3895 c5_i32_1735
  let c5958_i32_1736 : BitVec 32 := 5958#32
  let v3901 : BitVec 32 := Scalar.muli v3900 c5958_i32_1736
  let c16_i32_1737 : BitVec 32 := 16#32
  let v3902 : BitVec 32 := Scalar.shrsi v3901 c16_i32_1737
  let v3915 : BitVec 1 := Scalar.cmpi .sgt v3906 v3902
  let v3916 : BitVec 1 := Scalar.andi v3909 v3915
  let c1_i32_1745 : BitVec 32 := 1#32
  let v3917 : BitVec 32 := Scalar.subi v3906 c1_i32_1745
  let c128_i32_1746 : BitVec 32 := 128#32
  let v3918 : BitVec 32 := Scalar.select v3916 v3917 c128_i32_1746
  let v3921 : Index := Scalar.indexCast v3918
  let c0_1748 : Index := 0#32
  ![v3921.toNat, 0]
def k0_off89 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1725 : BitVec 32 := 8#32
  let v3886 : BitVec 32 := Scalar.muli arg17 c8_i32_1725
  let c7_i32_1726 : BitVec 32 := 7#32
  let v3887 : BitVec 32 := Scalar.addi v3886 c7_i32_1726
  let v3924 : Index := Scalar.indexCast v3887
  let c0_1749 : Index := 0#32
  ![v3924.toNat, 0]
def k0_off90 (v3890 : BitVec 32) (v3894 : BitVec 32) : Fin 2 → Nat :=
  let c1_i32_1731 : BitVec 32 := 1#32
  let v3896 : BitVec 32 := Scalar.subi v3894 c1_i32_1731
  let c0_i32_1732 : BitVec 32 := 0#32
  let v3897 : BitVec 32 := Scalar.maxsi v3896 c0_i32_1732
  let c2_i32_1733 : BitVec 32 := 2#32
  let v3898 : BitVec 32 := Scalar.shrsi v3897 c2_i32_1733
  let c1_i32_1734 : BitVec 32 := 1#32
  let v3899 : BitVec 32 := Scalar.subi v3898 c1_i32_1734
  let c2_i32_1730 : BitVec 32 := 2#32
  let v3895 : BitVec 32 := Scalar.shrsi v3890 c2_i32_1730
  let v3907 : BitVec 1 := Scalar.cmpi .sge v3899 v3895
  let v3908 : BitVec 1 := Scalar.cmpi .sgt v3894 v3890
  let v3909 : BitVec 1 := Scalar.andi v3907 v3908
  let c0_i32_1738 : BitVec 32 := 0#32
  let v3903 : BitVec 32 := Scalar.maxsi v3899 c0_i32_1738
  let c5_i32_1739 : BitVec 32 := 5#32
  let v3904 : BitVec 32 := Scalar.shrsi v3903 c5_i32_1739
  let c5958_i32_1740 : BitVec 32 := 5958#32
  let v3905 : BitVec 32 := Scalar.muli v3904 c5958_i32_1740
  let c16_i32_1741 : BitVec 32 := 16#32
  let v3906 : BitVec 32 := Scalar.shrsi v3905 c16_i32_1741
  let c352_i32_1742 : BitVec 32 := 352#32
  let v3910 : BitVec 32 := Scalar.muli v3906 c352_i32_1742
  let v3911 : BitVec 32 := Scalar.subi v3899 v3910
  let c128_i32_1743 : BitVec 32 := 128#32
  let v3912 : BitVec 32 := Scalar.muli v3911 c128_i32_1743
  let v3913 : BitVec 32 := Scalar.addi v3912 v3906
  let c45056_i32_1744 : BitVec 32 := 45056#32
  let v3914 : BitVec 32 := Scalar.select v3909 v3913 c45056_i32_1744
  let v3928 : Index := Scalar.indexCast v3914
  let c0_1750 : Index := 0#32
  ![v3928.toNat, 0]
def k0_off91 (v3890 : BitVec 32) (v3894 : BitVec 32) : Fin 2 → Nat :=
  let c1_i32_1731 : BitVec 32 := 1#32
  let v3896 : BitVec 32 := Scalar.subi v3894 c1_i32_1731
  let c0_i32_1732 : BitVec 32 := 0#32
  let v3897 : BitVec 32 := Scalar.maxsi v3896 c0_i32_1732
  let c2_i32_1733 : BitVec 32 := 2#32
  let v3898 : BitVec 32 := Scalar.shrsi v3897 c2_i32_1733
  let c1_i32_1734 : BitVec 32 := 1#32
  let v3899 : BitVec 32 := Scalar.subi v3898 c1_i32_1734
  let c2_i32_1730 : BitVec 32 := 2#32
  let v3895 : BitVec 32 := Scalar.shrsi v3890 c2_i32_1730
  let v3907 : BitVec 1 := Scalar.cmpi .sge v3899 v3895
  let v3908 : BitVec 1 := Scalar.cmpi .sgt v3894 v3890
  let v3909 : BitVec 1 := Scalar.andi v3907 v3908
  let c0_i32_1738 : BitVec 32 := 0#32
  let v3903 : BitVec 32 := Scalar.maxsi v3899 c0_i32_1738
  let c5_i32_1739 : BitVec 32 := 5#32
  let v3904 : BitVec 32 := Scalar.shrsi v3903 c5_i32_1739
  let c5958_i32_1740 : BitVec 32 := 5958#32
  let v3905 : BitVec 32 := Scalar.muli v3904 c5958_i32_1740
  let c16_i32_1741 : BitVec 32 := 16#32
  let v3906 : BitVec 32 := Scalar.shrsi v3905 c16_i32_1741
  let c5_i32_1735 : BitVec 32 := 5#32
  let v3900 : BitVec 32 := Scalar.shrsi v3895 c5_i32_1735
  let c5958_i32_1736 : BitVec 32 := 5958#32
  let v3901 : BitVec 32 := Scalar.muli v3900 c5958_i32_1736
  let c16_i32_1737 : BitVec 32 := 16#32
  let v3902 : BitVec 32 := Scalar.shrsi v3901 c16_i32_1737
  let v3915 : BitVec 1 := Scalar.cmpi .sgt v3906 v3902
  let v3916 : BitVec 1 := Scalar.andi v3909 v3915
  let c1_i32_1745 : BitVec 32 := 1#32
  let v3917 : BitVec 32 := Scalar.subi v3906 c1_i32_1745
  let c128_i32_1746 : BitVec 32 := 128#32
  let v3918 : BitVec 32 := Scalar.select v3916 v3917 c128_i32_1746
  let v3930 : Index := Scalar.indexCast v3918
  let c0_1751 : Index := 0#32
  ![v3930.toNat, 0]

def k0_chk16 (v3890 : BitVec 32) (v3894 : BitVec 32) : Prop :=
  (∀ a, (k0_off87 v3890 v3894) a + S1x128.size a ≤ S45064x128.size a) ∧
  (∀ a, (k0_off88 v3890 v3894) a + S1x128.size a ≤ S136x128.size a) ∧
  (∀ a, (k0_off90 v3890 v3894) a + S1x96.size a ≤ S45064x96.size a) ∧
  (∀ a, (k0_off91 v3890 v3894) a + S1x96.size a ≤ S136x128.size a)
theorem k0_off87_inb : ∀ (v3890 : BitVec 32) (v3894 : BitVec 32) (k0_hw16 : k0_chk16 v3890 v3894), ∀ a, (k0_off87 v3890 v3894) a + S1x128.size a ≤ S45064x128.size a := fun v3890 v3894 k0_hw16 => k0_hw16.1
theorem k0_off88_inb : ∀ (v3890 : BitVec 32) (v3894 : BitVec 32) (k0_hw16 : k0_chk16 v3890 v3894), ∀ a, (k0_off88 v3890 v3894) a + S1x128.size a ≤ S136x128.size a := fun v3890 v3894 k0_hw16 => k0_hw16.2.1
theorem k0_off90_inb : ∀ (v3890 : BitVec 32) (v3894 : BitVec 32) (k0_hw16 : k0_chk16 v3890 v3894), ∀ a, (k0_off90 v3890 v3894) a + S1x96.size a ≤ S45064x96.size a := fun v3890 v3894 k0_hw16 => k0_hw16.2.2.1
theorem k0_off91_inb : ∀ (v3890 : BitVec 32) (v3894 : BitVec 32) (k0_hw16 : k0_chk16 v3890 v3894), ∀ a, (k0_off91 v3890 v3894) a + S1x96.size a ≤ S136x128.size a := fun v3890 v3894 k0_hw16 => k0_hw16.2.2.2

def k0_off92 (k0_t3 : Fin k0_t3_loop.trips) : Fin 2 → Nat :=
  let c0_i32_90 : BitVec 32 := 0#32
  let c1_i32_92 : BitVec 32 := 1#32
  let arg17 : BitVec 32 := Scf.iv c0_i32_90 c1_i32_92 k0_t3
  let c8_i32_1725 : BitVec 32 := 8#32
  let v3886 : BitVec 32 := Scalar.muli arg17 c8_i32_1725
  let c7_i32_1726 : BitVec 32 := 7#32
  let v3887 : BitVec 32 := Scalar.addi v3886 c7_i32_1726
  let v3933 : Index := Scalar.indexCast v3887
  let c0_1752 : Index := 0#32
  ![v3933.toNat, 0]
abbrev stage0_0 : Fin 1 → Memref sig .tc .smem S1001 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1001 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5632x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S7x32x128 : Shape := ⟨3, ![7, 32, 128]⟩
abbrev S180224x4 : Shape := ⟨2, ![180224, 4]⟩
abbrev S1001 : Shape := ⟨1, ![1001]⟩
abbrev S180224x4x1 : Shape := ⟨3, ![180224, 4, 1]⟩
abbrev S32 : Shape := ⟨1, ![32]⟩
abbrev S1x1x32 : Shape := ⟨3, ![1, 1, 32]⟩
abbrev S180224x4x32 : Shape := ⟨3, ![180224, 4, 32]⟩
abbrev S_ : Shape := ⟨0, ![]⟩
abbrev S7x32x4x32 : Shape := ⟨4, ![7, 32, 4, 32]⟩
abbrev S180224x7x32 : Shape := ⟨3, ![180224, 7, 32]⟩
abbrev S180224 : Shape := ⟨1, ![180224]⟩
abbrev S1x180224 : Shape := ⟨2, ![1, 180224]⟩
abbrev S1001x1 : Shape := ⟨2, ![1001, 1]⟩
abbrev S1001x180224 : Shape := ⟨2, ![1001, 180224]⟩
abbrev S1000 : Shape := ⟨1, ![1000]⟩
abbrev S1000x1 : Shape := ⟨2, ![1000, 1]⟩
abbrev S1000x180224 : Shape := ⟨2, ![1000, 180224]⟩
abbrev S1000x180224x1x1 : Shape := ⟨4, ![1000, 180224, 1, 1]⟩
abbrev S1x180224x7x32 : Shape := ⟨4, ![1, 180224, 7, 32]⟩
abbrev S1000x180224x7x32 : Shape := ⟨4, ![1000, 180224, 7, 32]⟩
abbrev S1000x7x32 : Shape := ⟨3, ![1000, 7, 32]⟩
abbrev S1000x1x1 : Shape := ⟨3, ![1000, 1, 1]⟩
abbrev S1000x7 : Shape := ⟨2, ![1000, 7]⟩

abbrev nBuf : Space → Nat
  | .hbm => 60
  | .vmem => 0
  | .smem => 0
  | _ => 0

abbrev bufTy : (tb : Table) → Fin (tcTables nBuf tb) → BufTy
  | .hbm, ⟨0, _⟩ => ⟨S7x32x128, .bf16⟩
  | .hbm, ⟨1, _⟩ => ⟨S180224x4, .i32⟩
  | .hbm, ⟨2, _⟩ => ⟨S1001, .i32⟩
  | .hbm, ⟨3, _⟩ => ⟨S180224x4x1, .i32⟩
  | .hbm, ⟨4, _⟩ => ⟨S32, .i32⟩
  | .hbm, ⟨5, _⟩ => ⟨S1x1x32, .i32⟩
  | .hbm, ⟨6, _⟩ => ⟨S180224x4x32, .i32⟩
  | .hbm, ⟨7, _⟩ => ⟨S180224x4x32, .i32⟩
  | .hbm, ⟨8, _⟩ => ⟨S180224x4x32, .i32⟩
  | .hbm, ⟨9, _⟩ => ⟨S_, .i32⟩
  | .hbm, ⟨10, _⟩ => ⟨S180224x4x32, .i32⟩
  | .hbm, ⟨11, _⟩ => ⟨S180224x4x32, .i32⟩
  | .hbm, ⟨12, _⟩ => ⟨S180224x4x32, .i32⟩
  | .hbm, ⟨13, _⟩ => ⟨S_, .i32⟩
  | .hbm, ⟨14, _⟩ => ⟨S180224x4x32, .i32⟩
  | .hbm, ⟨15, _⟩ => ⟨S180224x4x32, .i32⟩
  | .hbm, ⟨16, _⟩ => ⟨S_, .i32⟩
  | .hbm, ⟨17, _⟩ => ⟨S180224x4x32, .i32⟩
  | .hbm, ⟨18, _⟩ => ⟨S180224x4x32, .i32⟩
  | .hbm, ⟨19, _⟩ => ⟨S180224x4x32, .bf16⟩
  | .hbm, ⟨20, _⟩ => ⟨S7x32x4x32, .bf16⟩
  | .hbm, ⟨21, _⟩ => ⟨S180224x7x32, .f32⟩
  | .hbm, ⟨22, _⟩ => ⟨S180224, .i32⟩
  | .hbm, ⟨23, _⟩ => ⟨S1x180224, .i32⟩
  | .hbm, ⟨24, _⟩ => ⟨S1001x1, .i32⟩
  | .hbm, ⟨25, _⟩ => ⟨S1001x180224, .i32⟩
  | .hbm, ⟨26, _⟩ => ⟨S1001x180224, .i32⟩
  | .hbm, ⟨27, _⟩ => ⟨S1001x180224, .i1⟩
  | .hbm, ⟨28, _⟩ => ⟨S1001x180224, .i32⟩
  | .hbm, ⟨29, _⟩ => ⟨S_, .i32⟩
  | .hbm, ⟨30, _⟩ => ⟨S180224, .i32⟩
  | .hbm, ⟨31, _⟩ => ⟨S_, .i32⟩
  | .hbm, ⟨32, _⟩ => ⟨S180224, .i32⟩
  | .hbm, ⟨33, _⟩ => ⟨S180224, .i32⟩
  | .hbm, ⟨34, _⟩ => ⟨S1x180224, .i32⟩
  | .hbm, ⟨35, _⟩ => ⟨S1000, .i32⟩
  | .hbm, ⟨36, _⟩ => ⟨S1000x1, .i32⟩
  | .hbm, ⟨37, _⟩ => ⟨S1000x180224, .i32⟩
  | .hbm, ⟨38, _⟩ => ⟨S1000x180224, .i32⟩
  | .hbm, ⟨39, _⟩ => ⟨S1000x180224, .i1⟩
  | .hbm, ⟨40, _⟩ => ⟨S1000x180224x1x1, .i1⟩
  | .hbm, ⟨41, _⟩ => ⟨S1x180224x7x32, .f32⟩
  | .hbm, ⟨42, _⟩ => ⟨S_, .f32⟩
  | .hbm, ⟨43, _⟩ => ⟨S_, .f32⟩
  | .hbm, ⟨44, _⟩ => ⟨S1000x180224x7x32, .i1⟩
  | .hbm, ⟨45, _⟩ => ⟨S1000x180224x7x32, .f32⟩
  | .hbm, ⟨46, _⟩ => ⟨S1000x180224x7x32, .f32⟩
  | .hbm, ⟨47, _⟩ => ⟨S1000x180224x7x32, .f32⟩
  | .hbm, ⟨48, _⟩ => ⟨S_, .f32⟩
  | .hbm, ⟨49, _⟩ => ⟨S1000x7x32, .f32⟩
  | .hbm, ⟨50, _⟩ => ⟨S1000, .i32⟩
  | .hbm, ⟨51, _⟩ => ⟨S1000, .i32⟩
  | .hbm, ⟨52, _⟩ => ⟨S1000, .i1⟩
  | .hbm, ⟨53, _⟩ => ⟨S1000x1x1, .i1⟩
  | .hbm, ⟨54, _⟩ => ⟨S_, .f32⟩
  | .hbm, ⟨55, _⟩ => ⟨S1000x7x32, .i1⟩
  | .hbm, ⟨56, _⟩ => ⟨S1000x7x32, .f32⟩
  | .hbm, ⟨57, _⟩ => ⟨S1000x7x32, .f32⟩
  | .hbm, ⟨58, _⟩ => ⟨S_, .f32⟩
  | .hbm, ⟨59, _⟩ => ⟨S1000x7, .f32⟩
  | _, _ => ⟨S7x32x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_c : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proof.MaxSim.Program.lean ====
/- The kernel's body written once more as a short structured program: one definition per helper of the
   source (the bit unpacking, the score of four tiles, one group, one step, one block of documents), and
   the loops over groups, blocks and words as recursions instead of unrolled text. -/
module

public import proofs.«01_k».proof.KernelIdeal

@[expose] public section

set_option maxRecDepth 16384

noncomputable section

namespace Cert.KernelIdeal.MaxSim

open Idealize.ShloMosaic Idealize.SL.Sem Cert.KernelIdeal

variable {F : FTy → Type} [FloatOps F] [Facts]
open Facts₀ Facts

/-! ## The pure pieces -/

/-- The bit patterns of four words at 128 lanes, each broadcast over eight sublanes. -/
abbrev Tile := Fin 4 → IVec S8x128 32

/-- A row of 128 lanes broadcast over eight sublanes. -/
def bcast (row : IVec S1x128 32) : IVec S8x128 32 :=
  broadcastTo S8x128 (shapeCast S1x128 row shapeCasts_S1x128_S1x128) broadcasts_S1x128_S8x128

/-- Eight even-position pairs of a word's bits, each pair as two half-words equal to `0` or `2.0`. -/
def unpackLo (w : IVec S8x128 32) : IVec S8x128 32 :=
  andi (shli w (subi (broadcast S8x128 14#32) (iota .tc S8x128 32 [0] iota_S8x128_d0_w32)))
    (broadcast S8x128 1073758208#32)

/-- The other eight pairs of a word's bits. -/
def unpackHi (w : IVec S8x128 32) : IVec S8x128 32 :=
  andi (shli (shrui w (broadcast S8x128 1#32))
      (subi (broadcast S8x128 7#32) (iota .tc S8x128 32 [0] iota_S8x128_d0_w32)))
    (broadcast S8x128 1073758208#32)

/-- The 128 bits of a tile's token, per lane, as bfloat16 values in the hardware's packed row order. -/
def unpack (w : Tile) : FVec F S128x128 .bf16 :=
  bitcastToFloat .bf16 (bitcast S128x128 16 (concatenate S64x128 0
    [⟨S8x128, unpackLo (w 0)⟩, ⟨S8x128, unpackHi (w 0)⟩, ⟨S8x128, unpackLo (w 1)⟩, ⟨S8x128, unpackHi (w 1)⟩,
     ⟨S8x128, unpackLo (w 2)⟩, ⟨S8x128, unpackHi (w 2)⟩, ⟨S8x128, unpackLo (w 3)⟩, ⟨S8x128, unpackHi (w 3)⟩]
    concatenates_S8x128_S8x128_S8x128_S8x128_S8x128_S8x128_S8x128_S8x128_S64x128_d0)
    bitcasts_S64x128_w32_S128x128_w16)

/-- The products of the query rows with two tiles' bits, maximized over the two tiles. -/
def pairScore (q : FVec F S224x128 .bf16) (a b : Tile) : FVec F S224x128 .f32 :=
  let x : FVec F S224x256 .f32 := matmul dot_S224x128_S128x256_S224x256_1_0_0_1_n_n none q
    (concatenate S128x256 1 [⟨S128x128, unpack a⟩, ⟨S128x128, unpack b⟩] concatenates_S128x128_S128x128_S128x256_d1)
    (constant S224x256 .f32 0x00000000#32)
  maximumf (extractStridedSlice S224x128 ![0, 0] x slices_S224x256_o0_0_S224x128)
    (extractStridedSlice S224x128 ![0, 128] x slices_S224x256_o0_128_S224x128)

/-- The products maximized over four tiles. -/
def score (q : FVec F S224x128 .bf16) (a b c d : Tile) : FVec F S224x128 .f32 :=
  maximumf (pairScore q a b) (pairScore q c d)

/-- The 128x128 matrix moving feature `src k` to column `k`, and the query rows in that order. -/
def permQ (q : Vec F S224x128 .bf16) : FVec F S224x128 .bf16 :=
  let i0 : IVec S128x128 32 := iota .tc S128x128 32 [0] iota_S128x128_d0_w32
  let i1 : IVec S128x128 32 := iota .tc S128x128 32 [1] iota_S128x128_d1_w32
  let src : IVec S128x128 32 :=
    addi (addi (addi (andi i1 (broadcast S128x128 4294967264#32))
      (muli (andi (shrsi i1 (broadcast S128x128 4#32)) (broadcast S128x128 1#32)) (broadcast S128x128 8#32)))
      (andi (shrsi i1 (broadcast S128x128 1#32)) (broadcast S128x128 7#32)))
      (muli (andi i1 (broadcast S128x128 1#32)) (broadcast S128x128 16#32))
  let perm : FVec F S128x128 .bf16 :=
    truncf .bf16 (select (cmpi .eq i0 src) (broadcast S128x128 (Scalar.ofBits .f32 0x3F800000#32 : F .f32))
      (broadcast S128x128 (Scalar.ofBits .f32 0x00000000#32 : F .f32))) bitsLt_bf16_f32
  truncf .bf16 (matmul dot_S224x128_S128x128_S224x128_1_0_0_1_n_n none
    (shapeCast S224x128 q shapeCasts_S224x128_S224x128) perm (constant S224x128 .f32 0x00000000#32)) bitsLt_bf16_f32

/-- Each document's end: the next document's start. -/
def endRow (s : Vec F S1x1024 .i32) : IVec S1x1024 32 :=
  select (cmpi .eq (iota .tc S1x1024 32 [1] iota_S1x1024_d1_w32) (broadcast S1x1024 1023#32))
    (broadcast S1x1024 180224#32) (dynamicRotate 1 1023#32 none s rotates_S1x1024_d1)

/-- The stream of each document's first group. -/
def laneOf (sg : IVec S1x1024 32) : IVec S1x1024 32 :=
  shrsi (muli (shrsi sg (broadcast S1x1024 5#32)) (broadcast S1x1024 5958#32)) (broadcast S1x1024 16#32)

/-- Each document's group's index within its stream. -/
def groupOf (s : Vec F S1x1024 .i32) : IVec S1x1024 32 :=
  let sg : IVec S1x1024 32 := shrsi s (broadcast S1x1024 2#32)
  subi sg (muli (laneOf sg) (broadcast S1x1024 352#32))

/-- Each document's start inside its group, plus one, if no later document starts in that group; zero otherwise. -/
def valOf (s : Vec F S1x1024 .i32) (e : IVec S1x1024 32) : FVec F S1x1024 .f32 :=
  mulf (select (cmpi .ne (shrsi e (broadcast S1x1024 2#32)) (shrsi s (broadcast S1x1024 2#32)))
      (broadcast S1x1024 (Scalar.ofBits .f32 0x3F800000#32 : F .f32)) (broadcast S1x1024 (Scalar.ofBits .f32 0x00000000#32 : F .f32)))
    (sitofp .f32 (addi (andi s (broadcast S1x1024 3#32)) (broadcast S1x1024 1#32)))

/-- One row per group of a stream, one column per document: one where the document starts in that group. -/
def rowHot (s : Vec F S1x1024 .i32) : FVec F S352x1024 .bf16 :=
  truncf .bf16 (select
    (cmpi .eq (iota .tc S352x1024 32 [0] iota_S352x1024_d0_w32) (broadcastTo S352x1024 (groupOf (F := F) s) broadcasts_S1x1024_S352x1024))
    (broadcast S352x1024 (Scalar.ofBits .f32 0x3F800000#32 : F .f32))
    (broadcast S352x1024 (Scalar.ofBits .f32 0x00000000#32 : F .f32))) bitsLt_bf16_f32

/-- Which document starts in which stream. -/
def laneHot (s : Vec F S1x1024 .i32) : IVec S128x1024 1 :=
  cmpi .eq (iota .tc S128x1024 32 [0] iota_S128x1024_d0_w32)
    (broadcastTo S128x1024 (laneOf (shrsi s (broadcast S1x1024 2#32))) broadcasts_S1x1024_S128x1024)

/-- The product over documents of a row matrix and of the documents' values in their streams. -/
def codeMul (a : FVec F S352x1024 .bf16) (b : IVec S128x1024 1) (z : F .f32) (v : FVec F S1x1024 .f32) : FVec F S352x128 .f32 :=
  matmul dot_S352x1024_S128x1024_S352x128_1_1_0_0_n_n none a
    (truncf .bf16 (select b (broadcastTo S128x1024 v broadcasts_S1x1024_S128x1024) (broadcast S128x1024 z)) bitsLt_bf16_f32)
    (constant S352x128 .f32 0x00000000#32)

/-- Where the last document of each group starts inside the group, plus one; zero if none starts there. -/
def codeOf (s : Vec F S1x1024 .i32) (e : IVec S1x1024 32) : FVec F S352x128 .f32 :=
  codeMul (rowHot s) (laneHot (F := F) s) (Scalar.ofBits .f32 0x00000000#32 : F .f32)
    (shapeCast S1x1024 (valOf s e) shapeCasts_S1x1024_S1x1024)

/-- The running maximum after one more group: restarted where a document starts in the group. -/
def accNext (code : Vec F S1x128 .f32) (acc : Vec F S224x128 .f32) (y : FVec F S224x128 .f32) : FVec F S224x128 .f32 :=
  maximumf (select (broadcastTo S224x128 (shapeCast S1x128
      (cmpf .ogt code (broadcast S1x128 (Scalar.ofBits .f32 0x3F000000#32 : F .f32))) shapeCasts_S1x128_S1x128)
      broadcasts_S1x128_S224x128)
    (broadcast S224x128 (Scalar.ofBits .f32 0xFF800000#32 : F .f32)) acc) y

/-- Which lanes replace a tile by the group's last token: those whose document starts after it. -/
def dropMask (code : Vec F S1x128 .f32) (bits : BitVec 32) : IVec S8x128 1 :=
  cmpf .ogt (broadcastTo S8x128 (shapeCast S1x128 code shapeCasts_S1x128_S1x128) broadcasts_S1x128_S8x128)
    (broadcast S8x128 (Scalar.ofBits .f32 bits : F .f32))

/-- The first 128 rows of a 224-row matrix, transposed. -/
def topT (a : FVec F S224x128 .f32) : FVec F S128x128 .f32 :=
  transpose S128x128 [1, 0] (extractStridedSlice S128x128 ![0, 0] a slices_S224x128_o0_0_S128x128) transposes_S128x128_p1_0_S128x128

/-- The last 96 rows of a 224-row matrix, transposed. -/
def botT (a : FVec F S224x128 .f32) : FVec F S128x96 .f32 :=
  transpose S128x96 [1, 0] (extractStridedSlice S96x128 ![128, 0] a slices_S224x128_o128_0_S96x128) transposes_S96x128_p1_0_S128x96

/-- The largest code of each stream, at every lane of the stream's row. -/
def flag0 (code : Vec F S352x128 .f32) : FVec F S128x128 .f32 :=
  transpose S128x128 [1, 0] (broadcastTo S128x128 (shapeCast S1x128 (shapeCast S1x128
    (multiReduction .maximumf [0] S128 code 0xFF800000#32 reduces_S352x128_S128 (.inl rfl) rfl)
    shapeCasts_S128_S1x128) shapeCasts_S1x128_S1x128) broadcasts_S1x128_S128x128) transposes_S128x128_p1_0_S128x128

/-- The rows of index at least `k`. -/
def rowsGe (k : BitVec 32) : IVec S128x128 1 :=
  cmpi .sge (iota .tc S128x128 32 [0] iota_S128x128_d0_w32) (broadcast S128x128 k)

/-- The rows a scan step at distance `k` updates: no document starts in the streams already covered. -/
def takeMask (k : BitVec 32) (flag : FVec F S128x128 .f32) : IVec S128x128 1 :=
  andi (cmpf .olt flag (broadcast S128x128 (Scalar.ofBits .f32 0x3F000000#32 : F .f32))) (rowsGe k)

/-- One scan step at distance `k` on a carry matrix. -/
def scanC (k : BitVec 32) (flag c : FVec F S128x128 .f32) : FVec F S128x128 .f32 :=
  select (takeMask k flag) (maximumf c (dynamicRotate 0 k none c rotates_S128x128_d0)) c

/-- One scan step at distance `k` on the flags. -/
def scanF (k : BitVec 32) (flag : FVec F S128x128 .f32) : FVec F S128x128 .f32 :=
  select (rowsGe k) (maximumf flag (dynamicRotate 0 k none flag rotates_S128x128_d0)) flag

/-- The scan over the 128 streams, at distances 1, 2, 4, …, 64. -/
def scan (flag c : FVec F S128x128 .f32) : FVec F S128x128 .f32 :=
  let f1 := scanF 1#32 flag
  let f2 := scanF 2#32 f1
  let f4 := scanF 4#32 f2
  let f8 := scanF 8#32 f4
  let f16 := scanF 16#32 f8
  let f32 := scanF 32#32 f16
  scanC 64#32 f32 (scanC 32#32 f16 (scanC 16#32 f8 (scanC 8#32 f4 (scanC 4#32 f2 (scanC 2#32 f1 (scanC 1#32 flag c))))))

/-- 96 columns widened to 128 by zeros. -/
def widen (v : Vec F S128x96 .f32) : FVec F S128x128 .f32 :=
  concatenate S128x128 1 [⟨S128x96, v⟩, ⟨S128x32, broadcast S128x32 (Scalar.ofBits .f32 0x00000000#32 : F .f32)⟩]
    concatenates_S128x96_S128x32_S128x128_d1

/-- Eight rows of minus infinity. -/
def neg8 : FVec F S8x128 .f32 := broadcast S8x128 (Scalar.ofBits .f32 0xFF800000#32 : F .f32)

/-- The sum of every query row, as a column. -/
def qsumOf (q : FVec F S224x128 .bf16) : FVec F S224x1 .f32 :=
  shapeCast S224x1 (multiReduction .add [1] S224 (extf .f32 q bitsLt_bf16_f32) 0x00000000#32 reduces_S224x128_S224 (.inl rfl) rfl)
    shapeCasts_S224_S224x1

/-- The first token of each document's last group, from the documents' ends. -/
def lastGroup4 (e : IVec S1x128 32) : IVec S1x128 32 :=
  shli (shrsi (subi e (broadcast S1x128 1#32)) (broadcast S1x128 2#32)) (broadcast S1x128 2#32)

/-- The word at a document's last token, of the four words of its last group. -/
def tailWord (hi : IVec S8x128 32) (r0 r1 r2 r3 : IVec S8x128 32) : IVec S8x128 32 :=
  select (cmpi .eq hi (broadcast S8x128 3#32)) r3 (select (cmpi .eq hi (broadcast S8x128 2#32)) r2
    (select (cmpi .eq hi (broadcast S8x128 1#32)) r1 r0))

/-- Token `j` of the last group where the document holds it, its last token elsewhere. -/
def keepTile (lo hi : IVec S8x128 32) (j : BitVec 32) (r t : Tile) : Tile := fun w =>
  select (andi (cmpi .sle lo (broadcast S8x128 j)) (cmpi .sge hi (broadcast S8x128 j))) (r w) (t w)

/-- The products maximized over the tokens of each document in its last group. -/
def ownScore (q : FVec F S224x128 .bf16) (s e : IVec S1x128 32) (r0 r1 r2 r3 : Tile) : FVec F S224x128 .f32 :=
  let lo := bcast (subi s (lastGroup4 e))
  let hi := bcast (subi (subi e (broadcast S1x128 1#32)) (lastGroup4 e))
  let t : Tile := fun w => tailWord hi (r0 w) (r1 w) (r2 w) (r3 w)
  score q (keepTile lo hi 0#32 r0 t) (keepTile lo hi 1#32 r1 t) (keepTile lo hi 2#32 r2 t) (keepTile lo hi 3#32 r3 t)

/-- The result for 128 documents, from the maxima over their last group and over their earlier groups. -/
def blockMax (qsum : FVec F S224x1 .f32) (s e : IVec S1x128 32) (y : FVec F S224x128 .f32)
    (m0 : Vec F S128x128 .f32) (m1 : Vec F S128x96 .f32) : FVec F S224x128 .f32 :=
  select (broadcastTo S224x128 (shapeCast S1x128 (cmpi .sgt e s) shapeCasts_S1x128_S1x128) broadcasts_S1x128_S224x128)
    (subf (maximumf y (concatenate S224x128 0
        [⟨S128x128, transpose S128x128 [1, 0] m0 transposes_S128x128_p1_0_S128x128⟩,
         ⟨S96x128, transpose S96x128 [1, 0] m1 transposes_S128x96_p1_0_S96x128⟩] concatenates_S128x128_S96x128_S224x128_d0))
      (broadcastTo S224x128 qsum broadcasts_S224x1_S224x128))
    (broadcast S224x128 (Scalar.ofBits .f32 0x00000000#32 : F .f32))

/-! ## Accesses at computed rows are in range -/

theorem inb_row (w r : Nat) (hw : w < 4) (hr : r < 128) :
    ∀ a, (![w, r, 0] : Fin 3 → Nat) a + S1x1x128.size a ≤ S4x128x128.size a := by
  intro a; fin_cases a <;> simp <;> omega

theorem inb_word (w : Nat) (hw : w < 4) :
    ∀ a, (![w, 0, 0] : Fin 3 → Nat) a + S1x128x128.size a ≤ S4x128x128.size a := by
  intro a; fin_cases a <;> simp <;> omega

theorem inb_ev (w : Nat) (hw : w < 4) :
    ∀ a, S128x128.size a = 0 ∨ (![w, 0] : Fin 2 → Nat) a + (![4, 1] : Fin 2 → Nat) a * (S128x128.size a - 1) < S512x128.size a := by
  intro a; right; fin_cases a <;> simp <;> omega

theorem slices_blk (n : Nat) (hn : n + 128 ≤ 1024) : S1x1024.Slices ![0, n] S1x128 :=
  ⟨rfl, by intro a; fin_cases a <;> simp <;> omega⟩

theorem slices_tail (n : Nat) (hn : n + 4 ≤ 128) : S4x128.Slices ![0, n] S4x4 :=
  ⟨rfl, by intro a; fin_cases a <;> simp <;> omega⟩

theorem slices_q (n : Nat) (hn : n + 32 ≤ 224) : S224x128.Slices ![n, 0] S32x128 :=
  ⟨rfl, by intro a; fin_cases a <;> simp <;> omega⟩

theorem slices_q104 (n : Nat) (hn : n + 32 ≤ 224) : S224x128.Slices ![n, 0] S32x104 :=
  ⟨rfl, by intro a; fin_cases a <;> simp <;> omega⟩

theorem inb_m0 (n : Nat) (hn : n + 128 ≤ 1024) : ∀ a, (![n, 0] : Fin 2 → Nat) a + S128x128.size a ≤ S1024x128.size a := by
  intro a; fin_cases a <;> simp <;> omega

theorem inb_m1 (n : Nat) (hn : n + 128 ≤ 1024) : ∀ a, (![n, 0] : Fin 2 → Nat) a + S128x96.size a ≤ S1024x96.size a := by
  intro a; fin_cases a <;> simp <;> omega

theorem inb_out (n : Nat) (hn : n + 128 ≤ 1000) : ∀ a, (![0, n] : Fin 2 → Nat) a + S224x128.size a ≤ S224x1000.size a := by
  intro a; fin_cases a <;> simp <;> omega

theorem inb_sc (k n : Nat) (hk : k < 7) (hn : n + 128 ≤ 1000) :
    ∀ a, (![k, n] : Fin 2 → Nat) a + S1x128.size a ≤ S7x1000.size a := by
  intro a; fin_cases a <;> simp <;> omega

theorem inb_sc104 (k n : Nat) (hk : k < 7) (hn : n + 104 ≤ 1000) :
    ∀ a, (![k, n] : Fin 2 → Nat) a + S1x104.size a ≤ S7x1000.size a := by
  intro a; fin_cases a <;> simp <;> omega

/-! ## Loops unrolled in the text -/

/-- `f i`, `f (i+1)`, …, `f (N-1)` one after the other, `n` of them left. -/
def seqFrom {E : Type → Type} {N : Nat} (f : Fin N → Prog E PUnit) : (n i : Nat) → i + n = N → Prog E PUnit
  | 0, _, _ => .ret ⟨⟩
  | n + 1, i, h => Prog.bind (f ⟨i, by omega⟩) fun _ => seqFrom f n (i + 1) (by omega)

/-! ## The effects -/

/-- The type of the body's programs. -/
abbrev P (F : FTy → Type) (α : Type) := Prog (TpuEff nD τ sig (Elt F) Λ₀ .tc) α

section
variable (arg0 : Memref sig .tc .smem S1001 .i32) (arg1 : Memref sig .tc .vmem S224x128 .bf16)
  (arg2 : Memref sig .tc .vmem S1x1001 .i32) (arg3 : Memref sig .tc .vmem S5632x128 .i32)
  (arg4 : Memref sig .tc .vmem S224x1000 .f32) (arg5 : Memref sig .tc .vmem S7x1000 .f32)
  (arg6 : Memref sig .tc .vmem S1x1024 .i32) (arg7 : Memref sig .tc .vmem S352x128 .f32)
  (arg8 : Memref sig .tc .vmem S4x128x128 .i32) (arg9 : Memref sig .tc .vmem S512x128 .i32)
  (arg10 : Memref sig .tc .vmem S224x128 .f32) (arg11 : Memref sig .tc .vmem S45064x128 .f32)
  (arg12 : Memref sig .tc .vmem S45064x96 .f32) (arg13 : Memref sig .tc .vmem S136x128 .f32)
  (arg14 : Memref sig .tc .vmem S136x128 .f32) (arg15 : Memref sig .tc .vmem S1024x128 .f32)
  (arg16 : Memref sig .tc .vmem S1024x96 .f32)

/-- Row `r` of word `w` of the transposed words, broadcast over sublanes. -/
def loadRow (w r : Nat) (hw : w < 4) (hr : r < 128) : P F (IVec S8x128 32) := do
  let v : Vec F S1x1x128 .i32 ← Prog.lift (.load arg8 (Rect.unit (s := S4x128x128) ![w, r, 0] S1x1x128.size (inb_row w r hw hr)).toLoadRect (View.loadsAt_vmem h_S1x1x128))
  pure (bcast (shapeCast S1x128 v shapeCasts_S1x1x128_S1x128))

/-- The four words of row `r`. -/
def loadTile (r : Nat) (hr : r < 128) : P F Tile := do
  let a ← loadRow (F := F) arg8 0 r (by omega) hr
  let b ← loadRow (F := F) arg8 1 r (by omega) hr
  let c ← loadRow (F := F) arg8 2 r (by omega) hr
  let d ← loadRow (F := F) arg8 3 r (by omega) hr
  pure ![a, b, c, d]

/-- Write a 128x128 matrix of words as word `w` of the transposed words. -/
def storeWord (w : Nat) (hw : w < 4) (x : IVec S128x128 32) : P F PUnit := do
  let _v : Vec F S1x128x128 .i32 ← Prog.lift (.load arg8 (Rect.unit (s := S4x128x128) ![w, 0, 0] S1x128x128.size (inb_word w hw)).toLoadRect (View.loadsAt_vmem h_S1x128x128))
  Prog.lift (.store arg8 (Rect.unit (s := S4x128x128) ![w, 0, 0] S1x128x128.size (inb_word w hw)) (shapeCast S1x128x128 x shapeCasts_S128x128_S1x128x128) Finset.univ (View.stores_vmem_bits_univ h_S1x128x128 rfl) (.inl rfl))

/-- Step `k`: word `w` of the step's tokens, one row per token and one column per stream. -/
def stepWord (k : Fin k0_t2_loop.trips) (w : Fin 4) : P F PUnit := do
  let v : Vec F S128x128 .i32 ← Prog.lift (.load arg3 (⟨k0_off25 k (BitVec.ofNat 32 w.val), S128x128.size, ![44, 1], k0_off25_inb k w⟩ : LoadRect S5632x128) (View.loadsAt_vmem h_S128x128))
  storeWord (F := F) arg8 w.val w.isLt (transpose S128x128 [1, 0] (shapeCast S128x128 v shapeCasts_S128x128_S128x128) transposes_S128x128_p1_0_S128x128)

/-- Group `g` of step `k`. -/
def group (q : FVec F S224x128 .bf16) (k : Fin k0_t2_loop.trips) (g : Fin 32) : P F PUnit := do
  let code : Vec F S1x128 .f32 ← Prog.lift (.load arg7 (Rect.unit (s := S352x128) (k0_off26 k (BitVec.ofNat 32 g.val)) S1x128.size (k0_off26_inb k g)).toLoadRect (View.loadsAt_vmem h_S1x128))
  let t ← loadTile (F := F) arg8 (4 * g.val + 3) (by omega)
  let a ← loadTile (F := F) arg8 (4 * g.val) (by omega)
  let b ← loadTile (F := F) arg8 (4 * g.val + 1) (by omega)
  let c ← loadTile (F := F) arg8 (4 * g.val + 2) (by omega)
  let y := score q (fun w => select (dropMask code 0x3FC00000#32) (t w) (a w))
    (fun w => select (dropMask code 0x40200000#32) (t w) (b w))
    (fun w => select (dropMask code 0x40600000#32) (t w) (c w)) t
  let code' : Vec F S1x128 .f32 ← Prog.lift (.load arg7 (Rect.unit (s := S352x128) (k0_off26 k (BitVec.ofNat 32 g.val)) S1x128.size (k0_off26_inb k g)).toLoadRect (View.loadsAt_vmem h_S1x128))
  let acc : Vec F S224x128 .f32 ← Prog.lift (.load arg10 (Rect.unit (s := S224x128) ![0, 0] S224x128.size inb_S224x128_S224x128_0_0).toLoadRect (View.loadsAt_vmem h_S224x128))
  let n := accNext code' acc y
  let _a : Vec F S224x128 .f32 ← Prog.lift (.load arg10 (Rect.unit (s := S224x128) ![0, 0] S224x128.size inb_S224x128_S224x128_0_0).toLoadRect (View.loadsAt_vmem h_S224x128))
  Prog.lift (.store arg10 (Rect.unit (s := S224x128) ![0, 0] S224x128.size inb_S224x128_S224x128_0_0) (shapeCast S224x128 n shapeCasts_S224x128_S224x128) Finset.univ (View.stores_vmem_bits_univ h_S224x128 rfl) (.inl rfl))
  let _b : Vec F S128x128 .f32 ← Prog.lift (.load arg11 (Rect.unit (s := S45064x128) (k0_off27 k (BitVec.ofNat 32 g.val)) S128x128.size (k0_off27_inb k g)).toLoadRect (View.loadsAt_vmem h_S128x128))
  Prog.lift (.store arg11 (Rect.unit (s := S45064x128) (k0_off27 k (BitVec.ofNat 32 g.val)) S128x128.size (k0_off27_inb k g)) (shapeCast S128x128 (topT n) shapeCasts_S128x128_S128x128) Finset.univ (View.stores_vmem_bits_univ h_S128x128 rfl) (.inl rfl))
  let _c : Vec F S128x96 .f32 ← Prog.lift (.load arg12 (Rect.unit (s := S45064x96) (k0_off28 k (BitVec.ofNat 32 g.val)) S128x96.size (k0_off28_inb k g)).toLoadRect (View.loadsAt_vmem h_S128x96))
  Prog.lift (.store arg12 (Rect.unit (s := S45064x96) (k0_off28 k (BitVec.ofNat 32 g.val)) S128x96.size (k0_off28_inb k g)) (shapeCast S128x96 (botT n) shapeCasts_S128x96_S128x96) Finset.univ (View.stores_vmem_bits_univ h_S128x96 rfl) (.inl rfl))

/-- Step `k`: the words of its 128 tokens per stream, then its 32 groups. -/
def step (q : FVec F S224x128 .bf16) (k : Fin k0_t2_loop.trips) : P F PUnit := do
  seqFrom (fun w : Fin 4 => stepWord (F := F) arg3 arg8 k w) 4 0 rfl
  seqFrom (fun g : Fin 32 => group (F := F) arg7 arg8 arg10 arg11 arg12 q k g) 32 0 rfl

/-- The word `offsets[min (l + 128 b + 1) 1000]` that lane `l`'s trip reads for block `b`. -/
def endOff (k : Fin k0_t1_loop.trips) (b : Nat) : Fin 1 → Nat :=
  ![(Scalar.indexCast (Scalar.minsi (Scalar.addi (Scalar.addi (Scf.iv 0#32 1#32 k) (BitVec.ofNat 32 (128 * b))) 1#32) 1000#32)).toNat]

theorem endOff_inb (k : Fin k0_t1_loop.trips) : ∀ b : Fin 8, ∀ a, endOff k b.val a + S1.size a ≤ S1001.size a
  | 0 => k0_off1_inb k | 1 => k0_off4_inb k | 2 => k0_off7_inb k | 3 => k0_off10_inb k
  | 4 => k0_off13_inb k | 5 => k0_off16_inb k | 6 => k0_off19_inb k | 7 => k0_off22_inb k

/-- Rows `4l … 4l+3` and columns `4b … 4b+3` of the gathered words. -/
def evOff (k : Fin k0_t1_loop.trips) (b : Nat) : Fin 2 → Nat :=
  ![(Scalar.indexCast (Scalar.muli (Scf.iv 0#32 1#32 k) 4#32)).toNat, 4 * b]

theorem evOff_inb (k : Fin k0_t1_loop.trips) : ∀ b : Fin 8, ∀ a, evOff k b.val a + S4x4.size a ≤ S512x128.size a
  | 0 => k0_off3_inb k | 1 => k0_off6_inb k | 2 => k0_off9_inb k | 3 => k0_off12_inb k
  | 4 => k0_off15_inb k | 5 => k0_off18_inb k | 6 => k0_off21_inb k | 7 => k0_off24_inb k

/-- The four tokens of the group that ends at `v`, moved to columns `4b … 4b+3`. -/
def tailSel (b : Fin 8) (v : BitVec 32) (x : Vec F S4x128 .i32) : IVec S4x4 32 :=
  extractStridedSlice S4x4 ![0, 4 * b.val]
    (dynamicRotate 1 (Scalar.andi (Scalar.subi (BitVec.ofNat 32 (4 * b.val))
        (Scalar.muli 4#32 (Scalar.shrsi (Scalar.maxsi (Scalar.subi v 1#32) 0#32) 2#32))) 127#32) none
      (shapeCast S4x128 x shapeCasts_S4x128_S4x128) rotates_S4x128_d1) (slices_tail (4 * b.val) (by omega))

/-- Lane `k`'s document of block `b`: fetch the four words of the four tokens of its last group. -/
def tailBlock (k : Fin k0_t1_loop.trips) (b : Fin 8) : P F PUnit := do
  let v : Elt F .i32 ← smemLoad arg0 (Rect.unit (s := S1001) (endOff k b.val) S1.size (endOff_inb k b)) numel1_S1 rfl
  have hw : k0_chk1 v := (← Prog.lift (TpuEff.assume (k0_chk1 v) (k0_chk1.dec v))).down
  let x : Vec F S4x128 .i32 ← Prog.lift (.load arg3 (Rect.unit (s := S5632x128) (k0_off2 v) S4x128.size (k0_off2_inb v hw)).toLoadRect (View.loadsAt_vmem h_S4x128))
  let _y : Vec F S4x4 .i32 ← Prog.lift (.load arg9 (Rect.unit (s := S512x128) (evOff k b.val) S4x4.size (evOff_inb k b)).toLoadRect (View.loadsAt_vmem h_S4x4))
  Prog.lift (.store arg9 (Rect.unit (s := S512x128) (evOff k b.val) S4x4.size (evOff_inb k b)) (shapeCast S4x4 (tailSel b v x) shapeCasts_S4x4_S4x4) Finset.univ (View.stores_vmem_bits_univ h_S4x4 rfl) (.inl rfl))

/-- Lane `k`'s eight documents. -/
def gatherTail (k : Fin k0_t1_loop.trips) : P F PUnit :=
  seqFrom (fun b : Fin 8 => tailBlock (F := F) arg0 arg3 arg9 k b) 8 0 rfl

/-- The word `offsets[min d 1000]` for document `d = 8 k + b`. -/
def startOff (k : Fin k0_t3_loop.trips) (b : Nat) : Fin 1 → Nat :=
  ![(Scalar.indexCast (Scalar.minsi (Scalar.addi (Scalar.muli (Scf.iv 0#32 1#32 k) 8#32) (BitVec.ofNat 32 b)) 1000#32)).toNat]

theorem startOff_inb (k : Fin k0_t3_loop.trips) : ∀ b : Fin 8, ∀ a, startOff k b.val a + S1.size a ≤ S1001.size a
  | 0 => k0_off29_inb k | 1 => k0_off37_inb k | 2 => k0_off45_inb k | 3 => k0_off53_inb k
  | 4 => k0_off61_inb k | 5 => k0_off69_inb k | 6 => k0_off77_inb k | 7 => k0_off85_inb k

/-- The word `offsets[min (d + 1) 1000]` for document `d = 8 k + b`. -/
def stopOff (k : Fin k0_t3_loop.trips) (b : Nat) : Fin 1 → Nat :=
  ![(Scalar.indexCast (Scalar.minsi (Scalar.addi (Scalar.addi (Scalar.muli (Scf.iv 0#32 1#32 k) 8#32) (BitVec.ofNat 32 b)) 1#32) 1000#32)).toNat]

theorem stopOff_inb (k : Fin k0_t3_loop.trips) : ∀ b : Fin 8, ∀ a, stopOff k b.val a + S1.size a ≤ S1001.size a
  | 0 => k0_off30_inb k | 1 => k0_off38_inb k | 2 => k0_off46_inb k | 3 => k0_off54_inb k
  | 4 => k0_off62_inb k | 5 => k0_off70_inb k | 6 => k0_off78_inb k | 7 => k0_off86_inb k

/-- Row `d = 8 k + b` of the gathered maxima. -/
def docOff (k : Fin k0_t3_loop.trips) (b : Nat) : Fin 2 → Nat :=
  ![(Scalar.indexCast (Scalar.addi (Scalar.muli (Scf.iv 0#32 1#32 k) 8#32) (BitVec.ofNat 32 b))).toNat, 0]

theorem docOff_inb0 (k : Fin k0_t3_loop.trips) : ∀ b : Fin 8, ∀ a, docOff k b.val a + S1x128.size a ≤ S1024x128.size a
  | 0 => k0_off33_inb k | 1 => k0_off41_inb k | 2 => k0_off49_inb k | 3 => k0_off57_inb k
  | 4 => k0_off65_inb k | 5 => k0_off73_inb k | 6 => k0_off81_inb k | 7 => k0_off89_inb k

theorem docOff_inb1 (k : Fin k0_t3_loop.trips) : ∀ b : Fin 8, ∀ a, docOff k b.val a + S1x96.size a ≤ S1024x96.size a
  | 0 => k0_off36_inb k | 1 => k0_off44_inb k | 2 => k0_off52_inb k | 3 => k0_off60_inb k
  | 4 => k0_off68_inb k | 5 => k0_off76_inb k | 6 => k0_off84_inb k | 7 => k0_off92_inb k

/-- Document `8 k + b`: the maximum over its groups before the last, of the group's running maximum and the
    carry into its stream. -/
def docBlock (k : Fin k0_t3_loop.trips) (b : Fin 8) : P F PUnit := do
  let s : Elt F .i32 ← smemLoad arg0 (Rect.unit (s := S1001) (startOff k b.val) S1.size (startOff_inb k b)) numel1_S1 rfl
  let e : Elt F .i32 ← smemLoad arg0 (Rect.unit (s := S1001) (stopOff k b.val) S1.size (stopOff_inb k b)) numel1_S1 rfl
  have hw : k0_chk9 s e := (← Prog.lift (TpuEff.assume (k0_chk9 s e) (k0_chk9.dec s e))).down
  let x : Vec F S1x128 .f32 ← Prog.lift (.load arg11 (Rect.unit (s := S45064x128) (k0_off31 s e) S1x128.size (k0_off31_inb s e hw)).toLoadRect (View.loadsAt_vmem h_S1x128))
  let c : Vec F S1x128 .f32 ← Prog.lift (.load arg13 (Rect.unit (s := S136x128) (k0_off32 s e) S1x128.size (k0_off32_inb s e hw)).toLoadRect (View.loadsAt_vmem h_S1x128))
  let _a : Vec F S1x128 .f32 ← Prog.lift (.load arg15 (Rect.unit (s := S1024x128) (docOff k b.val) S1x128.size (docOff_inb0 k b)).toLoadRect (View.loadsAt_vmem h_S1x128))
  Prog.lift (.store arg15 (Rect.unit (s := S1024x128) (docOff k b.val) S1x128.size (docOff_inb0 k b)) (shapeCast S1x128 (maximumf x c) shapeCasts_S1x128_S1x128) Finset.univ (View.stores_vmem_bits_univ h_S1x128 rfl) (.inl rfl))
  let x' : Vec F S1x96 .f32 ← Prog.lift (.load arg12 (Rect.unit (s := S45064x96) (k0_off34 s e) S1x96.size (k0_off34_inb s e hw)).toLoadRect (View.loadsAt_vmem h_S1x96))
  let c' : Vec F S1x96 .f32 ← Prog.lift (.load arg14 (Rect.unit (s := S136x128) (k0_off35 s e) S1x96.size (k0_off35_inb s e hw)).toLoadRect (View.loadsAt_vmem h_S1x96))
  let _b : Vec F S1x96 .f32 ← Prog.lift (.load arg16 (Rect.unit (s := S1024x96) (docOff k b.val) S1x96.size (docOff_inb1 k b)).toLoadRect (View.loadsAt_vmem h_S1x96))
  Prog.lift (.store arg16 (Rect.unit (s := S1024x96) (docOff k b.val) S1x96.size (docOff_inb1 k b)) (shapeCast S1x96 (maximumf x' c') shapeCasts_S1x96_S1x96) Finset.univ (View.stores_vmem_bits_univ h_S1x96 rfl) (.inl rfl))

/-- Eight documents. -/
def gatherDoc (k : Fin k0_t3_loop.trips) : P F PUnit :=
  seqFrom (fun b : Fin 8 => docBlock (F := F) arg0 arg11 arg12 arg13 arg14 arg15 arg16 k b) 8 0 rfl

/-- Word `w` of every document's last group, one row per token of a block and one column per document. -/
def finalWord (w : Fin 4) : P F PUnit := do
  let v : Vec F S128x128 .i32 ← Prog.lift (.load arg9 (⟨![w.val, 0], S128x128.size, ![4, 1], inb_ev w.val w.isLt⟩ : LoadRect S512x128) (View.loadsAt_vmem h_S128x128))
  storeWord (F := F) arg8 w.val w.isLt (transpose S128x128 [1, 0] v transposes_S128x128_p1_0_S128x128)

/-- The 128 documents of block `b` from the row of starts and the row of ends. -/
def blockRow (x : IVec S1x1024 32) (b : Fin 8) : IVec S1x128 32 :=
  extractStridedSlice S1x128 ![0, 128 * b.val] x (slices_blk (128 * b.val) (by omega))

/-- Block `b`'s results, not yet stored. -/
def blockVal (q : FVec F S224x128 .bf16) (srow : Vec F S1x1024 .i32) (erow : IVec S1x1024 32) (qsum : FVec F S224x1 .f32)
    (b : Fin 8) : P F (FVec F S224x128 .f32) := do
  let s : IVec S1x128 32 := blockRow srow b
  let e : IVec S1x128 32 := blockRow erow b
  let r0 ← loadTile (F := F) arg8 (4 * b.val) (by omega)
  let r1 ← loadTile (F := F) arg8 (4 * b.val + 1) (by omega)
  let r2 ← loadTile (F := F) arg8 (4 * b.val + 2) (by omega)
  let r3 ← loadTile (F := F) arg8 (4 * b.val + 3) (by omega)
  let m0 : Vec F S128x128 .f32 ← Prog.lift (.load arg15 (Rect.unit (s := S1024x128) ![128 * b.val, 0] S128x128.size (inb_m0 (128 * b.val) (by omega))).toLoadRect (View.loadsAt_vmem h_S128x128))
  let m1 : Vec F S128x96 .f32 ← Prog.lift (.load arg16 (Rect.unit (s := S1024x96) ![128 * b.val, 0] S128x96.size (inb_m1 (128 * b.val) (by omega))).toLoadRect (View.loadsAt_vmem h_S128x96))
  pure (blockMax qsum s e (ownScore q s e r0 r1 r2 r3) m0 m1)

/-- The sum over query `k`'s 32 rows. -/
def sumQ (m : FVec F S224x128 .f32) (k : Fin 7) : FVec F S1x128 .f32 :=
  shapeCast S1x128 (multiReduction .add [0] S128 (extractStridedSlice S32x128 ![32 * k.val, 0] m (slices_q (32 * k.val) (by omega)))
    0x00000000#32 reduces_S32x128_S128 (.inl rfl) rfl) shapeCasts_S128_S1x128

/-- The sum over query `k`'s 32 rows, for the 104 documents of the last block. -/
def sumQ104 (m : FVec F S224x128 .f32) (k : Fin 7) : FVec F S1x104 .f32 :=
  shapeCast S1x104 (multiReduction .add [0] S104 (extractStridedSlice S32x104 ![32 * k.val, 0] m (slices_q104 (32 * k.val) (by omega)))
    0x00000000#32 reduces_S32x104_S104 (.inl rfl) rfl) shapeCasts_S104_S1x104

/-- Query `k`'s scores for the 128 documents from `n` on. -/
def storeScore (m : FVec F S224x128 .f32) (n : Nat) (hn : n + 128 ≤ 1000) (k : Fin 7) : P F PUnit := do
  let _v : Vec F S1x128 .f32 ← Prog.lift (.load arg5 (Rect.unit (s := S7x1000) ![k.val, n] S1x128.size (inb_sc k.val n k.isLt hn)).toLoadRect (View.loadsAt_vmem h_S1x128))
  Prog.lift (.store arg5 (Rect.unit (s := S7x1000) ![k.val, n] S1x128.size (inb_sc k.val n k.isLt hn)) (sumQ m k) Finset.univ (View.stores_vmem_bits_univ h_S1x128 rfl) (.inl rfl))

/-- Query `k`'s scores for the last 104 documents. -/
def storeScore104 (m : FVec F S224x128 .f32) (k : Fin 7) : P F PUnit := do
  let _v : Vec F S1x104 .f32 ← Prog.lift (.load arg5 (Rect.unit (s := S7x1000) ![k.val, 896] S1x104.size (inb_sc104 k.val 896 k.isLt (by omega))).toLoadRect (View.loadsAt_vmem h_S1x104))
  Prog.lift (.store arg5 (Rect.unit (s := S7x1000) ![k.val, 896] S1x104.size (inb_sc104 k.val 896 k.isLt (by omega))) (sumQ104 m k) Finset.univ (View.stores_vmem_bits_univ h_S1x104 rfl) (.inl rfl))

/-- Block `b` of the results, for the first seven blocks. -/
def block (q : FVec F S224x128 .bf16) (srow : Vec F S1x1024 .i32) (erow : IVec S1x1024 32) (qsum : FVec F S224x1 .f32)
    (b : Fin 7) : P F PUnit := do
  let m ← blockVal (F := F) arg8 arg15 arg16 q srow erow qsum (Fin.castSucc b)
  let _v : Vec F S224x128 .f32 ← Prog.lift (.load arg4 (Rect.unit (s := S224x1000) ![0, 128 * b.val] S224x128.size (inb_out (128 * b.val) (by omega))).toLoadRect (View.loadsAt_vmem h_S224x128))
  Prog.lift (.store arg4 (Rect.unit (s := S224x1000) ![0, 128 * b.val] S224x128.size (inb_out (128 * b.val) (by omega))) (m) Finset.univ (View.stores_vmem_bits_univ h_S224x128 rfl) (.inl rfl))
  seqFrom (fun k : Fin 7 => storeScore (F := F) arg5 m (128 * b.val) (by omega) k) 7 0 rfl

/-- The last block of the results: 104 documents. -/
def lastBlock (q : FVec F S224x128 .bf16) (srow : Vec F S1x1024 .i32) (erow : IVec S1x1024 32) (qsum : FVec F S224x1 .f32) :
    P F PUnit := do
  let m ← blockVal (F := F) arg8 arg15 arg16 q srow erow qsum 7
  let _v : Vec F S224x104 .f32 ← Prog.lift (.load arg4 (Rect.unit (s := S224x1000) ![0, 896] S224x104.size inb_S224x1000_S224x104_0_896).toLoadRect (View.loadsAt_vmem h_S224x104))
  Prog.lift (.store arg4 (Rect.unit (s := S224x1000) ![0, 896] S224x104.size inb_S224x1000_S224x104_0_896) (extractStridedSlice S224x104 ![0, 0] m slices_S224x128_o0_0_S224x104) Finset.univ (View.stores_vmem_bits_univ h_S224x104 rfl) (.inl rfl))
  seqFrom (fun k : Fin 7 => storeScore104 (F := F) arg5 m k) 7 0 rfl

/-- The documents' starts, padded to 1024 by the number of tokens. -/
def loadStarts : P F (Vec F S1x1024 .i32) := do
  let _a : Vec F S1x1024 .i32 ← Prog.lift (.load arg6 (Rect.unit (s := S1x1024) ![0, 0] S1x1024.size inb_S1x1024_S1x1024_0_0).toLoadRect (View.loadsAt_vmem h_S1x1024))
  Prog.lift (.store arg6 (Rect.unit (s := S1x1024) ![0, 0] S1x1024.size inb_S1x1024_S1x1024_0_0) (shapeCast S1x1024 (broadcast S1x1024 180224#32 : IVec S1x1024 32) shapeCasts_S1x1024_S1x1024) Finset.univ (View.stores_vmem_bits_univ h_S1x1024 rfl) (.inl rfl))
  let o : Vec F S1x1001 .i32 ← Prog.lift (.load arg2 (Rect.unit (s := S1x1001) ![0, 0] S1x1001.size inb_S1x1001_S1x1001_0_0).toLoadRect (View.loadsAt_vmem h_S1x1001))
  let _b : Vec F S1x1001 .i32 ← Prog.lift (.load arg6 (Rect.unit (s := S1x1024) ![0, 0] S1x1001.size inb_S1x1024_S1x1001_0_0).toLoadRect (View.loadsAt_vmem h_S1x1001))
  Prog.lift (.store arg6 (Rect.unit (s := S1x1024) ![0, 0] S1x1001.size inb_S1x1024_S1x1001_0_0) (shapeCast S1x1001 (shapeCast S1x1001 o shapeCasts_S1x1001_S1x1001) shapeCasts_S1x1001_S1x1001) Finset.univ (View.stores_vmem_bits_univ h_S1x1001 rfl) (.inl rfl))
  Prog.lift (.load arg6 (Rect.unit (s := S1x1024) ![0, 0] S1x1024.size inb_S1x1024_S1x1024_0_0).toLoadRect (View.loadsAt_vmem h_S1x1024))

/-- The carries into the 128 streams, and the rows of minus infinity. -/
def carries : P F PUnit := do
  let code : Vec F S352x128 .f32 ← Prog.lift (.load arg7 (Rect.unit (s := S352x128) ![0, 0] S352x128.size inb_S352x128_S352x128_0_0).toLoadRect (View.loadsAt_vmem h_S352x128))
  let x : Vec F S128x128 .f32 ← Prog.lift (.load arg11 (Rect.unit (s := S45064x128) ![44928, 0] S128x128.size inb_S45064x128_S128x128_44928_0).toLoadRect (View.loadsAt_vmem h_S128x128))
  let y : Vec F S128x96 .f32 ← Prog.lift (.load arg12 (Rect.unit (s := S45064x96) ![44928, 0] S128x96.size inb_S45064x96_S128x96_44928_0).toLoadRect (View.loadsAt_vmem h_S128x96))
  let _a : Vec F S128x128 .f32 ← Prog.lift (.load arg13 (Rect.unit (s := S136x128) ![0, 0] S128x128.size inb_S136x128_S128x128_0_0).toLoadRect (View.loadsAt_vmem h_S128x128))
  Prog.lift (.store arg13 (Rect.unit (s := S136x128) ![0, 0] S128x128.size inb_S136x128_S128x128_0_0) (shapeCast S128x128 (scan (flag0 code) x) shapeCasts_S128x128_S128x128) Finset.univ (View.stores_vmem_bits_univ h_S128x128 rfl) (.inl rfl))
  let _b : Vec F S128x128 .f32 ← Prog.lift (.load arg14 (Rect.unit (s := S136x128) ![0, 0] S128x128.size inb_S136x128_S128x128_0_0).toLoadRect (View.loadsAt_vmem h_S128x128))
  Prog.lift (.store arg14 (Rect.unit (s := S136x128) ![0, 0] S128x128.size inb_S136x128_S128x128_0_0) (shapeCast S128x128 (scan (flag0 code) (widen y)) shapeCasts_S128x128_S128x128) Finset.univ (View.stores_vmem_bits_univ h_S128x128 rfl) (.inl rfl))
  let _c : Vec F S8x128 .f32 ← Prog.lift (.load arg13 (Rect.unit (s := S136x128) ![128, 0] S8x128.size inb_S136x128_S8x128_128_0).toLoadRect (View.loadsAt_vmem h_S8x128))
  Prog.lift (.store arg13 (Rect.unit (s := S136x128) ![128, 0] S8x128.size inb_S136x128_S8x128_128_0) (shapeCast S8x128 (neg8 (F := F)) shapeCasts_S8x128_S8x128) Finset.univ (View.stores_vmem_bits_univ h_S8x128 rfl) (.inl rfl))
  let _d : Vec F S8x128 .f32 ← Prog.lift (.load arg14 (Rect.unit (s := S136x128) ![128, 0] S8x128.size inb_S136x128_S8x128_128_0).toLoadRect (View.loadsAt_vmem h_S8x128))
  Prog.lift (.store arg14 (Rect.unit (s := S136x128) ![128, 0] S8x128.size inb_S136x128_S8x128_128_0) (shapeCast S8x128 (neg8 (F := F)) shapeCasts_S8x128_S8x128) Finset.univ (View.stores_vmem_bits_univ h_S8x128 rfl) (.inl rfl))
  let _e : Vec F S8x128 .f32 ← Prog.lift (.load arg11 (Rect.unit (s := S45064x128) ![45056, 0] S8x128.size inb_S45064x128_S8x128_45056_0).toLoadRect (View.loadsAt_vmem h_S8x128))
  Prog.lift (.store arg11 (Rect.unit (s := S45064x128) ![45056, 0] S8x128.size inb_S45064x128_S8x128_45056_0) (shapeCast S8x128 (neg8 (F := F)) shapeCasts_S8x128_S8x128) Finset.univ (View.stores_vmem_bits_univ h_S8x128 rfl) (.inl rfl))
  let _f : Vec F S8x96 .f32 ← Prog.lift (.load arg12 (Rect.unit (s := S45064x96) ![45056, 0] S8x96.size inb_S45064x96_S8x96_45056_0).toLoadRect (View.loadsAt_vmem h_S8x96))
  Prog.lift (.store arg12 (Rect.unit (s := S45064x96) ![45056, 0] S8x96.size inb_S45064x96_S8x96_45056_0) (shapeCast S8x96 (extractStridedSlice S8x96 ![0, 0] (neg8 (F := F)) slices_S8x128_o0_0_S8x96) shapeCasts_S8x96_S8x96) Finset.univ (View.stores_vmem_bits_univ h_S8x96 rfl) (.inl rfl))

/-- The whole body. -/
def body : P F PUnit := do
  let q0 : Vec F S224x128 .bf16 ← Prog.lift (.load arg1 (Rect.unit (s := S224x128) ![0, 0] S224x128.size inb_S224x128_S224x128_0_0).toLoadRect (View.loadsAt_vmem h_S224x128))
  let srow ← loadStarts (F := F) arg2 arg6
  let _a : Vec F S352x128 .f32 ← Prog.lift (.load arg7 (Rect.unit (s := S352x128) ![0, 0] S352x128.size inb_S352x128_S352x128_0_0).toLoadRect (View.loadsAt_vmem h_S352x128))
  Prog.lift (.store arg7 (Rect.unit (s := S352x128) ![0, 0] S352x128.size inb_S352x128_S352x128_0_0) (shapeCast S352x128 (codeOf srow (endRow srow)) shapeCasts_S352x128_S352x128) Finset.univ (View.stores_vmem_bits_univ h_S352x128 rfl) (.inl rfl))
  Scf.Loop.for k0_t1_loop k0_t1_ok ⟨⟩ fun k _ => gatherTail (F := F) arg0 arg3 arg9 k
  let _b : Vec F S224x128 .f32 ← Prog.lift (.load arg10 (Rect.unit (s := S224x128) ![0, 0] S224x128.size inb_S224x128_S224x128_0_0).toLoadRect (View.loadsAt_vmem h_S224x128))
  Prog.lift (.store arg10 (Rect.unit (s := S224x128) ![0, 0] S224x128.size inb_S224x128_S224x128_0_0) (shapeCast S224x128 (broadcast S224x128 (Scalar.ofBits .f32 0xFF800000#32 : F .f32) : FVec F S224x128 .f32) shapeCasts_S224x128_S224x128) Finset.univ (View.stores_vmem_bits_univ h_S224x128 rfl) (.inl rfl))
  Scf.Loop.for k0_t2_loop k0_t2_ok ⟨⟩ fun k _ => step (F := F) arg3 arg7 arg8 arg10 arg11 arg12 (permQ q0) k
  carries (F := F) arg7 arg11 arg12 arg13 arg14
  Scf.Loop.for k0_t3_loop k0_t3_ok ⟨⟩ fun k _ => gatherDoc (F := F) arg0 arg11 arg12 arg13 arg14 arg15 arg16 k
  seqFrom (fun w : Fin 4 => finalWord (F := F) arg8 arg9 w) 4 0 rfl
  seqFrom (fun b : Fin 7 => block (F := F) arg4 arg5 arg8 arg15 arg16 (permQ q0) srow (endRow srow) (qsumOf (permQ q0)) b) 7 0 rfl
  lastBlock (F := F) arg4 arg5 arg8 arg15 arg16 (permQ q0) srow (endRow srow) (qsumOf (permQ q0))

end

end Cert.KernelIdeal.MaxSim

end
-- ==== Proof.MaxSim.Refold.lean ====
/- The printed kernel body is the structured program. -/
module
public import proofs.«01_k».proof.Proof.MaxSim.Program
public import proofs.«01_k».proof.Proof.Gen.KernelIdeal
public import Idealize.ShloMosaic.Lib.Pipeline.Regions
@[expose] public section
set_option maxRecDepth 65536
noncomputable section
namespace Cert.KernelIdeal.MaxSim
open Idealize.ShloMosaic Idealize.SL.Sem Cert.KernelIdeal
variable {F : FTy → Type} [FloatOps F] [Facts]
open Facts₀ Facts

theorem part281_eq (arg0 : Memref sig .tc .smem S1001 .i32) (harg0 : arg0.IsWhole) (arg1 : Memref sig .tc .vmem S224x128 .bf16) (harg1 : arg1.IsWhole) (arg2 : Memref sig .tc .vmem S1x1001 .i32) (harg2 : arg2.IsWhole) (arg3 : Memref sig .tc .vmem S5632x128 .i32) (harg3 : arg3.IsWhole) (arg4 : Memref sig .tc .vmem S224x1000 .f32) (harg4 : arg4.IsWhole) (arg5 : Memref sig .tc .vmem S7x1000 .f32) (harg5 : arg5.IsWhole) (arg6 : Memref sig .tc .vmem S1x1024 .i32) (harg6 : arg6.IsWhole) (arg7 : Memref sig .tc .vmem S352x128 .f32) (harg7 : arg7.IsWhole) (arg8 : Memref sig .tc .vmem S4x128x128 .i32) (harg8 : arg8.IsWhole) (arg9 : Memref sig .tc .vmem S512x128 .i32) (harg9 : arg9.IsWhole) (arg10 : Memref sig .tc .vmem S224x128 .f32) (harg10 : arg10.IsWhole) (arg11 : Memref sig .tc .vmem S45064x128 .f32) (harg11 : arg11.IsWhole) (arg12 : Memref sig .tc .vmem S45064x96 .f32) (harg12 : arg12.IsWhole) (arg13 : Memref sig .tc .vmem S136x128 .f32) (harg13 : arg13.IsWhole) (arg14 : Memref sig .tc .vmem S136x128 .f32) (harg14 : arg14.IsWhole) (arg15 : Memref sig .tc .vmem S1024x128 .f32) (harg15 : arg15.IsWhole) (arg16 : Memref sig .tc .vmem S1024x96 .f32) (harg16 : arg16.IsWhole)  : k0_part281 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  = Prog.bind (Prog.lift (.load arg1 (Rect.unit (s := S224x128) ![0, 0] S224x128.size inb_S224x128_S224x128_0_0).toLoadRect (View.loadsAt_vmem h_S224x128))) fun q0 =>
    Prog.bind (Prog.lift (.load arg6 (Rect.unit (s := S1x1024) ![0, 0] S1x1024.size inb_S1x1024_S1x1024_0_0).toLoadRect (View.loadsAt_vmem h_S1x1024))) fun _ =>
    Prog.bind (Prog.lift (.store arg6 (Rect.unit (s := S1x1024) ![0, 0] S1x1024.size inb_S1x1024_S1x1024_0_0) (shapeCast S1x1024 (broadcast S1x1024 180224#32 : IVec S1x1024 32) shapeCasts_S1x1024_S1x1024) Finset.univ (View.stores_vmem_bits_univ h_S1x1024 rfl) (.inl rfl))) fun _ =>
    Prog.bind (Prog.lift (.load arg2 (Rect.unit (s := S1x1001) ![0, 0] S1x1001.size inb_S1x1001_S1x1001_0_0).toLoadRect (View.loadsAt_vmem h_S1x1001))) fun o =>
    Prog.bind (Prog.lift (.load arg6 (Rect.unit (s := S1x1024) ![0, 0] S1x1001.size inb_S1x1024_S1x1001_0_0).toLoadRect (View.loadsAt_vmem h_S1x1001))) fun _ =>
    .ret ⟨permQ q0, shapeCast S1x1001 (shapeCast S1x1001 o shapeCasts_S1x1001_S1x1001) shapeCasts_S1x1001_S1x1001⟩ := by
  chain_rfl

theorem part282_eq (arg0 : Memref sig .tc .smem S1001 .i32) (harg0 : arg0.IsWhole) (arg1 : Memref sig .tc .vmem S224x128 .bf16) (harg1 : arg1.IsWhole) (arg2 : Memref sig .tc .vmem S1x1001 .i32) (harg2 : arg2.IsWhole) (arg3 : Memref sig .tc .vmem S5632x128 .i32) (harg3 : arg3.IsWhole) (arg4 : Memref sig .tc .vmem S224x1000 .f32) (harg4 : arg4.IsWhole) (arg5 : Memref sig .tc .vmem S7x1000 .f32) (harg5 : arg5.IsWhole) (arg6 : Memref sig .tc .vmem S1x1024 .i32) (harg6 : arg6.IsWhole) (arg7 : Memref sig .tc .vmem S352x128 .f32) (harg7 : arg7.IsWhole) (arg8 : Memref sig .tc .vmem S4x128x128 .i32) (harg8 : arg8.IsWhole) (arg9 : Memref sig .tc .vmem S512x128 .i32) (harg9 : arg9.IsWhole) (arg10 : Memref sig .tc .vmem S224x128 .f32) (harg10 : arg10.IsWhole) (arg11 : Memref sig .tc .vmem S45064x128 .f32) (harg11 : arg11.IsWhole) (arg12 : Memref sig .tc .vmem S45064x96 .f32) (harg12 : arg12.IsWhole) (arg13 : Memref sig .tc .vmem S136x128 .f32) (harg13 : arg13.IsWhole) (arg14 : Memref sig .tc .vmem S136x128 .f32) (harg14 : arg14.IsWhole) (arg15 : Memref sig .tc .vmem S1024x128 .f32) (harg15 : arg15.IsWhole) (arg16 : Memref sig .tc .vmem S1024x96 .f32) (harg16 : arg16.IsWhole) (v38 : IVec S1x1001 32) : k0_part282 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v38 = Prog.bind (Prog.lift (.store arg6 (Rect.unit (s := S1x1024) ![0, 0] S1x1001.size inb_S1x1024_S1x1001_0_0) (v38) Finset.univ (View.stores_vmem_bits_univ h_S1x1001 rfl) (.inl rfl))) fun _ =>
    Prog.bind (Prog.lift (.load arg6 (Rect.unit (s := S1x1024) ![0, 0] S1x1024.size inb_S1x1024_S1x1024_0_0).toLoadRect (View.loadsAt_vmem h_S1x1024))) fun s =>
    .ret ⟨s, endRow s, rowHot s, laneHot (F := F) s, Scalar.ofBits .f32 0x00000000#32, shapeCast S1x1024 (valOf s (endRow s)) shapeCasts_S1x1024_S1x1024⟩ := by
  chain_rfl

theorem part283_eq (arg0 : Memref sig .tc .smem S1001 .i32) (harg0 : arg0.IsWhole) (arg1 : Memref sig .tc .vmem S224x128 .bf16) (harg1 : arg1.IsWhole) (arg2 : Memref sig .tc .vmem S1x1001 .i32) (harg2 : arg2.IsWhole) (arg3 : Memref sig .tc .vmem S5632x128 .i32) (harg3 : arg3.IsWhole) (arg4 : Memref sig .tc .vmem S224x1000 .f32) (harg4 : arg4.IsWhole) (arg5 : Memref sig .tc .vmem S7x1000 .f32) (harg5 : arg5.IsWhole) (arg6 : Memref sig .tc .vmem S1x1024 .i32) (harg6 : arg6.IsWhole) (arg7 : Memref sig .tc .vmem S352x128 .f32) (harg7 : arg7.IsWhole) (arg8 : Memref sig .tc .vmem S4x128x128 .i32) (harg8 : arg8.IsWhole) (arg9 : Memref sig .tc .vmem S512x128 .i32) (harg9 : arg9.IsWhole) (arg10 : Memref sig .tc .vmem S224x128 .f32) (harg10 : arg10.IsWhole) (arg11 : Memref sig .tc .vmem S45064x128 .f32) (harg11 : arg11.IsWhole) (arg12 : Memref sig .tc .vmem S45064x96 .f32) (harg12 : arg12.IsWhole) (arg13 : Memref sig .tc .vmem S136x128 .f32) (harg13 : arg13.IsWhole) (arg14 : Memref sig .tc .vmem S136x128 .f32) (harg14 : arg14.IsWhole) (arg15 : Memref sig .tc .vmem S1024x128 .f32) (harg15 : arg15.IsWhole) (arg16 : Memref sig .tc .vmem S1024x96 .f32) (harg16 : arg16.IsWhole) (v29 : FVec F S224x128 .bf16) (v75 : FVec F S352x1024 .bf16) (v78 : IVec S128x1024 1) (cst_22 : F .f32) (v79 : FVec F S1x1024 .f32) : k0_part283 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v29 v75 v78 cst_22 v79 = Prog.bind (Prog.lift (.load arg7 (Rect.unit (s := S352x128) ![0, 0] S352x128.size inb_S352x128_S352x128_0_0).toLoadRect (View.loadsAt_vmem h_S352x128))) fun _ =>
    Prog.bind (Prog.lift (.store arg7 (Rect.unit (s := S352x128) ![0, 0] S352x128.size inb_S352x128_S352x128_0_0) (shapeCast S352x128 (codeMul v75 v78 cst_22 v79) shapeCasts_S352x128_S352x128) Finset.univ (View.stores_vmem_bits_univ h_S352x128 rfl) (.inl rfl))) fun _ =>
    Prog.bind (Scf.Loop.for k0_t1_loop k0_t1_ok ⟨⟩ fun k _ => gatherTail (F := F) arg0 arg3 arg9 k) fun _ =>
    Prog.bind (Prog.lift (.load arg10 (Rect.unit (s := S224x128) ![0, 0] S224x128.size inb_S224x128_S224x128_0_0).toLoadRect (View.loadsAt_vmem h_S224x128))) fun _ =>
    Prog.bind (Prog.lift (.store arg10 (Rect.unit (s := S224x128) ![0, 0] S224x128.size inb_S224x128_S224x128_0_0) (shapeCast S224x128 (broadcast S224x128 (Scalar.ofBits .f32 0xFF800000#32 : F .f32) : FVec F S224x128 .f32) shapeCasts_S224x128_S224x128) Finset.univ (View.stores_vmem_bits_univ h_S224x128 rfl) (.inl rfl))) fun _ =>
    Prog.bind (Scf.Loop.for k0_t2_loop k0_t2_ok ⟨⟩ fun k _ => step (F := F) arg3 arg7 arg8 arg10 arg11 arg12 v29 k) fun _ =>
    Prog.bind (Prog.lift (.load arg7 (Rect.unit (s := S352x128) ![0, 0] S352x128.size inb_S352x128_S352x128_0_0).toLoadRect (View.loadsAt_vmem h_S352x128))) fun code =>
    Prog.bind (Prog.lift (.load arg11 (Rect.unit (s := S45064x128) ![44928, 0] S128x128.size inb_S45064x128_S128x128_44928_0).toLoadRect (View.loadsAt_vmem h_S128x128))) fun x =>
    Prog.bind (Prog.lift (.load arg12 (Rect.unit (s := S45064x96) ![44928, 0] S128x96.size inb_S45064x96_S128x96_44928_0).toLoadRect (View.loadsAt_vmem h_S128x96))) fun y =>
    .ret ⟨flag0 code, x, widen y, iota .tc S128x128 32 [0] iota_S128x128_d0_w32, takeMask 1#32 (flag0 code), dynamicRotate 0 1#32 none x rotates_S128x128_d0⟩ := by
  chain_rfl

theorem part287_eq (arg0 : Memref sig .tc .smem S1001 .i32) (harg0 : arg0.IsWhole) (arg1 : Memref sig .tc .vmem S224x128 .bf16) (harg1 : arg1.IsWhole) (arg2 : Memref sig .tc .vmem S1x1001 .i32) (harg2 : arg2.IsWhole) (arg3 : Memref sig .tc .vmem S5632x128 .i32) (harg3 : arg3.IsWhole) (arg4 : Memref sig .tc .vmem S224x1000 .f32) (harg4 : arg4.IsWhole) (arg5 : Memref sig .tc .vmem S7x1000 .f32) (harg5 : arg5.IsWhole) (arg6 : Memref sig .tc .vmem S1x1024 .i32) (harg6 : arg6.IsWhole) (arg7 : Memref sig .tc .vmem S352x128 .f32) (harg7 : arg7.IsWhole) (arg8 : Memref sig .tc .vmem S4x128x128 .i32) (harg8 : arg8.IsWhole) (arg9 : Memref sig .tc .vmem S512x128 .i32) (harg9 : arg9.IsWhole) (arg10 : Memref sig .tc .vmem S224x128 .f32) (harg10 : arg10.IsWhole) (arg11 : Memref sig .tc .vmem S45064x128 .f32) (harg11 : arg11.IsWhole) (arg12 : Memref sig .tc .vmem S45064x96 .f32) (harg12 : arg12.IsWhole) (arg13 : Memref sig .tc .vmem S136x128 .f32) (harg13 : arg13.IsWhole) (arg14 : Memref sig .tc .vmem S136x128 .f32) (harg14 : arg14.IsWhole) (arg15 : Memref sig .tc .vmem S1024x128 .f32) (harg15 : arg15.IsWhole) (arg16 : Memref sig .tc .vmem S1024x96 .f32) (harg16 : arg16.IsWhole) (v29 : FVec F S224x128 .bf16) (v39 : Vec F S1x1024 .i32) (v45 : IVec S1x1024 32) (c : BitVec 32) : k0_part287 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v29 v39 v45 c = Prog.bind (Scf.Loop.for k0_t3_loop k0_t3_ok ⟨⟩ fun k _ => gatherDoc (F := F) arg0 arg11 arg12 arg13 arg14 arg15 arg16 k) fun _ =>
    Prog.bind (seqFrom (fun w : Fin 4 => finalWord (F := F) arg8 arg9 w) 4 0 rfl) fun _ =>
    .ret ⟨qsumOf v29, blockRow v39 0, blockRow v45 0, shrsi (subi (blockRow v45 0) (broadcast S1x128 1#32)) (broadcast S1x128 2#32), 2#32⟩ := by
  chain_rfl

theorem bindE {E : Type → Type} {α β : Type} (p : Prog E α) (k : α → Prog E β) : (p >>= k) = Prog.bind p k := rfl
theorem pureE {E : Type → Type} {α : Type} (a : α) : (pure a : Prog E α) = .ret a := rfl
theorem bindRet {E : Type → Type} {α β : Type} (a : α) (k : α → Prog E β) : Prog.bind (.ret a) k = k a := rfl
theorem bindAssoc {E : Type → Type} {α β γ : Type} (p : Prog E α) (f : α → Prog E β) (g : β → Prog E γ) :
    Prog.bind (Prog.bind p f) g = Prog.bind p (fun a => Prog.bind (f a) g) := Prog.bind_assoc p f g

/-- The printed kernel function, on any operands, is the structured program `body`. -/
theorem cc0_maxsim_eq (arg0 : Memref sig .tc .smem S1001 .i32) (harg0 : arg0.IsWhole) (arg1 : Memref sig .tc .vmem S224x128 .bf16) (harg1 : arg1.IsWhole) (arg2 : Memref sig .tc .vmem S1x1001 .i32) (harg2 : arg2.IsWhole) (arg3 : Memref sig .tc .vmem S5632x128 .i32) (harg3 : arg3.IsWhole) (arg4 : Memref sig .tc .vmem S224x1000 .f32) (harg4 : arg4.IsWhole) (arg5 : Memref sig .tc .vmem S7x1000 .f32) (harg5 : arg5.IsWhole) (arg6 : Memref sig .tc .vmem S1x1024 .i32) (harg6 : arg6.IsWhole) (arg7 : Memref sig .tc .vmem S352x128 .f32) (harg7 : arg7.IsWhole) (arg8 : Memref sig .tc .vmem S4x128x128 .i32) (harg8 : arg8.IsWhole) (arg9 : Memref sig .tc .vmem S512x128 .i32) (harg9 : arg9.IsWhole) (arg10 : Memref sig .tc .vmem S224x128 .f32) (harg10 : arg10.IsWhole) (arg11 : Memref sig .tc .vmem S45064x128 .f32) (harg11 : arg11.IsWhole) (arg12 : Memref sig .tc .vmem S45064x96 .f32) (harg12 : arg12.IsWhole) (arg13 : Memref sig .tc .vmem S136x128 .f32) (harg13 : arg13.IsWhole) (arg14 : Memref sig .tc .vmem S136x128 .f32) (harg14 : arg14.IsWhole) (arg15 : Memref sig .tc .vmem S1024x128 .f32) (harg15 : arg15.IsWhole) (arg16 : Memref sig .tc .vmem S1024x96 .f32) (harg16 : arg16.IsWhole) : cc0_maxsim (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = body (F := F) arg0 arg1 arg2 arg3 arg4 arg5 arg6 arg7 arg8 arg9 arg10 arg11 arg12 arg13 arg14 arg15 arg16 := by
  unfold cc0_maxsim k0_part367
  simp only [bindE, pureE, part281_eq, part282_eq, part283_eq, part287_eq, bindAssoc, bindRet]
  chain_rfl

end Cert.KernelIdeal.MaxSim
end
-- ==== Proof.MaxSim.State.lean ====
/- The seventeen buffers of the kernel as one state, and what it means that a program started at one state
   returns a value and leaves another: the rules for its loads, stores, checks, sequences and loops. -/
module

public import proofs.«01_k».proof.Proof.MaxSim.Program
public import proofs.«01_k».proof.Proof.Gen.KernelIdeal
public import Idealize.ShloMosaic.Lib.Tactic
public import Idealize.ShloMosaic.Lib.WholeRead
public import Idealize.ShloMosaic.Lib.Scf

@[expose] public section

set_option maxRecDepth 16384

noncomputable section

namespace Cert.KernelIdeal.MaxSim

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-! ## The buffers -/

/-- The kernel's operands, in order. -/
inductive B
  | b0 | b1 | b2 | b3 | b4 | b5 | b6 | b7 | b8 | b9 | b10 | b11 | b12 | b13 | b14 | b15 | b16
  deriving DecidableEq

instance : Fintype B where
  elems := {.b0, .b1, .b2, .b3, .b4, .b5, .b6, .b7, .b8, .b9, .b10, .b11, .b12, .b13, .b14, .b15, .b16}
  complete := by intro x; cases x <;> decide

/-- The memory each buffer lies in. -/
@[reducible] def sp : B → CoreSpace
  | .b0 => .smem
  | _ => .vmem

/-- Each buffer's shape. -/
@[reducible] def shp : B → Shape
  | .b0 => S1001 | .b1 => S224x128 | .b2 => S1x1001 | .b3 => S5632x128 | .b4 => S224x1000 | .b5 => S7x1000
  | .b6 => S1x1024 | .b7 => S352x128 | .b8 => S4x128x128 | .b9 => S512x128 | .b10 => S224x128 | .b11 => S45064x128
  | .b12 => S45064x96 | .b13 => S136x128 | .b14 => S136x128 | .b15 => S1024x128 | .b16 => S1024x96

/-- Each buffer's element type. -/
@[reducible] def elt : B → EltTy
  | .b0 => .i32 | .b1 => .bf16 | .b2 => .i32 | .b3 => .i32 | .b4 => .f32 | .b5 => .f32
  | .b6 => .i32 | .b7 => .f32 | .b8 => .i32 | .b9 => .i32 | .b10 => .f32 | .b11 => .f32
  | .b12 => .f32 | .b13 => .f32 | .b14 => .f32 | .b15 => .f32 | .b16 => .f32

/-- The kernel's seventeen operands, each a whole buffer. -/
structure Refs where
  ref : (i : B) → Memref sig .tc (sp i) (shp i) (elt i)
  whole : (i : B) → (ref i).IsWhole

/-- The contents of the seventeen buffers. -/
abbrev St (F : FTy → Type) : Type := (i : B) → (shp i).Idx → Elt F (elt i)

/-- What a load at `r` reads. -/
def rd {V : Type} {s : Shape} (r : LoadRect s) (f : s.Idx → V) : r.shape.Idx → V := fun x => f (r.idx x)

/-- The contents after a store of `w` at `r`. -/
def wr {V : Type} {s : Shape} (r : Rect s) (w : r.shape.Idx → V) (f : s.Idx → V) : s.Idx → V := fun y =>
  open Classical in if h : ∃ x, r.emb x = y then w h.choose else f y

theorem wr_emb {V : Type} {s : Shape} (r : Rect s) (w : r.shape.Idx → V) (f : s.Idx → V) (x : r.shape.Idx) :
    wr r w f (r.emb x) = w x := by
  have h : ∃ x', r.emb x' = r.emb x := ⟨x, rfl⟩
  rw [wr, dif_pos h]
  exact congrArg w (r.emb.injective h.choose_spec)

theorem wr_not {V : Type} {s : Shape} (r : Rect s) (w : r.shape.Idx → V) (f : s.Idx → V) (y : s.Idx) (h : ¬ ∃ x, r.emb x = y) :
    wr r w f y = f y := by rw [wr, dif_neg h]

/-- One buffer held whole at contents `X`. -/
abbrev own1 (c : Dev nD) (R : Refs) (i : B) (X : (shp i).Idx → Elt F (elt i)) : sProp 𝕄 :=
  (R.ref i).view.loc (c : Thread nD τ) ↦{fullShare} (R.whole i).unread X

/-- The seventeen buffers held at a state. -/
def Own (c : Dev nD) (R : Refs) (st : St F) : sProp 𝕄 := bigSep Finset.univ fun i => own1 c R i (st i)

theorem own_split (c : Dev nD) (R : Refs) (st : St F) (i : B) :
    Own c R st = iprop(own1 c R i (st i) ∗ bigSep (Finset.univ.erase i) fun j => own1 c R j (st j)) := by
  unfold Own; exact (bigSep_erase (Finset.mem_univ i))

theorem own_update (c : Dev nD) (R : Refs) (st : St F) (i : B) (X : (shp i).Idx → Elt F (elt i)) :
    Own c R (Function.update st i X) = iprop(own1 c R i X ∗ bigSep (Finset.univ.erase i) fun j => own1 c R j (st j)) := by
  rw [own_split c R _ i, Function.update_self]
  congr 1
  refine bigSep_congr fun j hj => ?_
  rw [Function.update_of_ne (Finset.ne_of_mem_erase hj)]

/-! ## Runs -/

/-- Started at `st`, the program `p` returns `a` and leaves `st'`. -/
def Runs (c : Dev nD) (R : Refs) {α : Type} (p : P F α) (st : St F) (a : α) (st' : St F) : Prop :=
  ∀ (E : Set ℕ) (Q : α → sProp 𝕄),
    iprop(Own c R st ∗ (Own c R st' -∗ Q a)) ⊢ wp frame (wpE (defs₀ (F := F)) Variants.none (c : Thread nD τ) none) E p Q

variable {c : Dev nD} {R : Refs}

theorem Runs.ret {α : Type} (a : α) (st : St F) : Runs c R (.ret a) st a st := fun E Q => by
  iintro ⟨H, Hk⟩
  iapply (le_wp_ret frame (wpE (defs₀ (F := F)) Variants.none (c : Thread nD τ) none) E a Q)
  iapply Hk; iexact H

theorem Runs.bind {α β : Type} {p : P F α} {k : α → P F β} {st st' st'' : St F} {a : α} {b : β}
    (h : Runs c R p st a st') (h' : Runs c R (k a) st' b st'') : Runs c R (p >>= k) st b st'' := fun E Q => by
  rw [wp_bind]
  iintro ⟨H, Hk⟩
  iapply (h E _)
  isplitl [H]; · iexact H
  iintro H
  iapply (h' E Q)
  isplitl [H]; · iexact H
  iexact Hk

/-- A load reads the buffer at the rectangle. -/
theorem Runs.load (i : B) (r : LoadRect (shp i)) (hl : (R.ref i).view.LoadsAt r) (st : St F) :
    Runs c R (Prog.lift (.load (R.ref i) r hl)) st (rd r (st i)) st := fun E Q => by
  rw [own_split c R st i]
  iintro ⟨⟨H, Hr⟩, Hk⟩
  have e : (R.ref i).view.readAt (Elt F) r ((R.whole i).unread (st i)) = rd r (st i) :=
    funext fun x => (R.whole i).readAt_unread (st i) r x
  rw [← e]
  iapply (wp_load (defs := defs₀ (F := F)) Variants.none (c : Thread nD τ) none E (m := R.ref i) (r := r) (Finset.subset_univ _)) $$ H
  iintro H
  iapply (le_wp_ret frame (wpE (defs₀ (F := F)) Variants.none (c : Thread nD τ) none) E _ Q)
  iapply Hk
  isplitl [H]; · iexact H
  iexact Hr

/-- A store of every element replaces the rectangle. -/
theorem Runs.store (i : B) (r : Rect (shp i)) (w : r.shape.Idx → Elt F (elt i)) (hx : ((R.ref i).access r).Stores Finset.univ)
    (hm : (Finset.univ : Finset r.shape.Idx) = Finset.univ ∨ ∀ a, r.stride a = 1) (st : St F) :
    Runs c R (Prog.lift (.store (R.ref i) r w Finset.univ hx hm)) st ⟨⟩ (Function.update st i (wr r w (st i))) := fun E Q => by
  have e : ((R.ref i).access r).write (Elt F) ((R.whole i).unread (st i)) w Finset.univ = (R.whole i).unread (wr r w (st i)) := by
    refine (R.whole i).eq_unread (funext fun y => ?_)
    by_cases h : ∃ x, r.emb x = y
    · obtain ⟨x, rfl⟩ := h
      rw [wr_emb]
      exact View.read_slice_write_emb r _ w (Finset.mem_univ x)
    · rw [wr_not r w _ y h]
      refine (View.read_slice_write_of_not_mem r _ w Finset.univ ?_).trans (congrFun ((R.whole i).read_unread (st i)) y)
      intro hm'
      obtain ⟨x, -, hx'⟩ := Finset.mem_map.mp hm'
      exact h ⟨x, hx'⟩
  have e' : own1 c R i (wr r w (st i)) = ((R.ref i).view.loc (c : Thread nD τ) ↦{fullShare} ((R.ref i).access r).write (Elt F) ((R.whole i).unread (st i)) w Finset.univ : sProp 𝕄) :=
    congrArg (fun X => ((R.ref i).view.loc (c : Thread nD τ) ↦{fullShare} X : sProp 𝕄)) e.symm
  rw [own_update c R st i, own_split c R st i, e']
  iintro ⟨⟨H, Hr⟩, Hk⟩
  iapply (wp_store (defs := defs₀ (F := F)) Variants.none (c : Thread nD τ) none E (m := R.ref i) (r := r) (w := w)
    (Mk := Finset.univ) (hx := hx) (hm := hm) (Finset.subset_univ _)) $$ H
  iintro H
  iapply (le_wp_ret frame (wpE (defs₀ (F := F)) Variants.none (c : Thread nD τ) none) E _ Q)
  iapply Hk
  isplitl [H]; · iexact H
  iexact Hr

/-- A scalar load reads the one element of the rectangle. -/
theorem Runs.smemLoad (r : Rect S1001) (h1 : r.shape.numel = 1) (hp : (EltTy.i32).packing = 1) (st : St F) :
    Runs c R (smemLoad (R.ref .b0) r h1 hp) st (rd r.toLoadRect (st .b0) (Shape.Idx.first (h1.symm ▸ Nat.one_pos))) st := fun E Q => by
  rw [own_split c R st .b0]
  iintro ⟨⟨H, Hr⟩, Hk⟩
  have e : (R.ref .b0).view.readAt (Elt F) r.toLoadRect ((R.whole .b0).unread (st .b0)) = rd r.toLoadRect (st .b0) :=
    funext fun x => (R.whole .b0).readAt_unread (st .b0) r.toLoadRect x
  rw [← e]
  iapply (wp_load (defs := defs₀ (F := F)) Variants.none (c : Thread nD τ) none E (m := R.ref .b0) (r := r.toLoadRect) (Finset.subset_univ _)) $$ H
  iintro H
  iapply (le_wp_ret frame (wpE (defs₀ (F := F)) Variants.none (c : Thread nD τ) none) E _ Q)
  iapply Hk
  isplitl [H]; · iexact H
  iexact Hr

/-- A check that holds passes. -/
theorem Runs.assume {P : Prop} (d : Decidable P) (h : P) (st : St F) :
    Runs c R (Prog.lift (TpuEff.assume P d)) st ⟨h⟩ st := fun E Q => by
  iintro ⟨H, Hk⟩
  iapply (wp_assume (defs := defs₀ (F := F)) Variants.none (c : Thread nD τ) none E (k := .ret) h)
  iapply (le_wp_ret frame (wpE (defs₀ (F := F)) Variants.none (c : Thread nD τ) none) E _ Q)
  iapply Hk; iexact H

/-- A loop runs its trips one after the other. -/
theorem Runs.for {w : ℕ} (L : Scf.Loop w) (ok : L.OK) (body : Fin L.trips → PUnit → P F PUnit) (S : ℕ → St F)
    (h : ∀ k : Fin L.trips, Runs c R (body k ⟨⟩) (S k.val) ⟨⟩ (S (k.val + 1))) :
    Runs c R (Scf.Loop.for L ok ⟨⟩ body) (S 0) ⟨⟩ (S L.trips) := fun E Q => by
  refine BIBase.Entails.trans ?_ (Scf.wp_for frame (wpE (defs₀ (F := F)) Variants.none (c : Thread nD τ) none) E L.lb L.ub L.st ok ⟨⟩ body
    (fun k _ => Own c R (S k)) (fun k acc => ?_))
  · iintro ⟨H, Hk⟩
    isplitl [H]; · iexact H
    iintro %acc H
    iapply Hk; iexact H
  · refine BIBase.Entails.trans ?_ (h k E _)
    iintro H
    isplitl [H]; · iexact H
    iintro H; iexact H

/-- A sequence of numbered programs. -/
theorem Runs.seqFrom {N : Nat} (f : Fin N → P F PUnit) (S : ℕ → St F)
    (h : ∀ k : Fin N, Runs c R (f k) (S k.val) ⟨⟩ (S (k.val + 1))) :
    ∀ (n i : Nat) (hn : i + n = N), Runs c R (seqFrom f n i hn) (S i) ⟨⟩ (S N)
  | 0, i, hn => by obtain rfl : i = N := by omega
                   exact Runs.ret _ _
  | n + 1, i, hn => (h ⟨i, by omega⟩).bind (Runs.seqFrom f S h n (i + 1) (by omega))

/-- `Runs` up to equal value and state. -/
theorem Runs.to {α : Type} {p : P F α} {st st' st'' : St F} {a b : α} (h : Runs c R p st a st') (ha : a = b) (hs : st' = st'') :
    Runs c R p st b st'' := by subst ha hs; exact h

end Cert.KernelIdeal.MaxSim

end
-- ==== Proof.MaxSim.Sem.lean ====
/- What each piece of the structured program does to the buffers, as a function of their contents. -/
module

public import proofs.«01_k».proof.Proof.MaxSim.State

@[expose] public section

set_option maxRecDepth 16384

noncomputable section

namespace Cert.KernelIdeal.MaxSim

open Cert.KernelIdeal
open Idealize.ShloMosaic Idealize.ShloMosaic.TcCoe
open Idealize.SL.Sem
open Facts₀ Facts

variable {F : FTy → Type} [FloatOps F]
variable {c : Dev nD} {R : Refs}

/-! ## Loops as iterated functions -/

/-- `f 0`, `f 1`, …, `f (n-1)` applied one after the other. -/
def iter {N : ℕ} (f : Fin N → St F → St F) : ℕ → St F → St F
  | 0, st => st
  | n + 1, st => if h : n < N then f ⟨n, h⟩ (iter f n st) else iter f n st

theorem iter_succ {N : ℕ} (f : Fin N → St F → St F) (k : Fin N) (st : St F) :
    iter f (k.val + 1) st = f k (iter f k.val st) := by rw [iter, dif_pos k.isLt]

/-- A property every application keeps holds after any number of them. -/
theorem iter_keep {N : ℕ} (f : Fin N → St F → St F) (I : St F → Prop) (hI : ∀ k st, I st → I (f k st)) (st : St F) (h : I st) :
    ∀ n, I (iter f n st)
  | 0 => h
  | n + 1 => by
    rw [iter]; split
    · exact hI _ _ (iter_keep f I hI st h n)
    · exact iter_keep f I hI st h n

/-- Counted invariants. -/
theorem iter_inv {N : ℕ} (f : Fin N → St F → St F) (I : ℕ → St F → Prop) (hI : ∀ (k : Fin N) st, I k.val st → I (k.val + 1) (f k st))
    (st : St F) (h : I 0 st) : ∀ n, n ≤ N → I n (iter f n st)
  | 0, _ => h
  | n + 1, hn => by
    have hlt : n < N := hn
    rw [iter, dif_pos hlt]
    exact hI ⟨n, hn⟩ _ (iter_inv f I hI st h n (by omega))

theorem Runs.forI {w : ℕ} (L : Scf.Loop w) (ok : L.OK) (body : Fin L.trips → PUnit → P F PUnit) (f : Fin L.trips → St F → St F)
    (I : St F → Prop) (h : ∀ k st, I st → Runs c R (body k ⟨⟩) st ⟨⟩ (f k st)) (hI : ∀ k st, I st → I (f k st)) (st : St F) (hst : I st) :
    Runs c R (Scf.Loop.for L ok ⟨⟩ body) st ⟨⟩ (iter f L.trips st) :=
  Runs.for L ok body (fun k => iter f k st) fun k => by
    rw [iter_succ]; exact h k _ (iter_keep f I hI st hst _)

theorem Runs.seqI {N : ℕ} (p : Fin N → P F PUnit) (f : Fin N → St F → St F)
    (I : St F → Prop) (h : ∀ k st, I st → Runs c R (p k) st ⟨⟩ (f k st)) (hI : ∀ k st, I st → I (f k st)) (st : St F) (hst : I st) :
    Runs c R (MaxSim.seqFrom p N 0 (Nat.zero_add N)) st ⟨⟩ (iter f N st) :=
  Runs.seqFrom p (fun k => iter f k st) (fun k => by
    rw [iter_succ]; exact h k _ (iter_keep f I hI st hst _)) N 0 (Nat.zero_add N)

/-! ## Pieces -/

/-- Set one buffer. -/
abbrev St.set (st : St F) (i : B) (X : (shp i).Idx → Elt F (elt i)) : St F := Function.update st i X

/-- Row `r` of word `w`, broadcast over sublanes. -/
def rowV (x : IVec S4x128x128 32) (w r : Nat) (hw : w < 4) (hr : r < 128) : IVec S8x128 32 :=
  bcast (shapeCast S1x128 (rd (Rect.unit (s := S4x128x128) ![w, r, 0] S1x1x128.size (inb_row w r hw hr)).toLoadRect x) shapeCasts_S1x1x128_S1x128)

/-- The four words of row `r`. -/
def tileV (x : IVec S4x128x128 32) (r : Nat) (hr : r < 128) : Tile :=
  ![rowV x 0 r (by omega) hr, rowV x 1 r (by omega) hr, rowV x 2 r (by omega) hr, rowV x 3 r (by omega) hr]

/-- Word `w` replaced by a 128x128 matrix. -/
def setWord (w : Nat) (hw : w < 4) (x : IVec S128x128 32) (f : IVec S4x128x128 32) : IVec S4x128x128 32 :=
  wr (Rect.unit (s := S4x128x128) ![w, 0, 0] S1x128x128.size (inb_word w hw)) (shapeCast S1x128x128 x shapeCasts_S128x128_S1x128x128) f

theorem runs_loadRow (w r : Nat) (hw : w < 4) (hr : r < 128) (st : St F) :
    Runs c R (loadRow (R.ref .b8) w r hw hr) st (rowV (st .b8) w r hw hr) st :=
  (Runs.load .b8 _ _ st).bind (Runs.ret _ _)

theorem runs_loadTile (r : Nat) (hr : r < 128) (st : St F) :
    Runs c R (loadTile (R.ref .b8) r hr) st (tileV (st .b8) r hr) st :=
  (runs_loadRow 0 r _ hr st).bind ((runs_loadRow 1 r _ hr st).bind ((runs_loadRow 2 r _ hr st).bind
    ((runs_loadRow 3 r _ hr st).bind (Runs.ret _ _))))

theorem runs_storeWord (w : Nat) (hw : w < 4) (x : IVec S128x128 32) (st : St F) :
    Runs c R (storeWord (R.ref .b8) w hw x) st ⟨⟩ (st.set .b8 (setWord w hw x (st .b8))) :=
  (Runs.load .b8 _ _ st).bind (Runs.store .b8 _ _ _ _ st)

/-- Word `w` of step `k`'s tokens. -/
def stepWordV (k : Fin k0_t2_loop.trips) (w : Fin 4) (raw : IVec S5632x128 32) : IVec S128x128 32 :=
  transpose S128x128 [1, 0] (shapeCast S128x128
    (rd (⟨k0_off25 k (BitVec.ofNat 32 w.val), S128x128.size, ![44, 1], k0_off25_inb k w⟩ : LoadRect S5632x128) raw)
    shapeCasts_S128x128_S128x128) transposes_S128x128_p1_0_S128x128

def stepWordS (k : Fin k0_t2_loop.trips) (w : Fin 4) (st : St F) : St F :=
  st.set .b8 (setWord w.val w.isLt (stepWordV k w (st .b3)) (st .b8))

theorem runs_stepWord (k : Fin k0_t2_loop.trips) (w : Fin 4) (st : St F) :
    Runs c R (stepWord (R.ref .b3) (R.ref .b8) k w) st ⟨⟩ (stepWordS k w st) :=
  (Runs.load .b3 _ _ st).bind (runs_storeWord _ _ _ st)

/-- Group `g` of step `k`'s code row. -/
def codeRow (k : Fin k0_t2_loop.trips) (g : Fin 32) (code : FVec F S352x128 .f32) : FVec F S1x128 .f32 :=
  rd (Rect.unit (s := S352x128) (k0_off26 k (BitVec.ofNat 32 g.val)) S1x128.size (k0_off26_inb k g)).toLoadRect code

/-- The products maximized over the tokens of group `g` that belong to the group's last document. -/
def groupY (q : FVec F S224x128 .bf16) (code : FVec F S1x128 .f32) (x : IVec S4x128x128 32) (g : Fin 32) : FVec F S224x128 .f32 :=
  let t := tileV x (4 * g.val + 3) (by omega)
  score q (fun w => select (dropMask code 0x3FC00000#32) (t w) (tileV x (4 * g.val) (by omega) w))
    (fun w => select (dropMask code 0x40200000#32) (t w) (tileV x (4 * g.val + 1) (by omega) w))
    (fun w => select (dropMask code 0x40600000#32) (t w) (tileV x (4 * g.val + 2) (by omega) w)) t

/-- The whole of a 224x128 buffer. -/
abbrev rAcc : Rect S224x128 := Rect.unit (s := S224x128) ![0, 0] S224x128.size inb_S224x128_S224x128_0_0

/-- The running maximum after group `g` of step `k`. -/
def groupN (q : FVec F S224x128 .bf16) (k : Fin k0_t2_loop.trips) (g : Fin 32) (code : FVec F S352x128 .f32)
    (x : IVec S4x128x128 32) (acc : FVec F S224x128 .f32) : FVec F S224x128 .f32 :=
  accNext (codeRow k g code) (rd rAcc.toLoadRect acc) (groupY q (codeRow k g code) x g)

def groupS (q : FVec F S224x128 .bf16) (k : Fin k0_t2_loop.trips) (g : Fin 32) (st : St F) : St F :=
  let n := groupN q k g (st .b7) (st .b8) (st .b10)
  ((st.set .b10 (wr rAcc (shapeCast S224x128 n shapeCasts_S224x128_S224x128) (st .b10))).set .b11
    (wr (Rect.unit (s := S45064x128) (k0_off27 k (BitVec.ofNat 32 g.val)) S128x128.size (k0_off27_inb k g))
      (shapeCast S128x128 (topT n) shapeCasts_S128x128_S128x128) (st .b11))).set .b12
    (wr (Rect.unit (s := S45064x96) (k0_off28 k (BitVec.ofNat 32 g.val)) S128x96.size (k0_off28_inb k g))
      (shapeCast S128x96 (botT n) shapeCasts_S128x96_S128x96) (st .b12))

theorem runs_group (q : FVec F S224x128 .bf16) (k : Fin k0_t2_loop.trips) (g : Fin 32) (st : St F) :
    Runs c R (group (R.ref .b7) (R.ref .b8) (R.ref .b10) (R.ref .b11) (R.ref .b12) q k g) st ⟨⟩ (groupS q k g st) := by
  unfold group
  refine (Runs.load .b7 _ _ st).bind ?_
  refine (runs_loadTile _ _ st).bind ?_
  refine (runs_loadTile _ _ st).bind ?_
  refine (runs_loadTile _ _ st).bind ?_
  refine (runs_loadTile _ _ st).bind ?_
  refine (Runs.load .b7 _ _ st).bind ?_
  refine (Runs.load .b10 _ _ st).bind ?_
  refine (Runs.load .b10 _ _ st).bind ?_
  refine (Runs.store .b10 _ _ _ _ st).bind ?_
  refine (Runs.load .b11 _ _ _).bind ?_
  refine (Runs.store .b11 _ _ _ _ _).bind ?_
  refine (Runs.load .b12 _ _ _).bind ?_
  exact Runs.store .b12 _ _ _ _ _

def stepS (q : FVec F S224x128 .bf16) (k : Fin k0_t2_loop.trips) (st : St F) : St F :=
  iter (groupS q k) 32 (iter (stepWordS k) 4 st)

theorem runs_step (q : FVec F S224x128 .bf16) (k : Fin k0_t2_loop.trips) (st : St F) :
    Runs c R (step (R.ref .b3) (R.ref .b7) (R.ref .b8) (R.ref .b10) (R.ref .b11) (R.ref .b12) q k) st ⟨⟩ (stepS q k st) :=
  (Runs.seqI _ _ (fun _ => True) (fun w st _ => runs_stepWord k w st) (fun _ _ _ => trivial) st trivial).bind
    (Runs.seqI _ _ (fun _ => True) (fun g st _ => runs_group q k g st) (fun _ _ _ => trivial) _ trivial)

/-- The one word of an offset rectangle. -/
def word (o : IVec S1001 32) (off : Fin 1 → Nat) (h : ∀ a, off a + S1.size a ≤ S1001.size a) : BitVec 32 :=
  rd (Rect.unit (s := S1001) off S1.size h).toLoadRect o (Shape.Idx.first (numel1_S1.symm ▸ Nat.one_pos))

/-- Every check the kernel makes of the offsets it reads holds. -/
structure Checks (o : IVec S1001 32) : Prop where
  tail : ∀ off h, k0_chk1 (word o off h)
  doc : ∀ off h off' h', k0_chk9 (word o off h) (word o off' h')

/-- What lane `k`'s trip stores for block `b`. -/
def tailV (k : Fin k0_t1_loop.trips) (b : Fin 8) (o : IVec S1001 32) (ho : Checks o) (raw : IVec S5632x128 32) : IVec S4x4 32 :=
  tailSel (F := F) b (word o (endOff k b.val) (endOff_inb k b))
    (rd (Rect.unit (s := S5632x128) (k0_off2 (word o (endOff k b.val) (endOff_inb k b))) S4x128.size
      (k0_off2_inb _ (ho.tail _ _))).toLoadRect raw)

def tailBlockS (o : IVec S1001 32) (ho : Checks o) (k : Fin k0_t1_loop.trips) (b : Fin 8) (st : St F) : St F :=
  st.set .b9 (wr (Rect.unit (s := S512x128) (evOff k b.val) S4x4.size (evOff_inb k b))
    (shapeCast S4x4 (tailV (F := F) k b o ho (st .b3)) shapeCasts_S4x4_S4x4) (st .b9))

theorem runs_tailBlock (o : IVec S1001 32) (ho : Checks o) (k : Fin k0_t1_loop.trips) (b : Fin 8) (st : St F) (hst : st .b0 = o) :
    Runs c R (tailBlock (R.ref .b0) (R.ref .b3) (R.ref .b9) k b) st ⟨⟩ (tailBlockS o ho k b st) := by
  subst hst
  unfold tailBlock
  refine (Runs.smemLoad _ _ _ st).bind ?_
  refine (Runs.assume _ (ho.tail _ _) st).bind ?_
  refine (Runs.load .b3 _ _ st).bind ?_
  refine (Runs.load .b9 _ _ st).bind ?_
  exact Runs.store .b9 _ _ _ _ _

def gatherTailS (o : IVec S1001 32) (ho : Checks o) (k : Fin k0_t1_loop.trips) (st : St F) : St F := iter (tailBlockS o ho k) 8 st

theorem tailBlockS_b0 (o : IVec S1001 32) (ho : Checks o) (k : Fin k0_t1_loop.trips) (b : Fin 8) (st : St F) :
    tailBlockS o ho k b st .b0 = st .b0 := rfl

theorem runs_gatherTail (o : IVec S1001 32) (ho : Checks o) (k : Fin k0_t1_loop.trips) (st : St F) (hst : st .b0 = o) :
    Runs c R (gatherTail (R.ref .b0) (R.ref .b3) (R.ref .b9) k) st ⟨⟩ (gatherTailS o ho k st) :=
  Runs.seqI _ _ (fun st => st .b0 = o) (fun b st h => runs_tailBlock o ho k b st h) (fun _ _ h => h) st hst

/-- The start and stop words document `8 k + b` reads. -/
def startW (k : Fin k0_t3_loop.trips) (b : Fin 8) (o : IVec S1001 32) : BitVec 32 := word o (startOff k b.val) (startOff_inb k b)
def stopW (k : Fin k0_t3_loop.trips) (b : Fin 8) (o : IVec S1001 32) : BitVec 32 := word o (stopOff k b.val) (stopOff_inb k b)

def docV0 (k : Fin k0_t3_loop.trips) (b : Fin 8) (o : IVec S1001 32) (ho : Checks o) (s0 : FVec F S45064x128 .f32) (c0 : FVec F S136x128 .f32) :
    FVec F S1x128 .f32 :=
  maximumf (rd (Rect.unit (s := S45064x128) (k0_off31 (startW k b o) (stopW k b o)) S1x128.size (k0_off31_inb _ _ (ho.doc _ _ _ _))).toLoadRect s0)
    (rd (Rect.unit (s := S136x128) (k0_off32 (startW k b o) (stopW k b o)) S1x128.size (k0_off32_inb _ _ (ho.doc _ _ _ _))).toLoadRect c0)

def docV1 (k : Fin k0_t3_loop.trips) (b : Fin 8) (o : IVec S1001 32) (ho : Checks o) (s1 : FVec F S45064x96 .f32) (c1 : FVec F S136x128 .f32) :
    FVec F S1x96 .f32 :=
  maximumf (rd (Rect.unit (s := S45064x96) (k0_off34 (startW k b o) (stopW k b o)) S1x96.size (k0_off34_inb _ _ (ho.doc _ _ _ _))).toLoadRect s1)
    (rd (Rect.unit (s := S136x128) (k0_off35 (startW k b o) (stopW k b o)) S1x96.size (k0_off35_inb _ _ (ho.doc _ _ _ _))).toLoadRect c1)

def docBlockS (o : IVec S1001 32) (ho : Checks o) (k : Fin k0_t3_loop.trips) (b : Fin 8) (st : St F) : St F :=
  (st.set .b15 (wr (Rect.unit (s := S1024x128) (docOff k b.val) S1x128.size (docOff_inb0 k b))
      (shapeCast S1x128 (docV0 k b o ho (st .b11) (st .b13)) shapeCasts_S1x128_S1x128) (st .b15))).set .b16
    (wr (Rect.unit (s := S1024x96) (docOff k b.val) S1x96.size (docOff_inb1 k b))
      (shapeCast S1x96 (docV1 k b o ho (st .b12) (st .b14)) shapeCasts_S1x96_S1x96) (st .b16))

theorem runs_docBlock (o : IVec S1001 32) (ho : Checks o) (k : Fin k0_t3_loop.trips) (b : Fin 8) (st : St F) (hst : st .b0 = o) :
    Runs c R (docBlock (R.ref .b0) (R.ref .b11) (R.ref .b12) (R.ref .b13) (R.ref .b14) (R.ref .b15) (R.ref .b16) k b) st ⟨⟩
      (docBlockS o ho k b st) := by
  subst hst
  unfold docBlock
  refine (Runs.smemLoad _ _ _ st).bind ?_
  refine (Runs.smemLoad _ _ _ st).bind ?_
  refine (Runs.assume _ (ho.doc _ _ _ _) st).bind ?_
  refine (Runs.load .b11 _ _ st).bind ?_
  refine (Runs.load .b13 _ _ st).bind ?_
  refine (Runs.load .b15 _ _ st).bind ?_
  refine (Runs.store .b15 _ _ _ _ _).bind ?_
  refine (Runs.load .b12 _ _ _).bind ?_
  refine (Runs.load .b14 _ _ _).bind ?_
  refine (Runs.load .b16 _ _ _).bind ?_
  exact Runs.store .b16 _ _ _ _ _

def gatherDocS (o : IVec S1001 32) (ho : Checks o) (k : Fin k0_t3_loop.trips) (st : St F) : St F := iter (docBlockS o ho k) 8 st

theorem runs_gatherDoc (o : IVec S1001 32) (ho : Checks o) (k : Fin k0_t3_loop.trips) (st : St F) (hst : st .b0 = o) :
    Runs c R (gatherDoc (R.ref .b0) (R.ref .b11) (R.ref .b12) (R.ref .b13) (R.ref .b14) (R.ref .b15) (R.ref .b16) k) st ⟨⟩ (gatherDocS o ho k st) :=
  Runs.seqI _ _ (fun st => st .b0 = o) (fun b st h => runs_docBlock o ho k b st h) (fun _ _ h => h) st hst

/-- Word `w` of the documents' last groups. -/
def finalV (w : Fin 4) (ev : IVec S512x128 32) : IVec S128x128 32 :=
  transpose S128x128 [1, 0] (rd (⟨![w.val, 0], S128x128.size, ![4, 1], inb_ev w.val w.isLt⟩ : LoadRect S512x128) ev)
    transposes_S128x128_p1_0_S128x128

def finalWordS (w : Fin 4) (st : St F) : St F := st.set .b8 (setWord w.val w.isLt (finalV w (st .b9)) (st .b8))

theorem runs_finalWord (w : Fin 4) (st : St F) :
    Runs c R (finalWord (R.ref .b8) (R.ref .b9) w) st ⟨⟩ (finalWordS w st) :=
  (Runs.load .b9 _ _ st).bind (runs_storeWord _ _ _ st)

/-- Block `b`'s results. -/
def blockV (q : FVec F S224x128 .bf16) (srow erow : IVec S1x1024 32) (qsum : FVec F S224x1 .f32) (b : Fin 8)
    (x : IVec S4x128x128 32) (m0 : FVec F S1024x128 .f32) (m1 : FVec F S1024x96 .f32) : FVec F S224x128 .f32 :=
  blockMax qsum (blockRow srow b) (blockRow erow b)
    (ownScore q (blockRow srow b) (blockRow erow b) (tileV x (4 * b.val) (by omega)) (tileV x (4 * b.val + 1) (by omega))
      (tileV x (4 * b.val + 2) (by omega)) (tileV x (4 * b.val + 3) (by omega)))
    (rd (Rect.unit (s := S1024x128) ![128 * b.val, 0] S128x128.size (inb_m0 (128 * b.val) (by omega))).toLoadRect m0)
    (rd (Rect.unit (s := S1024x96) ![128 * b.val, 0] S128x96.size (inb_m1 (128 * b.val) (by omega))).toLoadRect m1)

theorem runs_blockVal (q : FVec F S224x128 .bf16) (srow : Vec F S1x1024 .i32) (erow : IVec S1x1024 32) (qsum : FVec F S224x1 .f32)
    (b : Fin 8) (st : St F) :
    Runs c R (blockVal (R.ref .b8) (R.ref .b15) (R.ref .b16) q srow erow qsum b) st
      (blockV q srow erow qsum b (st .b8) (st .b15) (st .b16)) st := by
  unfold blockVal
  refine (runs_loadTile _ _ st).bind ?_
  refine (runs_loadTile _ _ st).bind ?_
  refine (runs_loadTile _ _ st).bind ?_
  refine (runs_loadTile _ _ st).bind ?_
  refine (Runs.load .b15 _ _ st).bind ?_
  refine (Runs.load .b16 _ _ st).bind ?_
  exact Runs.ret _ _

def storeScoreS (m : FVec F S224x128 .f32) (n : Nat) (hn : n + 128 ≤ 1000) (k : Fin 7) (st : St F) : St F :=
  st.set .b5 (wr (Rect.unit (s := S7x1000) ![k.val, n] S1x128.size (inb_sc k.val n k.isLt hn)) (sumQ m k) (st .b5))

theorem runs_storeScore (m : FVec F S224x128 .f32) (n : Nat) (hn : n + 128 ≤ 1000) (k : Fin 7) (st : St F) :
    Runs c R (storeScore (R.ref .b5) m n hn k) st ⟨⟩ (storeScoreS m n hn k st) :=
  (Runs.load .b5 _ _ st).bind (Runs.store .b5 _ _ _ _ st)

def storeScore104S (m : FVec F S224x128 .f32) (k : Fin 7) (st : St F) : St F :=
  st.set .b5 (wr (Rect.unit (s := S7x1000) ![k.val, 896] S1x104.size (inb_sc104 k.val 896 k.isLt (by omega))) (sumQ104 m k) (st .b5))

theorem runs_storeScore104 (m : FVec F S224x128 .f32) (k : Fin 7) (st : St F) :
    Runs c R (storeScore104 (R.ref .b5) m k) st ⟨⟩ (storeScore104S m k st) :=
  (Runs.load .b5 _ _ st).bind (Runs.store .b5 _ _ _ _ st)

def blockS (q : FVec F S224x128 .bf16) (srow erow : IVec S1x1024 32) (qsum : FVec F S224x1 .f32) (b : Fin 7) (st : St F) : St F :=
  let m := blockV q srow erow qsum (Fin.castSucc b) (st .b8) (st .b15) (st .b16)
  iter (storeScoreS m (128 * b.val) (by omega)) 7
    (st.set .b4 (wr (Rect.unit (s := S224x1000) ![0, 128 * b.val] S224x128.size (inb_out (128 * b.val) (by omega))) m (st .b4)))

theorem runs_block (q : FVec F S224x128 .bf16) (srow : Vec F S1x1024 .i32) (erow : IVec S1x1024 32) (qsum : FVec F S224x1 .f32)
    (b : Fin 7) (st : St F) :
    Runs c R (block (R.ref .b4) (R.ref .b5) (R.ref .b8) (R.ref .b15) (R.ref .b16) q srow erow qsum b) st ⟨⟩ (blockS q srow erow qsum b st) := by
  unfold block
  refine (runs_blockVal q srow erow qsum _ st).bind ?_
  refine (Runs.load .b4 _ _ st).bind ?_
  refine (Runs.store .b4 _ _ _ _ st).bind ?_
  exact Runs.seqI _ _ (fun _ => True) (fun k st _ => runs_storeScore _ _ _ k st) (fun _ _ _ => trivial) _ trivial

def lastBlockS (q : FVec F S224x128 .bf16) (srow erow : IVec S1x1024 32) (qsum : FVec F S224x1 .f32) (st : St F) : St F :=
  let m := blockV q srow erow qsum 7 (st .b8) (st .b15) (st .b16)
  iter (storeScore104S m) 7
    (st.set .b4 (wr (Rect.unit (s := S224x1000) ![0, 896] S224x104.size inb_S224x1000_S224x104_0_896)
      (extractStridedSlice S224x104 ![0, 0] m slices_S224x128_o0_0_S224x104) (st .b4)))

theorem runs_lastBlock (q : FVec F S224x128 .bf16) (srow : Vec F S1x1024 .i32) (erow : IVec S1x1024 32) (qsum : FVec F S224x1 .f32)
    (st : St F) :
    Runs c R (lastBlock (R.ref .b4) (R.ref .b5) (R.ref .b8) (R.ref .b15) (R.ref .b16) q srow erow qsum) st ⟨⟩ (lastBlockS q srow erow qsum st) := by
  unfold lastBlock
  refine (runs_blockVal q srow erow qsum _ st).bind ?_
  refine (Runs.load .b4 _ _ st).bind ?_
  refine (Runs.store .b4 _ _ _ _ st).bind ?_
  exact Runs.seqI _ _ (fun _ => True) (fun k st _ => runs_storeScore104 _ k st) (fun _ _ _ => trivial) _ trivial

/-- The row of starts: the offsets, then the number of tokens. -/
def startsV (o : IVec S1x1001 32) (f : IVec S1x1024 32) : IVec S1x1024 32 :=
  wr (Rect.unit (s := S1x1024) ![0, 0] S1x1001.size inb_S1x1024_S1x1001_0_0)
    (shapeCast S1x1001 (shapeCast S1x1001 (rd (Rect.unit (s := S1x1001) ![0, 0] S1x1001.size inb_S1x1001_S1x1001_0_0).toLoadRect o)
      shapeCasts_S1x1001_S1x1001) shapeCasts_S1x1001_S1x1001)
    (wr (Rect.unit (s := S1x1024) ![0, 0] S1x1024.size inb_S1x1024_S1x1024_0_0)
      (shapeCast S1x1024 (broadcast S1x1024 180224#32 : IVec S1x1024 32) shapeCasts_S1x1024_S1x1024) f)

/-- The row of starts as the kernel reads it. -/
def srowV (o : IVec S1x1001 32) (f : IVec S1x1024 32) : IVec S1x1024 32 :=
  rd (Rect.unit (s := S1x1024) ![0, 0] S1x1024.size inb_S1x1024_S1x1024_0_0).toLoadRect (startsV o f)

theorem runs_loadStarts (st : St F) :
    Runs c R (loadStarts (F := F) (R.ref .b2) (R.ref .b6)) st (srowV (st .b2) (st .b6)) (st.set .b6 (startsV (st .b2) (st .b6))) := by
  unfold loadStarts
  refine (Runs.load .b6 _ _ st).bind ?_
  refine (Runs.store .b6 _ _ _ _ st).bind ?_
  refine (Runs.load .b2 _ _ _).bind ?_
  refine (Runs.load .b6 _ _ _).bind ?_
  refine (Runs.store .b6 _ _ _ _ _).bind ?_
  refine (Runs.load .b6 _ _ _).to ?_ ?_
  · simp only [srowV, startsV, Function.update_self]; rfl
  · simp only [St.set, startsV, Function.update_self, Function.update_idem]; rfl

/-- A 136-row buffer after the carries and eight rows of minus infinity are stored. -/
def carryV (x : FVec F S128x128 .f32) (f : FVec F S136x128 .f32) : FVec F S136x128 .f32 :=
  wr (Rect.unit (s := S136x128) ![128, 0] S8x128.size inb_S136x128_S8x128_128_0) (shapeCast S8x128 (neg8 (F := F)) shapeCasts_S8x128_S8x128)
    (wr (Rect.unit (s := S136x128) ![0, 0] S128x128.size inb_S136x128_S128x128_0_0) (shapeCast S128x128 x shapeCasts_S128x128_S128x128) f)

/-- The whole code buffer. -/
abbrev rCode : Rect S352x128 := Rect.unit (s := S352x128) ![0, 0] S352x128.size inb_S352x128_S352x128_0_0

def carriesS (st : St F) : St F :=
  (((st.set .b13 (carryV (scan (flag0 (rd rCode.toLoadRect (st .b7)))
      (rd (Rect.unit (s := S45064x128) ![44928, 0] S128x128.size inb_S45064x128_S128x128_44928_0).toLoadRect (st .b11))) (st .b13))).set .b14
    (carryV (scan (flag0 (rd rCode.toLoadRect (st .b7)))
      (widen (rd (Rect.unit (s := S45064x96) ![44928, 0] S128x96.size inb_S45064x96_S128x96_44928_0).toLoadRect (st .b12)))) (st .b14))).set .b11
    (wr (Rect.unit (s := S45064x128) ![45056, 0] S8x128.size inb_S45064x128_S8x128_45056_0) (shapeCast S8x128 (neg8 (F := F)) shapeCasts_S8x128_S8x128) (st .b11))).set .b12
    (wr (Rect.unit (s := S45064x96) ![45056, 0] S8x96.size inb_S45064x96_S8x96_45056_0)
      (shapeCast S8x96 (extractStridedSlice S8x96 ![0, 0] (neg8 (F := F)) slices_S8x128_o0_0_S8x96) shapeCasts_S8x96_S8x96) (st .b12))

theorem st_ext {a b : St F} (h : ∀ i, a i = b i) : a = b := funext h

theorem runs_carries (st : St F) :
    Runs c R (carries (F := F) (R.ref .b7) (R.ref .b11) (R.ref .b12) (R.ref .b13) (R.ref .b14)) st ⟨⟩ (carriesS st) := by
  unfold carries
  refine (Runs.load .b7 _ _ st).bind ?_
  refine (Runs.load .b11 _ _ st).bind ?_
  refine (Runs.load .b12 _ _ st).bind ?_
  refine (Runs.load .b13 _ _ st).bind ?_
  refine (Runs.store .b13 _ _ _ _ st).bind ?_
  refine (Runs.load .b14 _ _ _).bind ?_
  refine (Runs.store .b14 _ _ _ _ _).bind ?_
  refine (Runs.load .b13 _ _ _).bind ?_
  refine (Runs.store .b13 _ _ _ _ _).bind ?_
  refine (Runs.load .b14 _ _ _).bind ?_
  refine (Runs.store .b14 _ _ _ _ _).bind ?_
  refine (Runs.load .b11 _ _ _).bind ?_
  refine (Runs.store .b11 _ _ _ _ _).bind ?_
  refine (Runs.load .b12 _ _ _).bind ?_
  refine (Runs.store .b12 _ _ _ _ _).to rfl ?_
  refine st_ext fun i => ?_
  cases i <;> rfl

/-! ## The whole body -/

/-- The queries as the kernel reads them, permuted. -/
def qV (q : FVec F S224x128 .bf16) : FVec F S224x128 .bf16 := permQ (rd rAcc.toLoadRect q)

/-- Minus infinity everywhere. -/
def negAcc : FVec F S224x128 .f32 :=
  shapeCast S224x128 (broadcast S224x128 (Scalar.ofBits .f32 0xFF800000#32 : F .f32) : FVec F S224x128 .f32) shapeCasts_S224x128_S224x128

/-- Before the loops: the starts and the codes. -/
def initS (st : St F) : St F :=
  (st.set .b6 (startsV (st .b2) (st .b6))).set .b7
    (wr rCode (shapeCast S352x128 (codeOf (F := F) (srowV (st .b2) (st .b6)) (endRow (F := F) (srowV (st .b2) (st .b6)))) shapeCasts_S352x128_S352x128) (st .b7))

/-- A buffer that no application changes is unchanged by any number of them. -/
theorem iter_eq {N : ℕ} (f : Fin N → St F → St F) (i : B) (h : ∀ k st, f k st i = st i) (st : St F) (n : ℕ) : iter f n st i = st i :=
  iter_keep f (fun s => s i = st i) (fun k s hs => (h k s).trans hs) st rfl n

theorem stepS_b0 (q : FVec F S224x128 .bf16) (k : Fin k0_t2_loop.trips) (st : St F) : stepS q k st .b0 = st .b0 :=
  (iter_eq (groupS q k) .b0 (fun _ _ => rfl) _ _).trans (iter_eq (stepWordS k) .b0 (fun _ _ => rfl) _ _)

theorem gatherTailS_b0 (o : IVec S1001 32) (ho : Checks o) (k : Fin k0_t1_loop.trips) (st : St F) : gatherTailS o ho k st .b0 = st .b0 :=
  iter_eq (tailBlockS o ho k) .b0 (fun _ _ => rfl) _ _

theorem gatherDocS_b0 (o : IVec S1001 32) (ho : Checks o) (k : Fin k0_t3_loop.trips) (st : St F) : gatherDocS o ho k st .b0 = st .b0 :=
  iter_eq (docBlockS o ho k) .b0 (fun _ _ => rfl) _ _

theorem carriesS_b0 (st : St F) : carriesS st .b0 = st .b0 := rfl

theorem initS_b0 (st : St F) : initS st .b0 = st .b0 := rfl

/-- Before the groups: the tails gathered, the running maximum empty. -/
def preS (o : IVec S1001 32) (ho : Checks o) (st : St F) : St F :=
  St.set (iter (gatherTailS o ho) k0_t1_loop.trips (initS st)) .b10 (wr rAcc negAcc (iter (gatherTailS o ho) k0_t1_loop.trips (initS st) .b10))

theorem preS_b0 (o : IVec S1001 32) (ho : Checks o) (st : St F) : preS o ho st .b0 = st .b0 := by
  unfold preS St.set
  rw [Function.update_of_ne (by decide)]
  exact (iter_eq (gatherTailS o ho) .b0 (fun k s => gatherTailS_b0 o ho k s) (initS st) _).trans (initS_b0 st)

/-- The state when the groups and the carries are done. -/
def grpS (o : IVec S1001 32) (ho : Checks o) (st : St F) : St F :=
  carriesS (iter (stepS (qV (st .b1))) k0_t2_loop.trips (preS o ho st))

theorem grpS_b0 (o : IVec S1001 32) (ho : Checks o) (st : St F) : grpS o ho st .b0 = st .b0 :=
  (carriesS_b0 _).trans ((iter_eq (stepS (qV (st .b1))) .b0 (fun k s => stepS_b0 _ k s) _ _).trans (preS_b0 o ho st))

/-- The state when the documents' maxima have been gathered. -/
def midS (o : IVec S1001 32) (ho : Checks o) (st : St F) : St F := iter (gatherDocS o ho) k0_t3_loop.trips (grpS o ho st)

/-- The state at the end. -/
def bodyS (o : IVec S1001 32) (ho : Checks o) (st : St F) : St F :=
  let srow := srowV (st .b2) (st .b6)
  let q := qV (st .b1)
  lastBlockS q srow (endRow (F := F) srow) (qsumOf q)
    (iter (blockS q srow (endRow (F := F) srow) (qsumOf q)) 7 (iter finalWordS 4 (midS o ho st)))

theorem runs_body (st : St F) (ho : Checks (st .b0)) :
    Runs c R (body (F := F) (R.ref .b0) (R.ref .b1) (R.ref .b2) (R.ref .b3) (R.ref .b4) (R.ref .b5) (R.ref .b6) (R.ref .b7) (R.ref .b8)
      (R.ref .b9) (R.ref .b10) (R.ref .b11) (R.ref .b12) (R.ref .b13) (R.ref .b14) (R.ref .b15) (R.ref .b16)) st ⟨⟩ (bodyS (st .b0) ho st) := by
  unfold body
  refine (Runs.load .b1 _ _ st).bind ?_
  refine (runs_loadStarts st).bind ?_
  refine (Runs.load .b7 _ _ _).bind ?_
  refine (Runs.store .b7 _ _ _ _ _).bind ?_
  refine (Runs.forI k0_t1_loop k0_t1_ok _ (gatherTailS (st .b0) ho) (fun s => s .b0 = st .b0) (fun k s h => runs_gatherTail _ ho k s h)
    (fun k s h => (gatherTailS_b0 _ ho k s).trans h) (initS st) rfl).bind ?_
  refine (Runs.load .b10 _ _ _).bind ?_
  refine Runs.bind (st' := preS (st .b0) ho st) (Runs.store .b10 _ _ _ _ _) ?_
  refine (Runs.forI k0_t2_loop k0_t2_ok _ (stepS (qV (st .b1))) (fun _ => True) (fun k s _ => runs_step _ k s)
    (fun _ _ _ => trivial) _ trivial).bind ?_
  refine Runs.bind (st' := grpS (st .b0) ho st) (runs_carries _) ?_
  refine Runs.bind (st' := midS (st .b0) ho st) (Runs.forI k0_t3_loop k0_t3_ok _ (gatherDocS (st .b0) ho) (fun s => s .b0 = st .b0)
    (fun k s h => runs_gatherDoc _ ho k s h) (fun k s h => (gatherDocS_b0 _ ho k s).trans h) _ (grpS_b0 _ ho st)) ?_
  refine (Runs.seqI _ _ (fun _ => True) (fun w s _ => runs_finalWord w s) (fun _ _ _ => trivial) _ trivial).bind ?_
  refine (Runs.seqI _ _ (fun _ => True) (fun b s _ => runs_block _ _ _ _ b s) (fun _ _ _ => trivial) _ trivial).bind ?_
  exact runs_lastBlock _ _ _ _ _

end Cert.KernelIdeal.MaxSim

end
-- ==== Proof.MaxSim.Access.lean ====
/- Loads, stores and the small rearrangements of the program read at an index. -/
module

public import proofs.«01_k».proof.Proof.MaxSim.Sem
public import Idealize.ShloMosaic.Lib.PointwiseCore

@[expose] public section

set_option maxRecDepth 16384

noncomputable section

namespace Cert.KernelIdeal.MaxSim

open Cert.KernelIdeal
open Idealize.ShloMosaic Idealize.ShloMosaic.TcCoe
open Facts₀ Facts

variable {F : FTy → Type} [FloatOps F]

/-! ## Offsets -/

theorem off25_eq : ∀ (k : Fin k0_t2_loop.trips) (w : Fin 4), k0_off25 k (BitVec.ofNat 32 w.val) = ![4 * k.val + w.val, 0] := by decide +kernel
theorem off26_eq : ∀ (k : Fin k0_t2_loop.trips) (g : Fin 32), k0_off26 k (BitVec.ofNat 32 g.val) = ![32 * k.val + g.val, 0] := by decide +kernel
theorem off27_eq : ∀ (k : Fin k0_t2_loop.trips) (g : Fin 32), k0_off27 k (BitVec.ofNat 32 g.val) = ![128 * (32 * k.val + g.val), 0] := by decide +kernel
theorem off28_eq : ∀ (k : Fin k0_t2_loop.trips) (g : Fin 32), k0_off28 k (BitVec.ofNat 32 g.val) = ![128 * (32 * k.val + g.val), 0] := by decide +kernel
theorem evOff_eq : ∀ (k : Fin k0_t1_loop.trips) (b : Fin 8), evOff k b.val = ![4 * k.val, 4 * b.val] := by decide +kernel
theorem docOff_eq : ∀ (k : Fin k0_t3_loop.trips) (b : Fin 8), docOff k b.val = ![8 * k.val + b.val, 0] := by decide +kernel
theorem endOff_eq : ∀ (k : Fin k0_t1_loop.trips) (b : Fin 8), endOff k b.val = ![min (k.val + 128 * b.val + 1) 1000] := by decide +kernel
theorem startOff_eq : ∀ (k : Fin k0_t3_loop.trips) (b : Fin 8), startOff k b.val = ![min (8 * k.val + b.val) 1000] := by decide +kernel
theorem stopOff_eq : ∀ (k : Fin k0_t3_loop.trips) (b : Fin 8), stopOff k b.val = ![min (8 * k.val + b.val + 1) 1000] := by decide +kernel

/-! ## Loads and stores at an index -/

theorem wr_unit {V : Type} {s : Shape} (off size : Fin s.rank → ℕ) (h : ∀ a, off a + size a ≤ s.size a)
    (w : (Rect.unit (s := s) off size h).shape.Idx → V) (f : s.Idx → V) (y : s.Idx) :
    wr (Rect.unit (s := s) off size h) w f y
      = if hh : ∀ a, off a ≤ (y a).val ∧ (y a).val < off a + size a then w (fun a => ⟨(y a).val - off a, by have := hh a; show _ < size a; omega⟩)
        else f y := by
  split
  · rename_i hh
    have e : (Rect.unit (s := s) off size h).emb (fun a => ⟨(y a).val - off a, by have := hh a; show _ < size a; omega⟩) = y := by
      funext a; apply Fin.ext
      have := hh a
      show off a + 1 * ((y a).val - off a) = (y a).val
      omega
    exact (congrArg (wr _ w f) e.symm).trans (wr_emb _ w f _)
  · rename_i hh
    refine wr_not _ w f y ?_
    rintro ⟨x, rfl⟩
    refine hh fun a => ?_
    have : (x a).val < size a := (x a).isLt
    have e : ((Rect.unit (s := s) off size h).emb x a).val = off a + 1 * (x a).val := rfl
    omega

theorem wr2 {V : Type} {A B m n p q : ℕ} (off : Fin 2 → ℕ) (hoff : off = ![p, q])
    (h : ∀ a, off a + (![m, n] : Fin 2 → ℕ) a ≤ (⟨2, ![A, B]⟩ : Shape).size a)
    (w : (⟨2, ![m, n]⟩ : Shape).Idx → V) (f : (⟨2, ![A, B]⟩ : Shape).Idx → V) (i : Fin A) (j : Fin B) :
    wr (Rect.unit (s := ⟨2, ![A, B]⟩) off ![m, n] h) w f (ix2 i j)
      = if hh : (p ≤ i.val ∧ i.val < p + m) ∧ (q ≤ j.val ∧ j.val < q + n) then
          w (ix2 ⟨i.val - p, by omega⟩ ⟨j.val - q, by omega⟩) else f (ix2 i j) := by
  subst hoff
  rw [wr_unit]
  by_cases hh : (p ≤ i.val ∧ i.val < p + m) ∧ (q ≤ j.val ∧ j.val < q + n)
  · rw [dif_pos hh, dif_pos (Fin.forall_fin_two.mpr hh)]
    congr 1; funext a; match a with | ⟨0, _⟩ => rfl | ⟨1, _⟩ => rfl
  · rw [dif_neg hh, dif_neg (fun h' => hh (Fin.forall_fin_two.mp h'))]

theorem rd2 {V : Type} {A B m n p q : ℕ} (off : Fin 2 → ℕ) (hoff : off = ![p, q])
    (h : ∀ a, off a + (![m, n] : Fin 2 → ℕ) a ≤ (⟨2, ![A, B]⟩ : Shape).size a)
    (f : (⟨2, ![A, B]⟩ : Shape).Idx → V) (i : Fin m) (j : Fin n) :
    rd (Rect.unit (s := ⟨2, ![A, B]⟩) off ![m, n] h).toLoadRect f (ix2 i j)
      = f (ix2 ⟨p + i.val, by have : p + m ≤ A := by { have := h 0; rw [hoff] at this; exact this }
                              omega⟩
            ⟨q + j.val, by have : q + n ≤ B := by { have := h 1; rw [hoff] at this; exact this }
                           omega⟩) := by
  subst hoff
  refine congrArg f (funext fun a => Fin.ext ?_)
  match a with
  | ⟨0, _⟩ => show p + 1 * i.val = p + i.val; omega
  | ⟨1, _⟩ => show q + 1 * j.val = q + j.val; omega

/-- A load of strided rows. -/
theorem rd2s {V : Type} {A B m n p t : ℕ} (off : Fin 2 → ℕ) (hoff : off = ![p, 0]) (h) (hb : ∀ i : Fin m, p + t * i.val < A) (hn : n ≤ B)
    (f : (⟨2, ![A, B]⟩ : Shape).Idx → V) (i : Fin m) (j : Fin n) :
    rd (⟨off, ![m, n], ![t, 1], h⟩ : LoadRect (⟨2, ![A, B]⟩ : Shape)) f (ix2 i j) = f (ix2 ⟨p + t * i.val, hb i⟩ ⟨j.val, by omega⟩) := by
  subst hoff
  refine congrArg f (funext fun a => Fin.ext ?_)
  match a with
  | ⟨0, _⟩ => rfl
  | ⟨1, _⟩ => show 0 + 1 * j.val = j.val; omega

theorem wr3 {V : Type} {A B C l m n p q r : ℕ} (h : ∀ a, (![p, q, r] : Fin 3 → ℕ) a + (![l, m, n] : Fin 3 → ℕ) a ≤ (⟨3, ![A, B, C]⟩ : Shape).size a)
    (w : (⟨3, ![l, m, n]⟩ : Shape).Idx → V) (f : (⟨3, ![A, B, C]⟩ : Shape).Idx → V) (i : Fin A) (j : Fin B) (k : Fin C) :
    wr (Rect.unit (s := ⟨3, ![A, B, C]⟩) ![p, q, r] ![l, m, n] h) w f (ix3 i j k)
      = if hh : (p ≤ i.val ∧ i.val < p + l) ∧ (q ≤ j.val ∧ j.val < q + m) ∧ (r ≤ k.val ∧ k.val < r + n) then
          w (ix3 ⟨i.val - p, by omega⟩ ⟨j.val - q, by omega⟩ ⟨k.val - r, by omega⟩) else f (ix3 i j k) := by
  rw [wr_unit]
  by_cases hh : (p ≤ i.val ∧ i.val < p + l) ∧ (q ≤ j.val ∧ j.val < q + m) ∧ (r ≤ k.val ∧ k.val < r + n)
  · rw [dif_pos hh, dif_pos (by intro a; match a with | ⟨0, _⟩ => exact hh.1 | ⟨1, _⟩ => exact hh.2.1 | ⟨2, _⟩ => exact hh.2.2)]
    congr 1; funext a; match a with | ⟨0, _⟩ => rfl | ⟨1, _⟩ => rfl | ⟨2, _⟩ => rfl
  · rw [dif_neg hh, dif_neg (fun h' => hh ⟨h' 0, h' 1, h' 2⟩)]

/-! ## The transposed words -/

theorem setWord_apply (w : Nat) (hw : w < 4) (x : IVec S128x128 32) (f : IVec S4x128x128 32) (w' : Fin 4) (r L : Fin 128) :
    setWord w hw x f (ix3 w' r L) = if w'.val = w then x (ix2 r L) else f (ix3 w' r L) := by
  unfold setWord
  rw [wr3 (l := 1) (m := 128) (n := 128)]
  by_cases h : w'.val = w
  · rw [if_pos h, dif_pos (by omega)]
    pointwise
  · rw [if_neg h, dif_neg (by omega)]

theorem rowV_apply (x : IVec S4x128x128 32) (w r : Nat) (hw : w < 4) (hr : r < 128) (a : Fin 8) (L : Fin 128) :
    rowV x w r hw hr (ix2 a L) = x (ix3 ⟨w, hw⟩ ⟨r, hr⟩ L) := by
  unfold rowV bcast
  pointwise
  refine congrArg x (funext fun a => Fin.ext ?_)
  match a with
  | ⟨0, _⟩ => rfl
  | ⟨1, _⟩ => rfl
  | ⟨2, _⟩ => show 0 + 1 * L.val = L.val; omega

theorem rowV_congr (x x' : IVec S4x128x128 32) (w r : Nat) (hw : w < 4) (hr : r < 128)
    (h : ∀ L, x (ix3 ⟨w, hw⟩ ⟨r, hr⟩ L) = x' (ix3 ⟨w, hw⟩ ⟨r, hr⟩ L)) : rowV x w r hw hr = rowV x' w r hw hr := by
  funext y
  obtain ⟨a, L, rfl⟩ : ∃ (a : Fin 8) (L : Fin 128), y = ix2 a L := ⟨y 0, y 1, eq_ix2 y⟩
  rw [rowV_apply, rowV_apply, h]

theorem tileV_congr (x x' : IVec S4x128x128 32) (r : Nat) (hr : r < 128)
    (h : ∀ w L, x (ix3 w ⟨r, hr⟩ L) = x' (ix3 w ⟨r, hr⟩ L)) : tileV x r hr = tileV x' r hr := by
  unfold tileV
  rw [rowV_congr x x' 0 r _ hr (fun L => h _ L), rowV_congr x x' 1 r _ hr (fun L => h _ L),
    rowV_congr x x' 2 r _ hr (fun L => h _ L), rowV_congr x x' 3 r _ hr (fun L => h _ L)]

end Cert.KernelIdeal.MaxSim

end
-- ==== Proof.MaxSim.Values.lean ====
/- What the buffers hold after the body, as functions of the four inputs alone. -/
module

public import proofs.«01_k».proof.Proof.MaxSim.Access

@[expose] public section

set_option maxRecDepth 16384

noncomputable section

namespace Cert.KernelIdeal.MaxSim

open Cert.KernelIdeal
open Idealize.ShloMosaic Idealize.ShloMosaic.TcCoe
open Facts₀ Facts

variable {F : FTy → Type} [FloatOps F]

/-! ## Determined entries -/

/-- Entries every application either sets to `V` or keeps: set by some application, they hold `V`. -/
theorem iter_det {N : ℕ} (f : Fin N → St F → St F) (i : B) (I : St F → Prop) (V : (shp i).Idx → Elt F (elt i))
    (D : Fin N → (shp i).Idx → Prop) (hI : ∀ k st, I st → I (f k st))
    (h : ∀ k st, I st → ∀ y, (D k y → f k st i y = V y) ∧ (¬ D k y → f k st i y = st i y)) (st : St F) (hst : I st) :
    ∀ y, ((∃ k, D k y) → iter f N st i y = V y) ∧ ((¬ ∃ k, D k y) → iter f N st i y = st i y) := by
  have key := iter_inv f (fun n s => I s ∧ ∀ y, ((∃ k : Fin N, k.val < n ∧ D k y) → s i y = V y)
    ∧ ((¬ ∃ k : Fin N, k.val < n ∧ D k y) → s i y = st i y)) (fun k s hs => ⟨hI k s hs.1, fun y => by
      have h1 := h k s hs.1 y
      have h2 := hs.2 y
      by_cases hk : D k y
      · exact ⟨fun _ => h1.1 hk, fun hn => absurd ⟨k, by omega, hk⟩ hn⟩
      · rw [h1.2 hk]
        refine ⟨fun ⟨k', hk', hd⟩ => h2.1 ⟨k', ?_, hd⟩, fun hn => h2.2 fun ⟨k', hk', hd⟩ => hn ⟨k', by omega, hd⟩⟩
        rcases Nat.lt_succ_iff_lt_or_eq.mp hk' with h' | h'
        · exact h'
        · exact absurd (Fin.ext h' ▸ hd) hk⟩)
    st ⟨hst, fun y => ⟨fun ⟨k, hk, _⟩ => absurd hk (by omega), fun _ => rfl⟩⟩ N le_rfl
  exact fun y => ⟨fun ⟨k, hk⟩ => (key.2 y).1 ⟨k, k.isLt, hk⟩, fun hn => (key.2 y).2 fun ⟨k, _, hk⟩ => hn ⟨k, hk⟩⟩

theorem trips1 : k0_t1_loop.trips = 128 := by decide
theorem trips2 : k0_t2_loop.trips = 11 := by decide
theorem trips3 : k0_t3_loop.trips = 128 := by decide

/-- Minus infinity. -/
abbrev ninf : F .f32 := Scalar.ofBits .f32 0xFF800000#32

/-! ## The values -/

/-- The row of starts. -/
def srowC (o2 : IVec S1x1001 32) : IVec S1x1024 32 := fun y =>
  if h : (y 1).val < 1001 then o2 (ix2 (0 : Fin 1) (⟨(y 1).val, h⟩ : Fin 1001)) else 180224#32

/-- The codes of all groups. -/
def codeC (o2 : IVec S1x1001 32) : FVec F S352x128 .f32 := codeOf (F := F) (srowC o2) (endRow (F := F) (srowC o2))

/-- The four words of the four tokens of every document's last group. -/
def evC (o : IVec S1001 32) (ho : Checks o) (raw : IVec S5632x128 32) : IVec S512x128 32 := fun y =>
  tailV (F := F) ⟨(y 0).val / 4, by rw [trips1]; have : (y 0).val < 512 := (y 0).isLt; omega⟩ ⟨(y 1).val / 4 % 8, by omega⟩ o ho raw
    (ix2 (⟨(y 0).val % 4, by omega⟩ : Fin 4) (⟨(y 1).val % 4, by omega⟩ : Fin 4))

/-- The words of step `k`'s tokens. -/
def wtC (k : Fin k0_t2_loop.trips) (raw : IVec S5632x128 32) : IVec S4x128x128 32 := fun y =>
  stepWordV k (y 0) raw (ix2 (y 1) (y 2))

/-- The step and the group within it of group `n`. -/
def stepIx (n : ℕ) : Fin k0_t2_loop.trips := ⟨n / 32 % 11, by rw [trips2]; omega⟩
def grpIx (n : ℕ) : Fin 32 := ⟨n % 32, by omega⟩

/-- The running maximum after `n` groups. -/
def accN (q : FVec F S224x128 .bf16) (code : FVec F S352x128 .f32) (raw : IVec S5632x128 32) : ℕ → FVec F S224x128 .f32
  | 0 => negAcc
  | n + 1 => groupN q (stepIx n) (grpIx n) code (wtC (stepIx n) raw) (accN q code raw n)

/-- The running maxima of all groups and streams: the first 128 query rows. -/
def s0C (q : FVec F S224x128 .bf16) (code : FVec F S352x128 .f32) (raw : IVec S5632x128 32) : FVec F S45064x128 .f32 := fun y =>
  if (y 0).val < 45056 then topT (accN q code raw ((y 0).val / 128 + 1)) (ix2 (⟨(y 0).val % 128, by omega⟩ : Fin 128) (y 1)) else ninf

/-- The last 96 query rows. -/
def s1C (q : FVec F S224x128 .bf16) (code : FVec F S352x128 .f32) (raw : IVec S5632x128 32) : FVec F S45064x96 .f32 := fun y =>
  if (y 0).val < 45056 then botT (accN q code raw ((y 0).val / 128 + 1)) (ix2 (⟨(y 0).val % 128, by omega⟩ : Fin 128) (y 1)) else ninf

/-- The carries into the streams. -/
def c0C (q : FVec F S224x128 .bf16) (code : FVec F S352x128 .f32) (raw : IVec S5632x128 32) : FVec F S136x128 .f32 := fun y =>
  if h : (y 0).val < 128 then scan (flag0 code) (topT (accN q code raw 352)) (ix2 (⟨(y 0).val, h⟩ : Fin 128) (y 1)) else ninf

def c1C (q : FVec F S224x128 .bf16) (code : FVec F S352x128 .f32) (raw : IVec S5632x128 32) : FVec F S136x128 .f32 := fun y =>
  if h : (y 0).val < 128 then scan (flag0 code) (widen (botT (accN q code raw 352))) (ix2 (⟨(y 0).val, h⟩ : Fin 128) (y 1)) else ninf

theorem s0C_in (q : FVec F S224x128 .bf16) (code : FVec F S352x128 .f32) (raw : IVec S5632x128 32) (i : Fin 45064) (j : Fin 128) (h : i.val < 45056) :
    s0C q code raw (ix2 i j) = topT (accN q code raw (i.val / 128 + 1)) (ix2 (⟨i.val % 128, by omega⟩ : Fin 128) j) := if_pos h

theorem s0C_out (q : FVec F S224x128 .bf16) (code : FVec F S352x128 .f32) (raw : IVec S5632x128 32) (i : Fin 45064) (j : Fin 128) (h : ¬ i.val < 45056) :
    s0C q code raw (ix2 i j) = ninf := if_neg h

theorem s1C_in (q : FVec F S224x128 .bf16) (code : FVec F S352x128 .f32) (raw : IVec S5632x128 32) (i : Fin 45064) (j : Fin 96) (h : i.val < 45056) :
    s1C q code raw (ix2 i j) = botT (accN q code raw (i.val / 128 + 1)) (ix2 (⟨i.val % 128, by omega⟩ : Fin 128) j) := if_pos h

theorem s1C_out (q : FVec F S224x128 .bf16) (code : FVec F S352x128 .f32) (raw : IVec S5632x128 32) (i : Fin 45064) (j : Fin 96) (h : ¬ i.val < 45056) :
    s1C q code raw (ix2 i j) = ninf := if_neg h

theorem c0C_in (q : FVec F S224x128 .bf16) (code : FVec F S352x128 .f32) (raw : IVec S5632x128 32) (i : Fin 136) (j : Fin 128) (h : i.val < 128) :
    c0C q code raw (ix2 i j) = scan (flag0 code) (topT (accN q code raw 352)) (ix2 (⟨i.val, h⟩ : Fin 128) j) := dif_pos h

theorem c0C_out (q : FVec F S224x128 .bf16) (code : FVec F S352x128 .f32) (raw : IVec S5632x128 32) (i : Fin 136) (j : Fin 128) (h : ¬ i.val < 128) :
    c0C q code raw (ix2 i j) = ninf := dif_neg h

theorem c1C_in (q : FVec F S224x128 .bf16) (code : FVec F S352x128 .f32) (raw : IVec S5632x128 32) (i : Fin 136) (j : Fin 128) (h : i.val < 128) :
    c1C q code raw (ix2 i j) = scan (flag0 code) (widen (botT (accN q code raw 352))) (ix2 (⟨i.val, h⟩ : Fin 128) j) := dif_pos h

theorem c1C_out (q : FVec F S224x128 .bf16) (code : FVec F S352x128 .f32) (raw : IVec S5632x128 32) (i : Fin 136) (j : Fin 128) (h : ¬ i.val < 128) :
    c1C q code raw (ix2 i j) = ninf := dif_neg h

/-- The maxima over every document's groups but the last. -/
def m0C (o : IVec S1001 32) (ho : Checks o) (s0 : FVec F S45064x128 .f32) (c0 : FVec F S136x128 .f32) : FVec F S1024x128 .f32 := fun y =>
  docV0 ⟨(y 0).val / 8, by rw [trips3]; have : (y 0).val < 1024 := (y 0).isLt; omega⟩ ⟨(y 0).val % 8, by omega⟩ o ho s0 c0 (ix2 (0 : Fin 1) (y 1))

def m1C (o : IVec S1001 32) (ho : Checks o) (s1 : FVec F S45064x96 .f32) (c1 : FVec F S136x128 .f32) : FVec F S1024x96 .f32 := fun y =>
  docV1 ⟨(y 0).val / 8, by rw [trips3]; have : (y 0).val < 1024 := (y 0).isLt; omega⟩ ⟨(y 0).val % 8, by omega⟩ o ho s1 c1 (ix2 (0 : Fin 1) (y 1))

/-- The words of the documents' last groups, one row per block and token. -/
def x8C (ev : IVec S512x128 32) : IVec S4x128x128 32 := fun y =>
  ev (ix2 (⟨(y 0).val + 4 * (y 2).val, by
    have h0 : (y 0).val < 4 := (y 0).isLt
    have h2 : (y 2).val < 128 := (y 2).isLt
    omega⟩ : Fin 512) (y 1))

/-- Block `b`'s results. -/
def mC (o : IVec S1001 32) (ho : Checks o) (q0 : FVec F S224x128 .bf16) (o2 : IVec S1x1001 32) (raw : IVec S5632x128 32) (b : Fin 8) :
    FVec F S224x128 .f32 :=
  blockV (qV q0) (srowC o2) (endRow (F := F) (srowC o2)) (qsumOf (qV q0)) b (x8C (evC (F := F) o ho raw))
    (m0C o ho (s0C (qV q0) (codeC o2) raw) (c0C (qV q0) (codeC o2) raw))
    (m1C o ho (s1C (qV q0) (codeC o2) raw) (c1C (qV q0) (codeC o2) raw))

/-- The first output: one row per query row, one column per document. -/
def outM (o : IVec S1001 32) (ho : Checks o) (q0 : FVec F S224x128 .bf16) (o2 : IVec S1x1001 32) (raw : IVec S5632x128 32) :
    FVec F S224x1000 .f32 := fun y =>
  mC o ho q0 o2 raw ⟨(y 1).val / 128, by have : (y 1).val < 1000 := (y 1).isLt; omega⟩ (ix2 (y 0) (⟨(y 1).val % 128, by omega⟩ : Fin 128))

/-- The second output: one row per query, one column per document. -/
def outS (o : IVec S1001 32) (ho : Checks o) (q0 : FVec F S224x128 .bf16) (o2 : IVec S1x1001 32) (raw : IVec S5632x128 32) :
    FVec F S7x1000 .f32 := fun y =>
  if (y 1).val < 896 then
    sumQ (mC o ho q0 o2 raw ⟨(y 1).val / 128, by have : (y 1).val < 1000 := (y 1).isLt; omega⟩) (y 0) (ix2 (0 : Fin 1) (⟨(y 1).val % 128, by omega⟩ : Fin 128))
  else sumQ104 (mC o ho q0 o2 raw 7) (y 0) (ix2 (0 : Fin 1) (⟨(y 1).val % 128 % 104, by omega⟩ : Fin 104))

/-! ## Whole buffers -/

theorem wr_full {V : Type} {A C : ℕ} (h : ∀ a, (![0, 0] : Fin 2 → ℕ) a + (![A, C] : Fin 2 → ℕ) a ≤ (⟨2, ![A, C]⟩ : Shape).size a)
    (w f : (⟨2, ![A, C]⟩ : Shape).Idx → V) : wr (Rect.unit (s := ⟨2, ![A, C]⟩) ![0, 0] ![A, C] h) w f = w := by
  funext y
  obtain ⟨i, j, rfl⟩ : ∃ (i : Fin A) (j : Fin C), y = ix2 i j := ⟨y 0, y 1, eq_ix2 y⟩
  rw [wr2 (p := 0) (q := 0) _ rfl, dif_pos (by omega)]
  rfl

theorem rd_full {V : Type} {A C : ℕ} (h : ∀ a, (![0, 0] : Fin 2 → ℕ) a + (![A, C] : Fin 2 → ℕ) a ≤ (⟨2, ![A, C]⟩ : Shape).size a)
    (f : (⟨2, ![A, C]⟩ : Shape).Idx → V) : rd (Rect.unit (s := ⟨2, ![A, C]⟩) ![0, 0] ![A, C] h).toLoadRect f = f := by
  funext y
  obtain ⟨i, j, rfl⟩ : ∃ (i : Fin A) (j : Fin C), y = ix2 i j := ⟨y 0, y 1, eq_ix2 y⟩
  rw [rd2 (p := 0) (q := 0) _ rfl]
  refine congrArg f (funext fun a => Fin.ext ?_)
  match a with
  | ⟨0, _⟩ => show 0 + i.val = i.val; omega
  | ⟨1, _⟩ => show 0 + j.val = j.val; omega

theorem srowV_eq (o2 : IVec S1x1001 32) (f : IVec S1x1024 32) : srowV o2 f = srowC o2 := by
  unfold srowV startsV
  simp only [shapeCast_id]
  rw [wr_full, rd_full, rd_full]
  funext y
  obtain ⟨i, j, rfl⟩ : ∃ (i : Fin 1) (j : Fin 1024), y = ix2 i j := ⟨y 0, y 1, eq_ix2 y⟩
  rw [wr2 (p := 0) (q := 0) (m := 1) (n := 1001) _ rfl]
  unfold srowC
  by_cases h : j.val < 1001
  · rw [dif_pos (by omega), dif_pos (show ((ix2 i j : S1x1024.Idx) 1).val < 1001 from h)]
    refine (congrFun (shapeCast_id _ _) _).trans ?_
    refine congrArg o2 (funext fun a => Fin.ext ?_)
    match a with
    | ⟨0, _⟩ => show i.val - 0 = 0; omega
    | ⟨1, _⟩ => show j.val - 0 = j.val; omega
  · rw [dif_neg (by omega), dif_neg (show ¬ ((ix2 i j : S1x1024.Idx) 1).val < 1001 from h)]
    rfl

end Cert.KernelIdeal.MaxSim

end
-- ==== Proof.MaxSim.Final.lean ====
/- The outputs the body leaves are the ones named in `Values`, whatever the other buffers held before. -/
module

public import proofs.«01_k».proof.Proof.MaxSim.Values

@[expose] public section

set_option maxRecDepth 16384

noncomputable section

namespace Cert.KernelIdeal.MaxSim

open Cert.KernelIdeal
open Idealize.ShloMosaic Idealize.ShloMosaic.TcCoe
open Facts₀ Facts

variable {F : FTy → Type} [FloatOps F]

/-! ## The last groups' words -/

/-- The entries lane `k`'s trip writes for block `b`. -/
def evD (k : Fin k0_t1_loop.trips) (b : Fin 8) (y : S512x128.Idx) : Prop :=
  (4 * k.val ≤ (y 0).val ∧ (y 0).val < 4 * k.val + 4) ∧ (4 * b.val ≤ (y 1).val ∧ (y 1).val < 4 * b.val + 4)

theorem tailBlock_det (o : IVec S1001 32) (ho : Checks o) (raw : IVec S5632x128 32) (k : Fin k0_t1_loop.trips) (b : Fin 8)
    (st : St F) (hst : st .b3 = raw) (y : S512x128.Idx) :
    (evD k b y → tailBlockS o ho k b st .b9 y = evC (F := F) o ho raw y) ∧ (¬ evD k b y → tailBlockS o ho k b st .b9 y = st .b9 y) := by
  subst hst
  obtain ⟨i, j, rfl⟩ : ∃ (i : Fin 512) (j : Fin 128), y = ix2 i j := ⟨y 0, y 1, eq_ix2 y⟩
  have e : tailBlockS o ho k b st .b9 = wr (Rect.unit (s := S512x128) (evOff k b.val) S4x4.size (evOff_inb k b))
    (shapeCast S4x4 (tailV (F := F) k b o ho (st .b3)) shapeCasts_S4x4_S4x4) (st .b9) := rfl
  rw [e, wr2 (p := 4 * k.val) (q := 4 * b.val) (m := 4) (n := 4) _ (evOff_eq k b)]
  refine ⟨fun h => ?_, fun h => ?_⟩
  · have h' : (4 * k.val ≤ i.val ∧ i.val < 4 * k.val + 4) ∧ (4 * b.val ≤ j.val ∧ j.val < 4 * b.val + 4) := h
    rw [dif_pos h']
    refine (congrFun (shapeCast_id _ _) _).trans ?_
    have hk : k = ⟨i.val / 4, by rw [trips1]; omega⟩ := Fin.ext (by show k.val = i.val / 4; omega)
    have hb : b = ⟨j.val / 4 % 8, by omega⟩ := Fin.ext (by show b.val = j.val / 4 % 8; omega)
    unfold evC
    have : (ix2 (⟨i.val - 4 * k.val, by omega⟩ : Fin 4) (⟨j.val - 4 * b.val, by omega⟩ : Fin 4) : S4x4.Idx)
        = ix2 (⟨i.val % 4, by omega⟩ : Fin 4) (⟨j.val % 4, by omega⟩ : Fin 4) := by
      rw [ix2_inj]; exact ⟨Fin.ext (by show i.val - 4 * k.val = i.val % 4; omega), Fin.ext (by show j.val - 4 * b.val = j.val % 4; omega)⟩
    rw [this]
    have key : ∀ k' b', k = k' → b = b' → ∀ x, tailV (F := F) k b o ho (st .b3) x = tailV (F := F) k' b' o ho (st .b3) x := by
      rintro _ _ rfl rfl _; rfl
    exact key _ _ hk hb _
  · exact dif_neg h

/-- The words of the last groups, after all trips. -/
theorem tails_det (o : IVec S1001 32) (ho : Checks o) (raw : IVec S5632x128 32) (st : St F) (hst : st .b3 = raw)
    (i : Fin 512) (j : Fin 128) (hj : j.val < 32) :
    iter (gatherTailS o ho) k0_t1_loop.trips st .b9 (ix2 i j) = evC (F := F) o ho raw (ix2 i j) := by
  refine (iter_det (gatherTailS o ho) .b9 (fun s => s .b3 = raw) (evC (F := F) o ho raw) (fun k y => ∃ b, evD k b y)
    (fun k s hs => (iter_eq (tailBlockS o ho k) .b3 (fun _ _ => rfl) s 8).trans hs)
    (fun k s hs y => iter_det (tailBlockS o ho k) .b9 (fun s => s .b3 = raw) (evC (F := F) o ho raw) (evD k)
      (fun _ _ h => h) (fun b s hs y => tailBlock_det o ho raw k b s hs y) s hs y) st hst (ix2 i j)).1 ?_
  refine ⟨⟨i.val / 4, by rw [trips1]; omega⟩, ⟨j.val / 4, by omega⟩, ?_⟩
  show (4 * (i.val / 4) ≤ i.val ∧ i.val < 4 * (i.val / 4) + 4) ∧ (4 * (j.val / 4) ≤ j.val ∧ j.val < 4 * (j.val / 4) + 4)
  omega

/-! ## The groups -/

theorem wtC_apply (k : Fin k0_t2_loop.trips) (raw : IVec S5632x128 32) (a : Fin 4) (i j : Fin 128) :
    wtC k raw (ix3 a i j) = stepWordV k a raw (ix2 i j) := rfl

theorem stepWordS_b8 (k : Fin k0_t2_loop.trips) (w : Fin 4) (st : St F) :
    stepWordS k w st .b8 = setWord w.val w.isLt (stepWordV k w (st .b3)) (st .b8) := by
  unfold stepWordS
  exact Function.update_self _ _ _

theorem stepWord_det (k : Fin k0_t2_loop.trips) (raw : IVec S5632x128 32) (w : Fin 4) (st : St F) (hst : st .b3 = raw) (y : S4x128x128.Idx) :
    (((y 0).val = w.val) → stepWordS k w st .b8 y = wtC k raw y) ∧ (¬ ((y 0).val = w.val) → stepWordS k w st .b8 y = st .b8 y) := by
  obtain ⟨a, i, j, rfl⟩ : ∃ (a : Fin 4) (i j : Fin 128), y = ix3 a i j := ⟨y 0, y 1, y 2, eq_ix3 y⟩
  rw [stepWordS_b8, setWord_apply, hst]
  refine ⟨fun h => ?_, fun h => if_neg h⟩
  refine (if_pos (show a.val = w.val from h)).trans ?_
  have hw : a = w := Fin.ext h
  rw [wtC_apply, hw]

theorem words_det (k : Fin k0_t2_loop.trips) (raw : IVec S5632x128 32) (st : St F) (hst : st .b3 = raw) :
    iter (stepWordS k) 4 st .b8 = wtC k raw := by
  funext y
  exact (iter_det (stepWordS k) .b8 (fun s => s .b3 = raw) (wtC k raw) (fun w y => (y 0).val = w.val)
    (fun _ _ h => h) (fun w s hs y => stepWord_det k raw w s hs y) st hst y).1 ⟨⟨(y 0).val, (y 0).isLt⟩, rfl⟩

/-- After `n` groups: the running maximum, and the rows stored so far. -/
structure GInv (q : FVec F S224x128 .bf16) (code : FVec F S352x128 .f32) (raw : IVec S5632x128 32) (n : ℕ) (st : St F) : Prop where
  h3 : st .b3 = raw
  h7 : st .b7 = code
  h10 : st .b10 = accN q code raw n
  h11 : ∀ (i : Fin 45064) (j : Fin 128), i.val < 128 * n → st .b11 (ix2 i j) = s0C q code raw (ix2 i j)
  h12 : ∀ (i : Fin 45064) (j : Fin 96), i.val < 128 * n → st .b12 (ix2 i j) = s1C q code raw (ix2 i j)

theorem group_inv (q : FVec F S224x128 .bf16) (code : FVec F S352x128 .f32) (raw : IVec S5632x128 32) (k : Fin k0_t2_loop.trips)
    (g : Fin 32) (st : St F) (h : GInv q code raw (32 * k.val + g.val) st) (h8 : st .b8 = wtC k raw) :
    GInv q code raw (32 * k.val + g.val + 1) (groupS q k g st) := by
  have hk : k.val < 11 := Nat.lt_of_lt_of_eq k.isLt trips2
  have ek : stepIx (32 * k.val + g.val) = k := Fin.ext (by show (32 * k.val + g.val) / 32 % 11 = k.val; omega)
  have eg : grpIx (32 * k.val + g.val) = g := Fin.ext (by show (32 * k.val + g.val) % 32 = g.val; omega)
  have en : groupN q k g (st .b7) (st .b8) (st .b10) = accN q code raw (32 * k.val + g.val + 1) := by
    rw [accN, ek, eg, h.h7, h8, h.h10]
  refine ⟨h.h3, h.h7, ?_, fun i j hi => ?_, fun i j hi => ?_⟩
  · have e : groupS q k g st .b10 = wr rAcc (shapeCast S224x128 (groupN q k g (st .b7) (st .b8) (st .b10)) shapeCasts_S224x128_S224x128) (st .b10) := rfl
    rw [e, en]
    exact (wr_full _ _ _).trans (shapeCast_id _ _)
  · have e : groupS q k g st .b11 = wr (Rect.unit (s := S45064x128) (k0_off27 k (BitVec.ofNat 32 g.val)) S128x128.size (k0_off27_inb k g))
      (shapeCast S128x128 (topT (groupN q k g (st .b7) (st .b8) (st .b10))) shapeCasts_S128x128_S128x128) (st .b11) := rfl
    rw [e, en, wr2 (p := 128 * (32 * k.val + g.val)) (q := 0) (m := 128) (n := 128) _ (off27_eq k g)]
    split
    · rename_i hh
      refine (congrFun (shapeCast_id _ _) _).trans ?_
      have e1 : i.val / 128 + 1 = 32 * k.val + g.val + 1 := by omega
      rw [s0C_in _ _ _ i j (by omega), e1]
      congr 1
      rw [ix2_inj]
      exact ⟨Fin.ext (by show i.val - 128 * (32 * k.val + g.val) = i.val % 128; omega), Fin.ext (by show j.val - 0 = j.val; omega)⟩
    · exact h.h11 i j (by omega)
  · have e : groupS q k g st .b12 = wr (Rect.unit (s := S45064x96) (k0_off28 k (BitVec.ofNat 32 g.val)) S128x96.size (k0_off28_inb k g))
      (shapeCast S128x96 (botT (groupN q k g (st .b7) (st .b8) (st .b10))) shapeCasts_S128x96_S128x96) (st .b12) := rfl
    rw [e, en, wr2 (p := 128 * (32 * k.val + g.val)) (q := 0) (m := 128) (n := 96) _ (off28_eq k g)]
    split
    · rename_i hh
      refine (congrFun (shapeCast_id _ _) _).trans ?_
      have e1 : i.val / 128 + 1 = 32 * k.val + g.val + 1 := by omega
      rw [s1C_in _ _ _ i j (by omega), e1]
      congr 1
      rw [ix2_inj]
      exact ⟨Fin.ext (by show i.val - 128 * (32 * k.val + g.val) = i.val % 128; omega), Fin.ext (by show j.val - 0 = j.val; omega)⟩
    · exact h.h12 i j (by omega)

theorem step_inv (q : FVec F S224x128 .bf16) (code : FVec F S352x128 .f32) (raw : IVec S5632x128 32) (k : Fin k0_t2_loop.trips)
    (st : St F) (h : GInv q code raw (32 * k.val) st) : GInv q code raw (32 * (k.val + 1)) (stepS q k st) := by
  have h1 : GInv q code raw (32 * k.val) (iter (stepWordS k) 4 st) :=
    ⟨(iter_eq (stepWordS k) .b3 (fun _ _ => rfl) st 4).trans h.h3, (iter_eq (stepWordS k) .b7 (fun _ _ => rfl) st 4).trans h.h7,
     (iter_eq (stepWordS k) .b10 (fun _ _ => rfl) st 4).trans h.h10,
     fun i j hi => (congrFun (iter_eq (stepWordS k) .b11 (fun _ _ => rfl) st 4) _).trans (h.h11 i j hi),
     fun i j hi => (congrFun (iter_eq (stepWordS k) .b12 (fun _ _ => rfl) st 4) _).trans (h.h12 i j hi)⟩
  exact (iter_inv (groupS q k) (fun n s => GInv q code raw (32 * k.val + n) s ∧ s .b8 = wtC k raw)
    (fun g s hs => ⟨group_inv q code raw k g s hs.1 hs.2, hs.2⟩) _ ⟨h1, words_det k raw st h.h3⟩ 32 le_rfl).1

theorem steps_inv (q : FVec F S224x128 .bf16) (code : FVec F S352x128 .f32) (raw : IVec S5632x128 32)
    (st : St F) (h : GInv q code raw 0 st) : GInv q code raw 352 (iter (stepS q) k0_t2_loop.trips st) :=
  iter_inv (stepS q) (fun n s => GInv q code raw (32 * n) s) (fun k s hs => step_inv q code raw k s hs) st h _ le_rfl

/-! ## The carries -/

theorem carryV_in (x : FVec F S128x128 .f32) (f : FVec F S136x128 .f32) (i : Fin 136) (j : Fin 128) (h : i.val < 128) :
    carryV x f (ix2 i j) = x (ix2 (⟨i.val, h⟩ : Fin 128) j) := by
  unfold carryV
  rw [wr2 (p := 128) (q := 0) (m := 8) (n := 128) _ rfl, dif_neg (by omega), wr2 (p := 0) (q := 0) (m := 128) (n := 128) _ rfl, dif_pos (by omega)]
  refine (congrFun (shapeCast_id _ _) _).trans ?_
  congr 1

theorem carryV_out (x : FVec F S128x128 .f32) (f : FVec F S136x128 .f32) (i : Fin 136) (j : Fin 128) (h : ¬ i.val < 128) :
    carryV x f (ix2 i j) = ninf := by
  unfold carryV
  rw [wr2 (p := 128) (q := 0) (m := 8) (n := 128) _ rfl, dif_pos (by omega)]
  exact congrFun (shapeCast_id _ _) _

/-- What the gathers read. -/
structure CInv (q : FVec F S224x128 .bf16) (code : FVec F S352x128 .f32) (raw : IVec S5632x128 32) (st : St F) : Prop where
  h11 : st .b11 = s0C q code raw
  h12 : st .b12 = s1C q code raw
  h13 : st .b13 = c0C q code raw
  h14 : st .b14 = c1C q code raw

theorem carries_inv (q : FVec F S224x128 .bf16) (code : FVec F S352x128 .f32) (raw : IVec S5632x128 32) (st : St F)
    (h : GInv q code raw 352 st) : CInv q code raw (carriesS st) := by
  have hx : rd (Rect.unit (s := S45064x128) ![44928, 0] S128x128.size inb_S45064x128_S128x128_44928_0).toLoadRect (st .b11)
      = topT (accN q code raw 352) := by
    funext y
    obtain ⟨i, j, rfl⟩ : ∃ (i : Fin 128) (j : Fin 128), y = ix2 i j := ⟨y 0, y 1, eq_ix2 y⟩
    rw [rd2 (p := 44928) (q := 0) (m := 128) (n := 128) _ rfl, h.h11 _ _ (by show 44928 + i.val < _; omega), s0C_in _ _ _ _ _ (by show 44928 + i.val < _; omega)]
    have e1 : (44928 + i.val) / 128 + 1 = 352 := by omega
    show topT (accN q code raw ((44928 + i.val) / 128 + 1)) _ = _
    rw [e1]
    congr 1
    rw [ix2_inj]
    exact ⟨Fin.ext (by show (44928 + i.val) % 128 = i.val; omega), Fin.ext (by show 0 + j.val = j.val; omega)⟩
  have hy : rd (Rect.unit (s := S45064x96) ![44928, 0] S128x96.size inb_S45064x96_S128x96_44928_0).toLoadRect (st .b12)
      = botT (accN q code raw 352) := by
    funext y
    obtain ⟨i, j, rfl⟩ : ∃ (i : Fin 128) (j : Fin 96), y = ix2 i j := ⟨y 0, y 1, eq_ix2 y⟩
    rw [rd2 (p := 44928) (q := 0) (m := 128) (n := 96) _ rfl, h.h12 _ _ (by show 44928 + i.val < _; omega), s1C_in _ _ _ _ _ (by show 44928 + i.val < _; omega)]
    have e1 : (44928 + i.val) / 128 + 1 = 352 := by omega
    show botT (accN q code raw ((44928 + i.val) / 128 + 1)) _ = _
    rw [e1]
    congr 1
    rw [ix2_inj]
    exact ⟨Fin.ext (by show (44928 + i.val) % 128 = i.val; omega), Fin.ext (by show 0 + j.val = j.val; omega)⟩
  have hc : rd rCode.toLoadRect (st .b7) = code := (rd_full _ _).trans h.h7
  refine ⟨?_, ?_, ?_, ?_⟩ <;> funext y
  · obtain ⟨i, j, rfl⟩ : ∃ (i : Fin 45064) (j : Fin 128), y = ix2 i j := ⟨y 0, y 1, eq_ix2 y⟩
    have e : carriesS st .b11 = wr (Rect.unit (s := S45064x128) ![45056, 0] S8x128.size inb_S45064x128_S8x128_45056_0)
      (shapeCast S8x128 (neg8 (F := F)) shapeCasts_S8x128_S8x128) (st .b11) := rfl
    rw [e, wr2 (p := 45056) (q := 0) (m := 8) (n := 128) _ rfl]
    by_cases hi : i.val < 45056
    · rw [dif_neg (by omega)]; exact h.h11 i j (by omega)
    · rw [dif_pos (by omega), s0C_out _ _ _ _ _ hi]; exact congrFun (shapeCast_id _ _) _
  · obtain ⟨i, j, rfl⟩ : ∃ (i : Fin 45064) (j : Fin 96), y = ix2 i j := ⟨y 0, y 1, eq_ix2 y⟩
    have e : carriesS st .b12 = wr (Rect.unit (s := S45064x96) ![45056, 0] S8x96.size inb_S45064x96_S8x96_45056_0)
      (shapeCast S8x96 (extractStridedSlice S8x96 ![0, 0] (neg8 (F := F)) slices_S8x128_o0_0_S8x96) shapeCasts_S8x96_S8x96) (st .b12) := rfl
    rw [e, wr2 (p := 45056) (q := 0) (m := 8) (n := 96) _ rfl]
    by_cases hi : i.val < 45056
    · rw [dif_neg (by omega)]; exact h.h12 i j (by omega)
    · rw [dif_pos (by omega), s1C_out _ _ _ _ _ hi]; exact congrFun (shapeCast_id _ _) _
  · obtain ⟨i, j, rfl⟩ : ∃ (i : Fin 136) (j : Fin 128), y = ix2 i j := ⟨y 0, y 1, eq_ix2 y⟩
    have e : carriesS st .b13 = carryV (scan (flag0 (rd rCode.toLoadRect (st .b7)))
      (rd (Rect.unit (s := S45064x128) ![44928, 0] S128x128.size inb_S45064x128_S128x128_44928_0).toLoadRect (st .b11))) (st .b13) := rfl
    rw [e, hx, hc]
    by_cases hi : i.val < 128
    · rw [carryV_in _ _ _ _ hi, c0C_in _ _ _ _ _ hi]
    · rw [carryV_out _ _ _ _ hi, c0C_out _ _ _ _ _ hi]
  · obtain ⟨i, j, rfl⟩ : ∃ (i : Fin 136) (j : Fin 128), y = ix2 i j := ⟨y 0, y 1, eq_ix2 y⟩
    have e : carriesS st .b14 = carryV (scan (flag0 (rd rCode.toLoadRect (st .b7)))
      (widen (rd (Rect.unit (s := S45064x96) ![44928, 0] S128x96.size inb_S45064x96_S128x96_44928_0).toLoadRect (st .b12)))) (st .b14) := rfl
    rw [e, hy, hc]
    by_cases hi : i.val < 128
    · rw [carryV_in _ _ _ _ hi, c1C_in _ _ _ _ _ hi]
    · rw [carryV_out _ _ _ _ hi, c1C_out _ _ _ _ _ hi]

/-! ## The gathered maxima -/

theorem docBlock_det (o : IVec S1001 32) (ho : Checks o) (q : FVec F S224x128 .bf16) (code : FVec F S352x128 .f32) (raw : IVec S5632x128 32)
    (k : Fin k0_t3_loop.trips) (b : Fin 8) (st : St F) (hst : CInv q code raw st) (y : S1024x128.Idx) :
    ((y 0).val = 8 * k.val + b.val → docBlockS o ho k b st .b15 y = m0C o ho (s0C q code raw) (c0C q code raw) y)
    ∧ (¬ ((y 0).val = 8 * k.val + b.val) → docBlockS o ho k b st .b15 y = st .b15 y) := by
  obtain ⟨i, j, rfl⟩ : ∃ (i : Fin 1024) (j : Fin 128), y = ix2 i j := ⟨y 0, y 1, eq_ix2 y⟩
  have e : docBlockS o ho k b st .b15 = wr (Rect.unit (s := S1024x128) (docOff k b.val) S1x128.size (docOff_inb0 k b))
      (shapeCast S1x128 (docV0 k b o ho (st .b11) (st .b13)) shapeCasts_S1x128_S1x128) (st .b15) := rfl
  rw [e, wr2 (p := 8 * k.val + b.val) (q := 0) (m := 1) (n := 128) _ (docOff_eq k b), hst.h11, hst.h13]
  refine ⟨fun h => ?_, fun h => ?_⟩
  · have h' : i.val = 8 * k.val + b.val := h
    rw [dif_pos (by omega)]
    refine (congrFun (shapeCast_id _ _) _).trans ?_
    have hk : k = ⟨i.val / 8, by rw [trips3]; omega⟩ := Fin.ext (by show k.val = i.val / 8; omega)
    have hb : b = ⟨i.val % 8, by omega⟩ := Fin.ext (by show b.val = i.val % 8; omega)
    have key : ∀ k' b', k = k' → b = b' → ∀ x x', x = x' → docV0 k b o ho (s0C q code raw) (c0C q code raw) x
        = docV0 k' b' o ho (s0C q code raw) (c0C q code raw) x' := by
      rintro _ _ rfl rfl _ _ rfl; rfl
    refine key _ _ hk hb _ _ ?_
    refine (ix2_inj _ _ _ _).mpr ⟨Fin.ext (by show i.val - (8 * k.val + b.val) = 0; omega), Fin.ext (by show j.val - 0 = j.val; omega)⟩
  · have h' : ¬ i.val = 8 * k.val + b.val := h
    exact dif_neg (by omega)

theorem docBlock_det1 (o : IVec S1001 32) (ho : Checks o) (q : FVec F S224x128 .bf16) (code : FVec F S352x128 .f32) (raw : IVec S5632x128 32)
    (k : Fin k0_t3_loop.trips) (b : Fin 8) (st : St F) (hst : CInv q code raw st) (y : S1024x96.Idx) :
    ((y 0).val = 8 * k.val + b.val → docBlockS o ho k b st .b16 y = m1C o ho (s1C q code raw) (c1C q code raw) y)
    ∧ (¬ ((y 0).val = 8 * k.val + b.val) → docBlockS o ho k b st .b16 y = st .b16 y) := by
  obtain ⟨i, j, rfl⟩ : ∃ (i : Fin 1024) (j : Fin 96), y = ix2 i j := ⟨y 0, y 1, eq_ix2 y⟩
  have e : docBlockS o ho k b st .b16 = wr (Rect.unit (s := S1024x96) (docOff k b.val) S1x96.size (docOff_inb1 k b))
      (shapeCast S1x96 (docV1 k b o ho (st .b12) (st .b14)) shapeCasts_S1x96_S1x96) (st .b16) := rfl
  rw [e, wr2 (p := 8 * k.val + b.val) (q := 0) (m := 1) (n := 96) _ (docOff_eq k b), hst.h12, hst.h14]
  refine ⟨fun h => ?_, fun h => ?_⟩
  · have h' : i.val = 8 * k.val + b.val := h
    rw [dif_pos (by omega)]
    refine (congrFun (shapeCast_id _ _) _).trans ?_
    have hk : k = ⟨i.val / 8, by rw [trips3]; omega⟩ := Fin.ext (by show k.val = i.val / 8; omega)
    have hb : b = ⟨i.val % 8, by omega⟩ := Fin.ext (by show b.val = i.val % 8; omega)
    have key : ∀ k' b', k = k' → b = b' → ∀ x x', x = x' → docV1 k b o ho (s1C q code raw) (c1C q code raw) x
        = docV1 k' b' o ho (s1C q code raw) (c1C q code raw) x' := by
      rintro _ _ rfl rfl _ _ rfl; rfl
    refine key _ _ hk hb _ _ ?_
    refine (ix2_inj _ _ _ _).mpr ⟨Fin.ext (by show i.val - (8 * k.val + b.val) = 0; omega), Fin.ext (by show j.val - 0 = j.val; omega)⟩
  · have h' : ¬ i.val = 8 * k.val + b.val := h
    exact dif_neg (by omega)

theorem docBlock_keep (o : IVec S1001 32) (ho : Checks o) (q : FVec F S224x128 .bf16) (code : FVec F S352x128 .f32) (raw : IVec S5632x128 32)
    (k : Fin k0_t3_loop.trips) (b : Fin 8) (st : St F) (h : CInv q code raw st) : CInv q code raw (docBlockS o ho k b st) :=
  ⟨h.h11, h.h12, h.h13, h.h14⟩

theorem docs_det (o : IVec S1001 32) (ho : Checks o) (q : FVec F S224x128 .bf16) (code : FVec F S352x128 .f32) (raw : IVec S5632x128 32)
    (st : St F) (hst : CInv q code raw st) :
    iter (gatherDocS o ho) k0_t3_loop.trips st .b15 = m0C o ho (s0C q code raw) (c0C q code raw)
    ∧ iter (gatherDocS o ho) k0_t3_loop.trips st .b16 = m1C o ho (s1C q code raw) (c1C q code raw) := by
  have hkeep : ∀ k s, CInv q code raw s → CInv q code raw (gatherDocS o ho k s) := fun k s hs =>
    iter_keep (docBlockS o ho k) (CInv q code raw) (fun b s h => docBlock_keep o ho q code raw k b s h) s hs 8
  refine ⟨funext fun y => ?_, funext fun y => ?_⟩
  · have hy : (y 0).val < 1024 := (y 0).isLt
    refine (iter_det (gatherDocS o ho) .b15 (CInv q code raw) (m0C o ho (s0C q code raw) (c0C q code raw))
      (fun k y => ∃ b : Fin 8, (y 0).val = 8 * k.val + b.val) hkeep
      (fun k s hs y => iter_det (docBlockS o ho k) .b15 (CInv q code raw) (m0C o ho (s0C q code raw) (c0C q code raw))
        (fun b y => (y 0).val = 8 * k.val + b.val) (fun b s h => docBlock_keep o ho q code raw k b s h)
        (fun b s hs y => docBlock_det o ho q code raw k b s hs y) s hs y) st hst y).1 ?_
    exact ⟨⟨(y 0).val / 8, by rw [trips3]; omega⟩, ⟨(y 0).val % 8, by omega⟩, by show (y 0).val = 8 * ((y 0).val / 8) + (y 0).val % 8; omega⟩
  · have hy : (y 0).val < 1024 := (y 0).isLt
    refine (iter_det (gatherDocS o ho) .b16 (CInv q code raw) (m1C o ho (s1C q code raw) (c1C q code raw))
      (fun k y => ∃ b : Fin 8, (y 0).val = 8 * k.val + b.val) hkeep
      (fun k s hs y => iter_det (docBlockS o ho k) .b16 (CInv q code raw) (m1C o ho (s1C q code raw) (c1C q code raw))
        (fun b y => (y 0).val = 8 * k.val + b.val) (fun b s h => docBlock_keep o ho q code raw k b s h)
        (fun b s hs y => docBlock_det1 o ho q code raw k b s hs y) s hs y) st hst y).1 ?_
    exact ⟨⟨(y 0).val / 8, by rw [trips3]; omega⟩, ⟨(y 0).val % 8, by omega⟩, by show (y 0).val = 8 * ((y 0).val / 8) + (y 0).val % 8; omega⟩

end Cert.KernelIdeal.MaxSim

end
-- ==== Proof.MaxSim.Outputs.lean ====
/- The outputs after the body, as functions of the four inputs alone. -/
module

public import proofs.«01_k».proof.Proof.MaxSim.Final

@[expose] public section

set_option maxRecDepth 16384

noncomputable section

namespace Cert.KernelIdeal.MaxSim

open Cert.KernelIdeal
open Idealize.ShloMosaic Idealize.ShloMosaic.TcCoe
open Facts₀ Facts

variable {F : FTy → Type} [FloatOps F]

/-! ## The last groups' words -/

theorem finalV_apply (w : Fin 4) (ev : IVec S512x128 32) (r L : Fin 128) :
    finalV w ev (ix2 r L) = x8C ev (ix3 w r L) := by
  unfold finalV
  refine (Pointwise.transpose_apply _ _ _ _).trans ?_
  have e := rd2s (m := 128) (n := 128) (p := w.val) (t := 4) ![w.val, 0] rfl (inb_ev w.val w.isLt) (fun i => by omega) (by omega) ev L r
  exact (congrArg _ (funext fun a => by match a with | ⟨0, _⟩ => rfl | ⟨1, _⟩ => rfl)).trans e

theorem finalWordS_b8 (w : Fin 4) (st : St F) :
    finalWordS w st .b8 = setWord w.val w.isLt (finalV w (st .b9)) (st .b8) := by
  unfold finalWordS
  exact Function.update_self _ _ _

theorem finalWord_det (ev : IVec S512x128 32) (w : Fin 4) (st : St F) (hst : st .b9 = ev) (y : S4x128x128.Idx) :
    (((y 0).val = w.val) → finalWordS w st .b8 y = x8C ev y) ∧ (¬ ((y 0).val = w.val) → finalWordS w st .b8 y = st .b8 y) := by
  obtain ⟨a, i, j, rfl⟩ : ∃ (a : Fin 4) (i j : Fin 128), y = ix3 a i j := ⟨y 0, y 1, y 2, eq_ix3 y⟩
  rw [finalWordS_b8, setWord_apply, hst]
  refine ⟨fun h => ?_, fun h => if_neg h⟩
  refine (if_pos (show a.val = w.val from h)).trans ?_
  have hw : a = w := Fin.ext h
  rw [finalV_apply, hw]

theorem finals_det (ev : IVec S512x128 32) (st : St F) (hst : st .b9 = ev) : iter finalWordS 4 st .b8 = x8C ev := by
  funext y
  exact (iter_det finalWordS .b8 (fun s => s .b9 = ev) (x8C ev) (fun w y => (y 0).val = w.val)
    (fun _ _ h => h) (fun w s hs y => finalWord_det ev w s hs y) st hst y).1 ⟨⟨(y 0).val, (y 0).isLt⟩, rfl⟩

/-! ## The blocks -/

/-- What the blocks read. -/
structure BInv (x : IVec S4x128x128 32) (m0 : FVec F S1024x128 .f32) (m1 : FVec F S1024x96 .f32) (st : St F) : Prop where
  h8 : st .b8 = x
  h15 : st .b15 = m0
  h16 : st .b16 = m1

section
variable (q : FVec F S224x128 .bf16) (srow erow : IVec S1x1024 32) (qsum : FVec F S224x1 .f32)
  (x : IVec S4x128x128 32) (m0 : FVec F S1024x128 .f32) (m1 : FVec F S1024x96 .f32)

/-- The first output as the blocks write it. -/
def mB : FVec F S224x1000 .f32 := fun y =>
  blockV q srow erow qsum ⟨(y 1).val / 128, by have : (y 1).val < 1000 := (y 1).isLt; omega⟩ x m0 m1 (ix2 (y 0) (⟨(y 1).val % 128, by omega⟩ : Fin 128))

/-- The second output as the blocks write it. -/
def sB : FVec F S7x1000 .f32 := fun y =>
  if (y 1).val < 896 then
    sumQ (blockV q srow erow qsum ⟨(y 1).val / 128, by have : (y 1).val < 1000 := (y 1).isLt; omega⟩ x m0 m1) (y 0) (ix2 (0 : Fin 1) (⟨(y 1).val % 128, by omega⟩ : Fin 128))
  else sumQ104 (blockV q srow erow qsum 7 x m0 m1) (y 0) (ix2 (0 : Fin 1) (⟨(y 1).val % 128 % 104, by omega⟩ : Fin 104))

theorem mB_apply (i : Fin 224) (j : Fin 1000) (b : Fin 8) (k : Fin 128) (hb : j.val / 128 = b.val) (hk : j.val % 128 = k.val) :
    mB q srow erow qsum x m0 m1 (ix2 i j) = blockV q srow erow qsum b x m0 m1 (ix2 i k) := by
  have h8 : j.val / 128 < 8 := by have := j.isLt; omega
  obtain rfl : b = ⟨j.val / 128, h8⟩ := Fin.ext hb.symm
  have hk' : j.val % 128 < 128 := Nat.mod_lt _ (by decide)
  obtain rfl : k = ⟨j.val % 128, hk'⟩ := Fin.ext hk.symm
  rfl

theorem sB_in (i : Fin 7) (j : Fin 1000) (b : Fin 8) (k : Fin 128) (h : j.val < 896) (hb : j.val / 128 = b.val) (hk : j.val % 128 = k.val) :
    sB q srow erow qsum x m0 m1 (ix2 i j) = sumQ (blockV q srow erow qsum b x m0 m1) i (ix2 (0 : Fin 1) k) := by
  have h8 : j.val / 128 < 8 := by have := j.isLt; omega
  obtain rfl : b = ⟨j.val / 128, h8⟩ := Fin.ext hb.symm
  have hk' : j.val % 128 < 128 := Nat.mod_lt _ (by decide)
  obtain rfl : k = ⟨j.val % 128, hk'⟩ := Fin.ext hk.symm
  exact if_pos h

theorem sB_out (i : Fin 7) (j : Fin 1000) (k : Fin 104) (h : ¬ j.val < 896) (hk : j.val % 128 % 104 = k.val) :
    sB q srow erow qsum x m0 m1 (ix2 i j) = sumQ104 (blockV q srow erow qsum 7 x m0 m1) i (ix2 (0 : Fin 1) k) := by
  have hk' : j.val % 128 % 104 < 104 := Nat.mod_lt _ (by decide)
  obtain rfl : k = ⟨j.val % 128 % 104, hk'⟩ := Fin.ext hk.symm
  exact if_neg h

theorem storeScore_keep (m : FVec F S224x128 .f32) (n : Nat) (hn : n + 128 ≤ 1000) (k : Fin 7) (st : St F) (h : BInv x m0 m1 st) :
    BInv x m0 m1 (storeScoreS m n hn k st) := ⟨h.h8, h.h15, h.h16⟩

theorem block_keep (b : Fin 7) (st : St F) (h : BInv x m0 m1 st) : BInv x m0 m1 (blockS q srow erow qsum b st) :=
  iter_keep (storeScoreS (blockV q srow erow qsum (Fin.castSucc b) (st .b8) (st .b15) (st .b16)) (128 * b.val) (by omega)) (BInv x m0 m1)
    (fun k s hs => storeScore_keep x m0 m1 _ _ _ k s hs)
    (st.set .b4 (wr (Rect.unit (s := S224x1000) ![0, 128 * b.val] S224x128.size (inb_out (128 * b.val) (by omega)))
      (blockV q srow erow qsum (Fin.castSucc b) (st .b8) (st .b15) (st .b16)) (st .b4))) ⟨h.h8, h.h15, h.h16⟩ 7

theorem set_b4 (st : St F) (v) : st.set .b4 v .b4 = v := by
  unfold St.set
  exact Function.update_self _ _ _

theorem block_b4 (b : Fin 7) (st : St F) :
    blockS q srow erow qsum b st .b4 = wr (Rect.unit (s := S224x1000) ![0, 128 * b.val] S224x128.size (inb_out (128 * b.val) (by omega)))
      (blockV q srow erow qsum (Fin.castSucc b) (st .b8) (st .b15) (st .b16)) (st .b4) := by
  unfold blockS
  exact (iter_eq (storeScoreS (blockV q srow erow qsum (Fin.castSucc b) (st .b8) (st .b15) (st .b16)) (128 * b.val) (by omega)) .b4
    (fun _ _ => rfl) _ 7).trans (set_b4 st _)

theorem block_det4 (b : Fin 7) (st : St F) (hst : BInv x m0 m1 st) (y : S224x1000.Idx) :
    ((y 1).val / 128 = b.val → blockS q srow erow qsum b st .b4 y = mB q srow erow qsum x m0 m1 y)
    ∧ (¬ ((y 1).val / 128 = b.val) → blockS q srow erow qsum b st .b4 y = st .b4 y) := by
  obtain ⟨i, j, rfl⟩ : ∃ (i : Fin 224) (j : Fin 1000), y = ix2 i j := ⟨y 0, y 1, eq_ix2 y⟩
  rw [block_b4, hst.h8, hst.h15, hst.h16, wr2 (p := 0) (q := 128 * b.val) (m := 224) (n := 128) _ rfl]
  refine ⟨fun h => ?_, fun h => ?_⟩
  · have h' : j.val / 128 = b.val := h
    rw [dif_pos (by omega), mB_apply q srow erow qsum x m0 m1 i j (Fin.castSucc b) ⟨j.val - 128 * b.val, by omega⟩ h' (by show j.val % 128 = j.val - 128 * b.val; omega)]
    congr 1
  · have h' : ¬ j.val / 128 = b.val := h
    exact dif_neg (by omega)

theorem score_b5 (m : FVec F S224x128 .f32) (n : Nat) (hn : n + 128 ≤ 1000) (k : Fin 7) (st : St F) :
    storeScoreS m n hn k st .b5 = wr (Rect.unit (s := S7x1000) ![k.val, n] S1x128.size (inb_sc k.val n k.isLt hn)) (sumQ m k) (st .b5) := rfl

theorem block_det5 (b : Fin 7) (st : St F) (hst : BInv x m0 m1 st) (y : S7x1000.Idx) :
    ((y 1).val / 128 = b.val → blockS q srow erow qsum b st .b5 y = sB q srow erow qsum x m0 m1 y)
    ∧ (¬ ((y 1).val / 128 = b.val) → blockS q srow erow qsum b st .b5 y = st .b5 y) := by
  have key := iter_det (storeScoreS (blockV q srow erow qsum (Fin.castSucc b) (st .b8) (st .b15) (st .b16)) (128 * b.val) (by omega)) .b5
    (fun _ => True) (sB q srow erow qsum x m0 m1) (fun k y => (y 0).val = k.val ∧ (y 1).val / 128 = b.val) (fun _ _ _ => trivial)
    (fun k s _ y => by
      obtain ⟨i, j, rfl⟩ : ∃ (i : Fin 7) (j : Fin 1000), y = ix2 i j := ⟨y 0, y 1, eq_ix2 y⟩
      rw [score_b5, hst.h8, hst.h15, hst.h16, wr2 (p := k.val) (q := 128 * b.val) (m := 1) (n := 128) _ rfl]
      refine ⟨fun h => ?_, fun h => ?_⟩
      · obtain ⟨h1, h2⟩ : i.val = k.val ∧ j.val / 128 = b.val := h
        obtain rfl : i = k := Fin.ext h1
        rw [dif_pos (by omega), sB_in q srow erow qsum x m0 m1 i j (Fin.castSucc b) ⟨j.val - 128 * b.val, by omega⟩ (by omega) h2 (by show j.val % 128 = j.val - 128 * b.val; omega)]
        congr 1
        exact (ix2_inj _ _ _ _).mpr ⟨Fin.ext (by show i.val - i.val = 0; omega), rfl⟩
      · have h' : ¬ (i.val = k.val ∧ j.val / 128 = b.val) := h
        exact dif_neg (by omega))
    (st.set .b4 (wr (Rect.unit (s := S224x1000) ![0, 128 * b.val] S224x128.size (inb_out (128 * b.val) (by omega)))
      (blockV q srow erow qsum (Fin.castSucc b) (st .b8) (st .b15) (st .b16)) (st .b4))) trivial y
  exact ⟨fun h => key.1 ⟨⟨(y 0).val, (y 0).isLt⟩, rfl, h⟩, fun h => key.2 fun ⟨_, _, h'⟩ => h h'⟩

theorem blocks_det (st : St F) (hst : BInv x m0 m1 st) :
    (∀ (i : Fin 224) (j : Fin 1000), j.val < 896 → iter (blockS q srow erow qsum) 7 st .b4 (ix2 i j) = mB q srow erow qsum x m0 m1 (ix2 i j))
    ∧ (∀ (i : Fin 7) (j : Fin 1000), j.val < 896 → iter (blockS q srow erow qsum) 7 st .b5 (ix2 i j) = sB q srow erow qsum x m0 m1 (ix2 i j))
    ∧ BInv x m0 m1 (iter (blockS q srow erow qsum) 7 st) := by
  refine ⟨fun i j hj => ?_, fun i j hj => ?_, iter_keep _ (BInv x m0 m1) (fun b s hs => block_keep q srow erow qsum x m0 m1 b s hs) st hst 7⟩
  · exact (iter_det (blockS q srow erow qsum) .b4 (BInv x m0 m1) (mB q srow erow qsum x m0 m1) (fun b y => (y 1).val / 128 = b.val)
      (fun b s hs => block_keep q srow erow qsum x m0 m1 b s hs) (fun b s hs y => block_det4 q srow erow qsum x m0 m1 b s hs y) st hst (ix2 i j)).1
      ⟨⟨j.val / 128, by omega⟩, rfl⟩
  · exact (iter_det (blockS q srow erow qsum) .b5 (BInv x m0 m1) (sB q srow erow qsum x m0 m1) (fun b y => (y 1).val / 128 = b.val)
      (fun b s hs => block_keep q srow erow qsum x m0 m1 b s hs) (fun b s hs y => block_det5 q srow erow qsum x m0 m1 b s hs y) st hst (ix2 i j)).1
      ⟨⟨j.val / 128, by omega⟩, rfl⟩

theorem score104_b5 (m : FVec F S224x128 .f32) (k : Fin 7) (st : St F) :
    storeScore104S m k st .b5 = wr (Rect.unit (s := S7x1000) ![k.val, 896] S1x104.size (inb_sc104 k.val 896 k.isLt (by omega))) (sumQ104 m k) (st .b5) := rfl

theorem last_b4 (st : St F) :
    lastBlockS q srow erow qsum st .b4 = wr (Rect.unit (s := S224x1000) ![0, 896] S224x104.size inb_S224x1000_S224x104_0_896)
      (extractStridedSlice S224x104 ![0, 0] (blockV q srow erow qsum 7 (st .b8) (st .b15) (st .b16)) slices_S224x128_o0_0_S224x104) (st .b4) := by
  unfold lastBlockS
  exact (iter_eq (storeScore104S (blockV q srow erow qsum 7 (st .b8) (st .b15) (st .b16))) .b4 (fun _ _ => rfl) _ 7).trans (set_b4 st _)

theorem last_det (st : St F) (hst : BInv x m0 m1 st)
    (h4 : ∀ (i : Fin 224) (j : Fin 1000), j.val < 896 → st .b4 (ix2 i j) = mB q srow erow qsum x m0 m1 (ix2 i j))
    (h5 : ∀ (i : Fin 7) (j : Fin 1000), j.val < 896 → st .b5 (ix2 i j) = sB q srow erow qsum x m0 m1 (ix2 i j)) :
    lastBlockS q srow erow qsum st .b4 = mB q srow erow qsum x m0 m1 ∧ lastBlockS q srow erow qsum st .b5 = sB q srow erow qsum x m0 m1 := by
  refine ⟨funext fun y => ?_, funext fun y => ?_⟩
  · obtain ⟨i, j, rfl⟩ : ∃ (i : Fin 224) (j : Fin 1000), y = ix2 i j := ⟨y 0, y 1, eq_ix2 y⟩
    rw [last_b4, hst.h8, hst.h15, hst.h16, wr2 (p := 0) (q := 896) (m := 224) (n := 104) _ rfl]
    by_cases hj : j.val < 896
    · rw [dif_neg (by omega)]; exact h4 i j hj
    · rw [dif_pos (by omega), mB_apply q srow erow qsum x m0 m1 i j 7 ⟨j.val - 896, by omega⟩ (by show j.val / 128 = 7; omega) (by show j.val % 128 = j.val - 896; omega)]
      refine (Pointwise.extractStridedSlice_apply _ _ _ _).trans ?_
      refine congrArg _ (funext fun a => Fin.ext ?_)
      match a with
      | ⟨0, _⟩ => show 0 + (i.val - 0) = i.val; omega
      | ⟨1, _⟩ => show 0 + (j.val - 896) = j.val - 896; omega
  · have key := iter_det (storeScore104S (blockV q srow erow qsum 7 (st .b8) (st .b15) (st .b16))) .b5
      (fun _ => True) (sB q srow erow qsum x m0 m1) (fun k y => (y 0).val = k.val ∧ 896 ≤ (y 1).val) (fun _ _ _ => trivial)
      (fun k s _ y => by
        obtain ⟨i, j, rfl⟩ : ∃ (i : Fin 7) (j : Fin 1000), y = ix2 i j := ⟨y 0, y 1, eq_ix2 y⟩
        rw [score104_b5, hst.h8, hst.h15, hst.h16, wr2 (p := k.val) (q := 896) (m := 1) (n := 104) _ rfl]
        refine ⟨fun h => ?_, fun h => ?_⟩
        · obtain ⟨h1, h2⟩ : i.val = k.val ∧ 896 ≤ j.val := h
          obtain rfl : i = k := Fin.ext h1
          rw [dif_pos (by omega), sB_out q srow erow qsum x m0 m1 i j ⟨j.val - 896, by omega⟩ (by omega) (by show j.val % 128 % 104 = j.val - 896; omega)]
          congr 1
          exact (ix2_inj _ _ _ _).mpr ⟨Fin.ext (by show i.val - i.val = 0; omega), rfl⟩
        · have h' : ¬ (i.val = k.val ∧ 896 ≤ j.val) := h
          exact dif_neg (by omega))
      (st.set .b4 (wr (Rect.unit (s := S224x1000) ![0, 896] S224x104.size inb_S224x1000_S224x104_0_896)
        (extractStridedSlice S224x104 ![0, 0] (blockV q srow erow qsum 7 (st .b8) (st .b15) (st .b16)) slices_S224x128_o0_0_S224x104) (st .b4))) trivial y
    obtain ⟨i, j, rfl⟩ : ∃ (i : Fin 7) (j : Fin 1000), y = ix2 i j := ⟨y 0, y 1, eq_ix2 y⟩
    by_cases hj : j.val < 896
    · exact (key.2 fun ⟨_, _, h⟩ => by have h' : 896 ≤ j.val := h; omega).trans (h5 i j hj)
    · exact key.1 ⟨i, rfl, by show 896 ≤ j.val; omega⟩

theorem blockV_congr (x' : IVec S4x128x128 32) (b : Fin 8) (h : ∀ w (r : Fin 128) L, r.val < 32 → x (ix3 w r L) = x' (ix3 w r L)) :
    blockV q srow erow qsum b x m0 m1 = blockV q srow erow qsum b x' m0 m1 := by
  unfold blockV
  have hb : b.val < 8 := b.isLt
  rw [tileV_congr x x' (4 * b.val) (by omega) (fun w L => h w _ L (by show 4 * b.val < 32; omega)),
    tileV_congr x x' (4 * b.val + 1) (by omega) (fun w L => h w _ L (by show 4 * b.val + 1 < 32; omega)),
    tileV_congr x x' (4 * b.val + 2) (by omega) (fun w L => h w _ L (by show 4 * b.val + 2 < 32; omega)),
    tileV_congr x x' (4 * b.val + 3) (by omega) (fun w L => h w _ L (by show 4 * b.val + 3 < 32; omega))]

end

/-! ## The whole body -/

theorem initS_ginv (o : IVec S1001 32) (ho : Checks o) (st : St F) :
    GInv (qV (st .b1)) (codeC (st .b2)) (st .b3) 0 (preS o ho st) := by
  have keep : ∀ (i : B), i ≠ .b10 → (∀ k b s, tailBlockS (F := F) o ho k b s i = s i) → preS o ho st i = initS st i := fun i h10 hk => by
    unfold preS St.set
    rw [Function.update_of_ne h10]
    exact iter_eq (gatherTailS o ho) i (fun k s => iter_eq (tailBlockS o ho k) i (fun b s => hk k b s) s 8) (initS st) _
  refine ⟨?_, ?_, ?_, fun i j h => absurd h (by omega), fun i j h => absurd h (by omega)⟩
  · exact keep .b3 (by decide) (fun _ _ _ => rfl)
  · refine (keep .b7 (by decide) (fun _ _ _ => rfl)).trans ?_
    have e : initS st .b7 = wr rCode (shapeCast S352x128 (codeOf (F := F) (srowV (st .b2) (st .b6)) (endRow (F := F) (srowV (st .b2) (st .b6)))) shapeCasts_S352x128_S352x128) (st .b7) := rfl
    rw [e, srowV_eq]
    exact (wr_full _ _ _).trans (shapeCast_id _ _)
  · have e : preS o ho st .b10 = wr rAcc negAcc (iter (gatherTailS o ho) k0_t1_loop.trips (initS st) .b10) := by
      unfold preS St.set
      exact Function.update_self _ _ _
    rw [e]
    exact wr_full _ _ _

theorem preS_b9 (o : IVec S1001 32) (ho : Checks o) (st : St F) (i : Fin 512) (j : Fin 128) (hj : j.val < 32) :
    preS o ho st .b9 (ix2 i j) = evC (F := F) o ho (st .b3) (ix2 i j) := by
  have e : preS o ho st .b9 = iter (gatherTailS o ho) k0_t1_loop.trips (initS st) .b9 := by
    unfold preS St.set
    rw [Function.update_of_ne (by decide)]
  rw [e]
  exact tails_det o ho (st .b3) (initS st) rfl i j hj

theorem stepS_eq (q : FVec F S224x128 .bf16) (i : B) (hg : ∀ k g s, groupS (F := F) q k g s i = s i) (hw : ∀ k w s, stepWordS (F := F) k w s i = s i)
    (k : Fin k0_t2_loop.trips) (st : St F) : stepS q k st i = st i :=
  (iter_eq (groupS q k) i (fun g s => hg k g s) _ _).trans (iter_eq (stepWordS k) i (fun w s => hw k w s) _ _)

theorem midS_eq (o : IVec S1001 32) (ho : Checks o) (i : B) (hd : ∀ k b s, docBlockS (F := F) o ho k b s i = s i)
    (hc : ∀ s : St F, carriesS s i = s i) (hg : ∀ q k g s, groupS (F := F) q k g s i = s i) (hw : ∀ k w s, stepWordS (F := F) k w s i = s i)
    (st : St F) : midS o ho st i = preS o ho st i := by
  unfold midS grpS
  rw [iter_eq (gatherDocS o ho) i (fun k s => iter_eq (docBlockS o ho k) i (fun b s => hd k b s) s 8), hc,
    iter_eq (stepS (qV (st .b1))) i (fun k s => stepS_eq _ i (fun k g s => hg _ k g s) hw k s)]

theorem preS_eq (o : IVec S1001 32) (ho : Checks o) (st : St F) (i : B) (h10 : i ≠ .b10) (hk : ∀ k b s, tailBlockS (F := F) o ho k b s i = s i) :
    preS o ho st i = initS st i := by
  unfold preS St.set
  rw [Function.update_of_ne h10]
  exact iter_eq (gatherTailS o ho) i (fun k s => iter_eq (tailBlockS o ho k) i (fun b s => hk k b s) s 8) (initS st) _

theorem midS_b9 (o : IVec S1001 32) (ho : Checks o) (st : St F) : midS o ho st .b9 = preS o ho st .b9 :=
  midS_eq o ho .b9 (fun _ _ _ => rfl) (fun _ => rfl) (fun _ _ _ _ => rfl) (fun _ _ _ => rfl) st

theorem bodyS_out (o : IVec S1001 32) (ho : Checks o) (st : St F) :
    bodyS o ho st .b4 = outM o ho (st .b1) (st .b2) (st .b3) ∧ bodyS o ho st .b5 = outS o ho (st .b1) (st .b2) (st .b3) := by
  have hc : CInv (qV (st .b1)) (codeC (st .b2)) (st .b3) (grpS o ho st) :=
    carries_inv _ _ _ _ (steps_inv _ _ _ _ (initS_ginv o ho st))
  have hd := docs_det o ho _ _ _ (grpS o ho st) hc
  have hB : BInv (x8C (midS o ho st .b9)) (m0C o ho (s0C (qV (st .b1)) (codeC (st .b2)) (st .b3)) (c0C (qV (st .b1)) (codeC (st .b2)) (st .b3)))
      (m1C o ho (s1C (qV (st .b1)) (codeC (st .b2)) (st .b3)) (c1C (qV (st .b1)) (codeC (st .b2)) (st .b3))) (iter finalWordS 4 (midS o ho st)) :=
    ⟨finals_det _ _ rfl, (iter_eq finalWordS .b15 (fun _ _ => rfl) _ _).trans hd.1, (iter_eq finalWordS .b16 (fun _ _ => rfl) _ _).trans hd.2⟩
  have hbl := blocks_det (qV (st .b1)) (srowC (st .b2)) (endRow (F := F) (srowC (st .b2))) (qsumOf (qV (st .b1))) _ _ _ _ hB
  have hl := last_det (qV (st .b1)) (srowC (st .b2)) (endRow (F := F) (srowC (st .b2))) (qsumOf (qV (st .b1))) _ _ _ _ hbl.2.2 hbl.1 hbl.2.1
  have hx : ∀ w (r : Fin 128) L, r.val < 32 → x8C (midS o ho st .b9) (ix3 w r L) = x8C (evC (F := F) o ho (st .b3)) (ix3 w r L) := fun w r L hr => by
    show (midS o ho st .b9) (ix2 _ r) = (evC (F := F) o ho (st .b3)) (ix2 _ r)
    rw [midS_b9]
    exact preS_b9 o ho st _ r hr
  have e : bodyS o ho st = lastBlockS (qV (st .b1)) (srowC (st .b2)) (endRow (F := F) (srowC (st .b2))) (qsumOf (qV (st .b1)))
      (iter (blockS (qV (st .b1)) (srowC (st .b2)) (endRow (F := F) (srowC (st .b2))) (qsumOf (qV (st .b1)))) 7 (iter finalWordS 4 (midS o ho st))) := by
    unfold bodyS
    rw [srowV_eq]
  rw [e]
  refine ⟨hl.1.trans (funext fun y => ?_), hl.2.trans (funext fun y => ?_)⟩
  · unfold mB outM mC
    rw [blockV_congr _ _ _ _ _ _ _ _ _ hx]
  · unfold sB outS mC
    rw [blockV_congr _ _ _ _ _ _ _ _ _ hx, blockV_congr _ _ _ _ _ _ _ _ _ hx]

theorem bodyS_eq (o : IVec S1001 32) (ho : Checks o) (i : B) (h4 : i ≠ .b4) (h10 : i ≠ .b10)
    (hl : ∀ m k s, storeScore104S (F := F) m k s i = s i) (hs : ∀ m n hn k s, storeScoreS (F := F) m n hn k s i = s i)
    (hf : ∀ w s, finalWordS (F := F) w s i = s i) (hd : ∀ k b s, docBlockS (F := F) o ho k b s i = s i)
    (hc : ∀ s : St F, carriesS s i = s i) (hg : ∀ q k g s, groupS (F := F) q k g s i = s i) (hw : ∀ k w s, stepWordS (F := F) k w s i = s i)
    (ht : ∀ k b s, tailBlockS (F := F) o ho k b s i = s i) (hi : ∀ s : St F, initS s i = s i) (st : St F) : bodyS o ho st i = st i := by
  have e1 : ∀ q srow erow qsum (s : St F), lastBlockS q srow erow qsum s i = s i := fun q srow erow qsum s => by
    unfold lastBlockS
    refine (iter_eq (storeScore104S (blockV q srow erow qsum 7 (s .b8) (s .b15) (s .b16))) i (fun k s => hl _ k s) _ 7).trans ?_
    unfold St.set
    rw [Function.update_of_ne h4]
  have e2 : ∀ q srow erow qsum b (s : St F), blockS q srow erow qsum b s i = s i := fun q srow erow qsum b s => by
    unfold blockS
    refine (iter_eq (storeScoreS (blockV q srow erow qsum (Fin.castSucc b) (s .b8) (s .b15) (s .b16)) (128 * b.val) (by omega)) i
      (fun k s => hs _ _ _ k s) _ 7).trans ?_
    unfold St.set
    rw [Function.update_of_ne h4]
  unfold bodyS
  refine (e1 _ _ _ _ _).trans ?_
  rw [iter_eq (blockS _ _ _ _) i (fun b s => e2 _ _ _ _ b s), iter_eq finalWordS i hf, midS_eq o ho i hd hc hg hw, preS_eq o ho st i h10 ht, hi]

/-- The inputs are only read. -/
theorem bodyS_keep (o : IVec S1001 32) (ho : Checks o) (st : St F) :
    bodyS o ho st .b0 = st .b0 ∧ bodyS o ho st .b1 = st .b1 ∧ bodyS o ho st .b2 = st .b2 ∧ bodyS o ho st .b3 = st .b3 := by
  refine ⟨?_, ?_, ?_, ?_⟩ <;>
  exact bodyS_eq o ho _ (by decide) (by decide) (fun _ _ _ => rfl) (fun _ _ _ _ _ => rfl) (fun _ _ => rfl) (fun _ _ _ => rfl) (fun _ => rfl)
    (fun _ _ _ _ => rfl) (fun _ _ _ => rfl) (fun _ _ _ => rfl) (fun _ => rfl) st

end Cert.KernelIdeal.MaxSim

end
-- ==== Proof.MaxSim.Words.lean ====
/- The kernel's word arithmetic on the offsets, as arithmetic of natural numbers; the checks it makes. -/
module

public import proofs.«01_k».proof.Proof.MaxSim.Sem

@[expose] public section

set_option maxRecDepth 16384

noncomputable section

namespace Cert.KernelIdeal.MaxSim

open Cert.KernelIdeal
open Idealize.ShloMosaic Idealize.ShloMosaic.TcCoe
open Facts₀ Facts

/-- The word of a number. -/
abbrev W (n : ℕ) : BitVec 32 := BitVec.ofNat 32 n

theorem W_toNat (n : ℕ) (h : n < 2 ^ 32) : (W n).toNat = n := by rw [BitVec.toNat_ofNat, Nat.mod_eq_of_lt h]

theorem W_toInt (n : ℕ) (h : n < 2 ^ 31) : (W n).toInt = (n : ℤ) := by
  rw [BitVec.toInt_eq_toNat_of_lt (by rw [W_toNat n (by omega)]; omega), W_toNat n (by omega)]

theorem eq_W (x : BitVec 32) : x = W x.toNat := by simp [W]

theorem W_add (a b : ℕ) : IntOp.addi (W a) (W b) = W (a + b) := (BitVec.ofNat_add a b).symm
theorem W_mul (a b : ℕ) : IntOp.muli (W a) (W b) = W (a * b) := (BitVec.ofNat_mul a b).symm
theorem W_sub (a b : ℕ) (h : b ≤ a) : IntOp.subi (W a) (W b) = W (a - b) := by
  have e : W a = W (a - b) + W b := by rw [← BitVec.ofNat_add]; congr 1; omega
  show W a - W b = _
  rw [e, BitVec.add_sub_cancel]

theorem W_shr (u : ArithUnit) (a k : ℕ) (ha : a < 2 ^ 31) (hk : k < 32) : IntOp.shrsi u (W a) (W k) = W (a / 2 ^ k) := by
  have hkk : (W k).toNat = k := W_toNat k (by omega)
  unfold IntOp.shrsi
  rw [if_pos (by rw [hkk]; exact hk)]
  apply BitVec.eq_of_toInt_eq
  have hd : a / 2 ^ k < 2 ^ 31 := lt_of_le_of_lt (Nat.div_le_self _ _) ha
  rw [BitVec.sshiftRight', BitVec.toInt_sshiftRight, hkk, W_toInt a ha, W_toInt _ hd, Int.shiftRight_eq_div_pow]
  norm_cast

theorem W_sgt (a b : ℕ) (ha : a < 2 ^ 31) (hb : b < 2 ^ 31) : IntOp.cmpi .sgt (W a) (W b) = BitVec.ofBool (decide (b < a)) := by
  show BitVec.ofBool ((W b).slt (W a)) = _
  rw [BitVec.slt, W_toInt a ha, W_toInt b hb]; congr 1; simp

theorem W_sge (a b : ℕ) (ha : a < 2 ^ 31) (hb : b < 2 ^ 31) : IntOp.cmpi .sge (W a) (W b) = BitVec.ofBool (decide (b ≤ a)) := by
  show BitVec.ofBool ((W b).sle (W a)) = _
  rw [BitVec.sle, W_toInt a ha, W_toInt b hb]; congr 1; simp

theorem neg_sge (b : ℕ) (hb : b < 2 ^ 31) : IntOp.cmpi .sge (IntOp.subi (W 0) (W 1)) (W b) = BitVec.ofBool false := by
  show BitVec.ofBool ((W b).sle (W 0 - W 1)) = _
  rw [BitVec.sle, W_toInt b hb]; congr 1
  rw [show (W 0 - W 1).toInt = -1 from by decide]
  exact decide_eq_false (by omega)

theorem W_max0 (a : ℕ) (ha : a < 2 ^ 31) : IntOp.maxsi (W a) (W 0) = W a := by
  unfold IntOp.maxsi
  rw [BitVec.slt, W_toInt a ha, W_toInt 0 (by decide)]
  by_cases h : a = 0
  · subst h; rfl
  · rw [if_pos (by simp; omega)]

/-- One less, but not below zero. -/
theorem W_pred (b : ℕ) (hb : b < 2 ^ 31) : IntOp.maxsi (IntOp.subi (W b) (W 1)) (W 0) = W (b - 1) := by
  by_cases h : b = 0
  · subst h; decide
  · rw [W_sub _ _ (by omega), W_max0 _ (by omega)]

theorem ofBool_and (p q : Bool) : IntOp.andi (BitVec.ofBool p) (BitVec.ofBool q) = BitVec.ofBool (p && q) := by
  cases p <;> cases q <;> decide

theorem select_ofBool {α : Type} (p : Bool) (x y : α) : Scalar.select (BitVec.ofBool p) x y = if p then x else y := by
  cases p <;> rfl

theorem div11 : ∀ q < 1408, q * 5958 / 2 ^ 16 = q / 11 := by decide +kernel

/-- The kernel's division by the 352 groups of a stream. -/
theorem W_div352 (u : ArithUnit) (g : ℕ) (hg : g < 45056) :
    IntOp.shrsi u (IntOp.muli (IntOp.shrsi u (W g) (W 5)) (W 5958)) (W 16) = W (g / 352) := by
  rw [W_shr u _ _ (by omega) (by omega), W_mul, W_shr u _ _ (by omega) (by omega), div11 _ (by omega)]
  congr 1; omega

/-! ## The offsets of the gathers -/

/-- A document's last group but one, and whether it has any group before its last. -/
def hasBefore (a b : ℕ) : Prop := a / 4 < (b - 1) / 4

instance (a b : ℕ) : Decidable (hasBefore a b) := by unfold hasBefore; infer_instance

/-- The row of its running maximum. -/
def rowIx (a b : ℕ) : ℕ := if hasBefore a b then ((b - 1) / 4 - 1) % 352 * 128 + ((b - 1) / 4 - 1) / 352 else 45056

/-- The row of the carry it needs. -/
def carryIx (a b : ℕ) : ℕ := if hasBefore a b ∧ a / 4 / 352 < ((b - 1) / 4 - 1) / 352 then ((b - 1) / 4 - 1) / 352 - 1 else 128

theorem off2_eq (b : ℕ) (hb : b ≤ 180224) : k0_off2 (W b) = ![(b - 1) / 4 / 32 * 4, 0] := by
  have e : k0_off2 (W b) = ![(IntOp.muli (IntOp.shrsi .scalar (IntOp.shrsi .scalar (IntOp.maxsi (IntOp.subi (W b) (W 1)) (W 0)) (W 2)) (W 5)) (W 4)).toNat, 0] := rfl
  rw [e, W_pred b (by omega), W_shr _ _ _ (by omega) (by omega), W_shr _ _ _ (by omega) (by omega), W_mul, W_toNat _ (by omega)]
  rfl

/-- The word one before a group, zero for group 0 (whose predecessor is negative). -/
theorem sub1_cases (g : ℕ) (hg : g < 2 ^ 31) (s : ℕ) (hs : s < 2 ^ 31) :
    IntOp.cmpi .sge (IntOp.subi (W g) (W 1)) (W s) = BitVec.ofBool (decide (s < g)) := by
  by_cases h : g = 0
  · subst h; rw [neg_sge s hs]; congr 1
  · rw [W_sub _ _ (by omega), W_sge _ _ (by omega) hs]
    congr 1; rw [decide_eq_decide]; omega

/-- Whether a document has a group before its last, as the kernel computes it. -/
theorem has_eq (a b : ℕ) (ha : a ≤ 180224) (hb : b ≤ 180224) :
    IntOp.andi (IntOp.cmpi .sge (IntOp.subi (IntOp.shrsi .scalar (IntOp.maxsi (IntOp.subi (W b) (W 1)) (W 0)) (W 2)) (W 1)) (IntOp.shrsi .scalar (W a) (W 2)))
      (IntOp.cmpi .sgt (W b) (W a)) = BitVec.ofBool (decide (hasBefore a b)) := by
  rw [W_pred b (by omega), W_shr _ _ _ (by omega) (by omega), W_shr _ _ _ (by omega) (by omega), sub1_cases _ (by omega) _ (by omega),
    W_sgt _ _ (by omega) (by omega), ofBool_and]
  congr 1
  rw [← Bool.decide_and, decide_eq_decide]
  unfold hasBefore
  constructor
  · intro h; simpa using h.1
  · intro h; exact ⟨by simpa using h, by omega⟩

theorem off31_eq (a b : ℕ) (ha : a ≤ 180224) (hb : b ≤ 180224) : k0_off31 (W a) (W b) = ![rowIx a b, 0] := by
  have e : k0_off31 (W a) (W b) = ![(Scalar.select
      (IntOp.andi (IntOp.cmpi .sge (IntOp.subi (IntOp.shrsi .scalar (IntOp.maxsi (IntOp.subi (W b) (W 1)) (W 0)) (W 2)) (W 1)) (IntOp.shrsi .scalar (W a) (W 2)))
        (IntOp.cmpi .sgt (W b) (W a)))
      (IntOp.addi (IntOp.muli (IntOp.subi (IntOp.subi (IntOp.shrsi .scalar (IntOp.maxsi (IntOp.subi (W b) (W 1)) (W 0)) (W 2)) (W 1))
        (IntOp.muli (IntOp.shrsi .scalar (IntOp.muli (IntOp.shrsi .scalar (IntOp.maxsi (IntOp.subi (IntOp.shrsi .scalar (IntOp.maxsi (IntOp.subi (W b) (W 1)) (W 0)) (W 2)) (W 1)) (W 0)) (W 5)) (W 5958)) (W 16)) (W 352))) (W 128))
        (IntOp.shrsi .scalar (IntOp.muli (IntOp.shrsi .scalar (IntOp.maxsi (IntOp.subi (IntOp.shrsi .scalar (IntOp.maxsi (IntOp.subi (W b) (W 1)) (W 0)) (W 2)) (W 1)) (W 0)) (W 5)) (W 5958)) (W 16)))
      (W 45056)).toNat, 0] := rfl
  rw [e, has_eq a b ha hb, W_pred b (by omega), W_shr _ _ _ (by omega) (by omega), W_pred _ (by omega), W_div352 _ _ (by omega), W_mul, select_ofBool]
  unfold rowIx
  by_cases h : hasBefore a b
  · have h' : a / 4 < (b - 1) / 4 := h
    rw [if_pos (by simpa using h), if_pos h, W_sub ((b - 1) / 2 ^ 2) 1 (by omega), W_sub _ _ (by omega), W_mul, W_add, W_toNat _ (by omega)]
    congr 1; omega
  · rw [if_neg (by simpa using h), if_neg h]; rfl

theorem off32_eq (a b : ℕ) (ha : a ≤ 180224) (hb : b ≤ 180224) : k0_off32 (W a) (W b) = ![carryIx a b, 0] := by
  have e : k0_off32 (W a) (W b) = ![(Scalar.select
      (IntOp.andi (IntOp.andi (IntOp.cmpi .sge (IntOp.subi (IntOp.shrsi .scalar (IntOp.maxsi (IntOp.subi (W b) (W 1)) (W 0)) (W 2)) (W 1)) (IntOp.shrsi .scalar (W a) (W 2)))
        (IntOp.cmpi .sgt (W b) (W a)))
        (IntOp.cmpi .sgt (IntOp.shrsi .scalar (IntOp.muli (IntOp.shrsi .scalar (IntOp.maxsi (IntOp.subi (IntOp.shrsi .scalar (IntOp.maxsi (IntOp.subi (W b) (W 1)) (W 0)) (W 2)) (W 1)) (W 0)) (W 5)) (W 5958)) (W 16))
          (IntOp.shrsi .scalar (IntOp.muli (IntOp.shrsi .scalar (IntOp.shrsi .scalar (W a) (W 2)) (W 5)) (W 5958)) (W 16))))
      (IntOp.subi (IntOp.shrsi .scalar (IntOp.muli (IntOp.shrsi .scalar (IntOp.maxsi (IntOp.subi (IntOp.shrsi .scalar (IntOp.maxsi (IntOp.subi (W b) (W 1)) (W 0)) (W 2)) (W 1)) (W 0)) (W 5)) (W 5958)) (W 16)) (W 1))
      (W 128)).toNat, 0] := rfl
  rw [e, has_eq a b ha hb, W_pred b (by omega), W_shr _ (b - 1) _ (by omega) (by omega), W_pred _ (by omega), W_div352 _ _ (by omega)]
  unfold carryIx
  by_cases h : hasBefore a b
  · have h' : a / 4 < (b - 1) / 4 := h
    rw [W_shr _ a _ (by omega) (by omega), W_div352 _ _ (by omega), W_sgt _ _ (by omega) (by omega), ofBool_and, select_ofBool]
    by_cases h2 : a / 4 / 352 < ((b - 1) / 4 - 1) / 352
    · rw [if_pos (by simpa using And.intro h h2), if_pos ⟨h, h2⟩, W_sub _ _ (by omega), W_toNat _ (by omega)]
      rfl
    · rw [if_neg (by simpa using fun _ => h2), if_neg (fun hh => h2 hh.2)]; rfl
  · rw [if_neg (not_and_of_not_left _ h)]
    rw [show decide (hasBefore a b) = false from decide_eq_false h]
    have z : ∀ x : BitVec 1, IntOp.andi (BitVec.ofBool false) x = BitVec.ofBool false := by decide
    rw [z]; rfl

theorem off34_eq (a b : ℕ) (ha : a ≤ 180224) (hb : b ≤ 180224) : k0_off34 (W a) (W b) = ![rowIx a b, 0] :=
  (show k0_off34 (W a) (W b) = k0_off31 (W a) (W b) from rfl).trans (off31_eq a b ha hb)

theorem off35_eq (a b : ℕ) (ha : a ≤ 180224) (hb : b ≤ 180224) : k0_off35 (W a) (W b) = ![carryIx a b, 0] :=
  (show k0_off35 (W a) (W b) = k0_off32 (W a) (W b) from rfl).trans (off32_eq a b ha hb)

theorem rowIx_le (a b : ℕ) (hb : b ≤ 180224) : rowIx a b ≤ 45056 := by
  unfold rowIx; split <;> omega

theorem carryIx_le (a b : ℕ) (hb : b ≤ 180224) : carryIx a b ≤ 128 := by
  unfold carryIx; split <;> omega

/-- Offsets between 0 and the number of tokens pass every check. -/
theorem checks_of (o : IVec S1001 32) (h : ∀ y, (o y).toNat ≤ 180224) : Checks o where
  tail off hh := by
    have hw : (word o off hh).toNat ≤ 180224 := h _
    rw [eq_W (word o off hh)]
    unfold k0_chk1
    rw [off2_eq _ hw]
    exact Fin.forall_fin_two.mpr ⟨by show _ / 4 / 32 * 4 + 4 ≤ 5632; omega, by show 0 + 128 ≤ 128; omega⟩
  doc off hh off' hh' := by
    have hw : (word o off hh).toNat ≤ 180224 := h _
    have hw' : (word o off' hh').toNat ≤ 180224 := h _
    rw [eq_W (word o off hh), eq_W (word o off' hh')]
    unfold k0_chk9
    rw [off31_eq _ _ hw hw', off32_eq _ _ hw hw', off34_eq _ _ hw hw', off35_eq _ _ hw hw']
    have h1 := rowIx_le (word o off hh).toNat _ hw'
    have h2 := carryIx_le (word o off hh).toNat _ hw'
    refine ⟨?_, ?_, ?_, ?_⟩ <;> refine Fin.forall_fin_two.mpr ⟨?_, ?_⟩
    · show rowIx _ _ + 1 ≤ 45064; omega
    · show 0 + 128 ≤ 128; omega
    · show carryIx _ _ + 1 ≤ 136; omega
    · show 0 + 128 ≤ 128; omega
    · show rowIx _ _ + 1 ≤ 45064; omega
    · show 0 + 96 ≤ 96; omega
    · show carryIx _ _ + 1 ≤ 136; omega
    · show 0 + 96 ≤ 128; omega

end Cert.KernelIdeal.MaxSim

end
-- ==== Proof.MaxSim.Launch.lean ====
/- The run of the whole program: the kernel's body under the pipeline's one point, the host lines around it, and
   what every final state holds. -/
module

public import proofs.«01_k».proof.Proof.MaxSim.Refold
public import proofs.«01_k».proof.Proof.MaxSim.Outputs
public import proofs.«01_k».proof.Proof.MaxSim.Words
public import proofs.«01_k».proof.Proof.Gen.KernelIdeal.Frame
public import Idealize.ShloMosaic.Lib.Claim

@[expose] public section

set_option maxRecDepth 16384

noncomputable section

namespace Cert.KernelIdeal.MaxSim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (MaxSim.UR nD τ) ℕ

/-! ## The seventeen buffers, one by one -/

theorem own1_owns (c : Dev nD) (R : Refs) (i : B) (X : (shp i).Idx → Elt F (elt i)) :
    (own1 c R i X : sProp 𝕄) ⊢ owns (c : Thread nD τ) (R.ref i) fullShare X := by
  unfold owns
  rw [(R.whole i).set_eq_univ]
  iintro H
  iexists (R.whole i).unread X; isplitr
  · ipureintro; exact (R.whole i).read_unread X
  iexact H

theorem owns_own1 (c : Dev nD) (R : Refs) (i : B) (X : (shp i).Idx → Elt F (elt i)) :
    (owns (c : Thread nD τ) (R.ref i) fullShare X : sProp 𝕄) ⊢ own1 c R i X := by
  unfold owns
  rw [(R.whole i).set_eq_univ]
  iintro ⟨%f, %hf, H⟩
  have e := (R.whole i).eq_unread hf
  subst e
  iexact H

/-- The seventeen buffers as a separating conjunction over the list of them. -/
theorem own_list (c : Dev nD) (R : Refs) (st : St F) : (Own c R st : sProp 𝕄) =
    iprop(own1 c R .b0 (st .b0) ∗ own1 c R .b1 (st .b1) ∗ own1 c R .b2 (st .b2) ∗ own1 c R .b3 (st .b3) ∗ own1 c R .b4 (st .b4) ∗ own1 c R .b5 (st .b5)
      ∗ own1 c R .b6 (st .b6) ∗ own1 c R .b7 (st .b7) ∗ own1 c R .b8 (st .b8) ∗ own1 c R .b9 (st .b9) ∗ own1 c R .b10 (st .b10) ∗ own1 c R .b11 (st .b11)
      ∗ own1 c R .b12 (st .b12) ∗ own1 c R .b13 (st .b13) ∗ own1 c R .b14 (st .b14) ∗ own1 c R .b15 (st .b15) ∗ own1 c R .b16 (st .b16)) := by
  unfold Own
  exact bigSep_univ_eq_bigSepL [B.b0, .b1, .b2, .b3, .b4, .b5, .b6, .b7, .b8, .b9, .b10, .b11, .b12, .b13, .b14, .b15, .b16] (by decide) (by decide) _

/-- A state from its seventeen contents. -/
def mkSt (x0 : (shp .b0).Idx → Elt F (elt .b0)) (x1 : (shp .b1).Idx → Elt F (elt .b1)) (x2 : (shp .b2).Idx → Elt F (elt .b2))
    (x3 : (shp .b3).Idx → Elt F (elt .b3)) (x4 : (shp .b4).Idx → Elt F (elt .b4)) (x5 : (shp .b5).Idx → Elt F (elt .b5))
    (x6 : (shp .b6).Idx → Elt F (elt .b6)) (x7 : (shp .b7).Idx → Elt F (elt .b7)) (x8 : (shp .b8).Idx → Elt F (elt .b8))
    (x9 : (shp .b9).Idx → Elt F (elt .b9)) (x10 : (shp .b10).Idx → Elt F (elt .b10)) (x11 : (shp .b11).Idx → Elt F (elt .b11))
    (x12 : (shp .b12).Idx → Elt F (elt .b12)) (x13 : (shp .b13).Idx → Elt F (elt .b13)) (x14 : (shp .b14).Idx → Elt F (elt .b14))
    (x15 : (shp .b15).Idx → Elt F (elt .b15)) (x16 : (shp .b16).Idx → Elt F (elt .b16)) : St F
  | .b0 => x0 | .b1 => x1 | .b2 => x2 | .b3 => x3 | .b4 => x4 | .b5 => x5 | .b6 => x6 | .b7 => x7 | .b8 => x8
  | .b9 => x9 | .b10 => x10 | .b11 => x11 | .b12 => x12 | .b13 => x13 | .b14 => x14 | .b15 => x15 | .b16 => x16

/-- A scratch buffer at some contents. -/
abbrev some1 (c : Dev nD) (R : Refs) (i : B) : sProp 𝕄 := iprop(∃ d, owns (c : Thread nD τ) (R.ref i) fullShare (d : (shp i).Idx → Elt F (elt i)))

/-- The body on whole buffers: the inputs kept, the outputs at their functions of the inputs, the scratch at anything. -/
theorem sound_kernel (c : Dev nD) (R : Refs) (x0 : (shp .b0).Idx → Elt F (elt .b0)) (x1 : (shp .b1).Idx → Elt F (elt .b1))
    (x2 : (shp .b2).Idx → Elt F (elt .b2)) (x3 : (shp .b3).Idx → Elt F (elt .b3)) (ho : Checks x0) (E : Set ℕ) (K : PUnit → sProp 𝕄) :
    iprop(owns (c : Thread nD τ) (R.ref .b0) fullShare x0 ∗ owns (c : Thread nD τ) (R.ref .b1) fullShare x1
      ∗ owns (c : Thread nD τ) (R.ref .b2) fullShare x2 ∗ owns (c : Thread nD τ) (R.ref .b3) fullShare x3
      ∗ some1 c R .b4 ∗ some1 c R .b5 ∗ some1 c R .b6 ∗ some1 c R .b7 ∗ some1 c R .b8 ∗ some1 c R .b9 ∗ some1 c R .b10 ∗ some1 c R .b11
      ∗ some1 c R .b12 ∗ some1 c R .b13 ∗ some1 c R .b14 ∗ some1 c R .b15 ∗ some1 c R .b16
      ∗ (iprop(owns (c : Thread nD τ) (R.ref .b0) fullShare x0 ∗ owns (c : Thread nD τ) (R.ref .b1) fullShare x1
          ∗ owns (c : Thread nD τ) (R.ref .b2) fullShare x2 ∗ owns (c : Thread nD τ) (R.ref .b3) fullShare x3
          ∗ owns (c : Thread nD τ) (R.ref .b4) fullShare (outM x0 ho x1 x2 x3) ∗ owns (c : Thread nD τ) (R.ref .b5) fullShare (outS x0 ho x1 x2 x3)
          ∗ some1 c R .b6 ∗ some1 c R .b7 ∗ some1 c R .b8 ∗ some1 c R .b9 ∗ some1 c R .b10 ∗ some1 c R .b11
          ∗ some1 c R .b12 ∗ some1 c R .b13 ∗ some1 c R .b14 ∗ some1 c R .b15 ∗ some1 c R .b16) -∗ K ⟨⟩))
      ⊢ wp frame (wpE (defs₀ (F := F)) Variants.none (c : Thread nD τ) none) E
        (body (F := F) (R.ref .b0) (R.ref .b1) (R.ref .b2) (R.ref .b3) (R.ref .b4) (R.ref .b5) (R.ref .b6) (R.ref .b7) (R.ref .b8)
          (R.ref .b9) (R.ref .b10) (R.ref .b11) (R.ref .b12) (R.ref .b13) (R.ref .b14) (R.ref .b15) (R.ref .b16)) K := by
  iintro ⟨H0, H1, H2, H3, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, Hk⟩
  have hk := bodyS_keep x0 ho (mkSt x0 x1 x2 x3 d4 d5 d6 d7 d8 d9 d10 d11 d12 d13 d14 d15 d16)
  have hout := bodyS_out x0 ho (mkSt x0 x1 x2 x3 d4 d5 d6 d7 d8 d9 d10 d11 d12 d13 d14 d15 d16)
  have hr := runs_body (c := c) (R := R) (mkSt x0 x1 x2 x3 d4 d5 d6 d7 d8 d9 d10 d11 d12 d13 d14 d15 d16) ho
  generalize hs : bodyS ((mkSt x0 x1 x2 x3 d4 d5 d6 d7 d8 d9 d10 d11 d12 d13 d14 d15 d16) .b0) ho (mkSt x0 x1 x2 x3 d4 d5 d6 d7 d8 d9 d10 d11 d12 d13 d14 d15 d16) = st' at hr
  change bodyS x0 ho _ = st' at hs
  rw [hs] at hk hout
  obtain ⟨k0, k1, k2, k3⟩ := hk
  obtain ⟨o4, o5⟩ := hout
  iapply (hr E K)
  rw [own_list, own_list, k0, k1, k2, k3, o4, o5]
  isplitr [Hk]
  · isplitl [H0]; · iapply (owns_own1 c R .b0 _); iexact H0
    isplitl [H1]; · iapply (owns_own1 c R .b1 _); iexact H1
    isplitl [H2]; · iapply (owns_own1 c R .b2 _); iexact H2
    isplitl [H3]; · iapply (owns_own1 c R .b3 _); iexact H3
    isplitl [H4]; · iapply (owns_own1 c R .b4 _); iexact H4
    isplitl [H5]; · iapply (owns_own1 c R .b5 _); iexact H5
    isplitl [H6]; · iapply (owns_own1 c R .b6 _); iexact H6
    isplitl [H7]; · iapply (owns_own1 c R .b7 _); iexact H7
    isplitl [H8]; · iapply (owns_own1 c R .b8 _); iexact H8
    isplitl [H9]; · iapply (owns_own1 c R .b9 _); iexact H9
    isplitl [H10]; · iapply (owns_own1 c R .b10 _); iexact H10
    isplitl [H11]; · iapply (owns_own1 c R .b11 _); iexact H11
    isplitl [H12]; · iapply (owns_own1 c R .b12 _); iexact H12
    isplitl [H13]; · iapply (owns_own1 c R .b13 _); iexact H13
    isplitl [H14]; · iapply (owns_own1 c R .b14 _); iexact H14
    isplitl [H15]; · iapply (owns_own1 c R .b15 _); iexact H15
    iapply (owns_own1 c R .b16 _); iexact H16
  iintro ⟨H0, H1, H2, H3, H4, H5, H6, H7, H8, H9, H10, H11, H12, H13, H14, H15, H16⟩
  iapply Hk
  isplitl [H0]; · iapply (own1_owns c R .b0 _); iexact H0
  isplitl [H1]; · iapply (own1_owns c R .b1 _); iexact H1
  isplitl [H2]; · iapply (own1_owns c R .b2 _); iexact H2
  isplitl [H3]; · iapply (own1_owns c R .b3 _); iexact H3
  isplitl [H4]; · iapply (own1_owns c R .b4 _); iexact H4
  isplitl [H5]; · iapply (own1_owns c R .b5 _); iexact H5
  isplitl [H6]; · iexists _; iapply (own1_owns c R .b6 _); iexact H6
  isplitl [H7]; · iexists _; iapply (own1_owns c R .b7 _); iexact H7
  isplitl [H8]; · iexists _; iapply (own1_owns c R .b8 _); iexact H8
  isplitl [H9]; · iexists _; iapply (own1_owns c R .b9 _); iexact H9
  isplitl [H10]; · iexists _; iapply (own1_owns c R .b10 _); iexact H10
  isplitl [H11]; · iexists _; iapply (own1_owns c R .b11 _); iexact H11
  isplitl [H12]; · iexists _; iapply (own1_owns c R .b12 _); iexact H12
  isplitl [H13]; · iexists _; iapply (own1_owns c R .b13 _); iexact H13
  isplitl [H14]; · iexists _; iapply (own1_owns c R .b14 _); iexact H14
  isplitl [H15]; · iexists _; iapply (own1_owns c R .b15 _); iexact H15
  iexists _; iapply (own1_owns c R .b16 _); iexact H16

/-! ## The pipeline's proof data -/

/-- The buffers the body is called with at point `t`. -/
def bufs (t : Fin cfg0.N) : Refs where
  ref := fun
    | .b0 => win0_0.stage (cfg0.slots t 0) | .b1 => win0_1.stage (cfg0.slots t 1) | .b2 => win0_2.stage (cfg0.slots t 2)
    | .b3 => win0_3.stage (cfg0.slots t 3) | .b4 => win0_4.stage (cfg0.slots t 4) | .b5 => win0_5.stage (cfg0.slots t 5)
    | .b6 => Memref.whole cc0_scratch0 | .b7 => Memref.whole cc0_scratch1 | .b8 => Memref.whole cc0_scratch2
    | .b9 => Memref.whole cc0_scratch3 | .b10 => Memref.whole cc0_scratch4 | .b11 => Memref.whole cc0_scratch5
    | .b12 => Memref.whole cc0_scratch6 | .b13 => Memref.whole cc0_scratch7 | .b14 => Memref.whole cc0_scratch8
    | .b15 => Memref.whole cc0_scratch9 | .b16 => Memref.whole cc0_scratch10
  whole := fun
    | .b0 => hstage0_0 0 | .b1 => hstage0_1 0 | .b2 => hstage0_2 0 | .b3 => hstage0_3 0 | .b4 => hstage0_4 0 | .b5 => hstage0_5 0
    | .b6 => Memref.isWhole_whole _ | .b7 => Memref.isWhole_whole _ | .b8 => Memref.isWhole_whole _ | .b9 => Memref.isWhole_whole _
    | .b10 => Memref.isWhole_whole _ | .b11 => Memref.isWhole_whole _ | .b12 => Memref.isWhole_whole _ | .b13 => Memref.isWhole_whole _
    | .b14 => Memref.isWhole_whole _ | .b15 => Memref.isWhole_whole _ | .b16 => Memref.isWhole_whole _

variable (m : (ℓ : Loc nD τ sig) → Buf (Elt F) ℓ) (ρ : Dev nD → PrngReg)
variable (ho : ∀ (c : Dev nD) (t : Fin cfg0.N), Checks (iblk m c 0 t))

/-- The proof data of the one pipeline on core `c`. -/
def dats (_ : Fin 1) (c : Dev nD) : Dat τ (Elt F) Unit ℕ (MaxSim.UR nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outM (iblk m c 0 t) (ho c t) (iblk m c 1 t) (iblk m c 2 t) (iblk m c 3 t)
    | ⟨5, _⟩ => outS (iblk m c 0 t) (ho c t) (iblk m c 1 t) (iblk m c 2 t) (iblk m c 3 t)
  Φ _ := Pipeline.ΦA spec0 c
  q _ := fullShare
  owed _ := 0

theorem A_eq (c : Dev nD) (w : Fin cfg0.W) : (dats m ho 0 c).A w = V m c (Pipeline.arrRef spec0 w) := by
  dsimp only [dats]

theorem after0_0 (c : Dev nD) (t : Fin cfg0.N) : (dats m ho 0 c).after 0 t = iblk m c 0 t := by dsimp only [dats]
theorem after0_1 (c : Dev nD) (t : Fin cfg0.N) : (dats m ho 0 c).after 1 t = iblk m c 1 t := by dsimp only [dats]
theorem after0_2 (c : Dev nD) (t : Fin cfg0.N) : (dats m ho 0 c).after 2 t = iblk m c 2 t := by dsimp only [dats]
theorem after0_3 (c : Dev nD) (t : Fin cfg0.N) : (dats m ho 0 c).after 3 t = iblk m c 3 t := by dsimp only [dats]
theorem after0_4 (c : Dev nD) (t : Fin cfg0.N) : (dats m ho 0 c).after 4 t =
    outM (iblk m c 0 t) (ho c t) (iblk m c 1 t) (iblk m c 2 t) (iblk m c 3 t) := by dsimp only [dats]
theorem after0_5 (c : Dev nD) (t : Fin cfg0.N) : (dats m ho 0 c).after 5 t =
    outS (iblk m c 0 t) (ho c t) (iblk m c 1 t) (iblk m c 2 t) (iblk m c 3 t) := by dsimp only [dats]

theorem before0_0 (c : Dev nD) (t : Fin cfg0.N) (d) : (dats m ho 0 c).before 0 t d = iblk m c 0 t :=
  before0_0_of m (dats m ho 0 c) (A_eq m ho c 0) (after0_0 m ho c) t d
theorem before0_1 (c : Dev nD) (t : Fin cfg0.N) (d) : (dats m ho 0 c).before 1 t d = iblk m c 1 t :=
  before0_1_of m (dats m ho 0 c) (A_eq m ho c 1) (after0_1 m ho c) t d
theorem before0_2 (c : Dev nD) (t : Fin cfg0.N) (d) : (dats m ho 0 c).before 2 t d = iblk m c 2 t :=
  before0_2_of m (dats m ho 0 c) (A_eq m ho c 2) (after0_2 m ho c) t d
theorem before0_3 (c : Dev nD) (t : Fin cfg0.N) (d) : (dats m ho 0 c).before 3 t d = iblk m c 3 t :=
  before0_3_of m (dats m ho 0 c) (A_eq m ho c 3) (after0_3 m ho c) t d

/-! ## The body at the pipeline's point -/

/-- What the body is called with at point `t`, -/
def bodyPre (c : Dev nD) (t : Fin cfg0.N) : sProp 𝕄 :=
  iprop((dats m ho 0 c).Φ t.castSucc ∗ (dats m ho 0 c).owesAt () t.castSucc
    ∗ (∃ d, owns (c : Thread nD τ) (st0_0 t) fullShare ((dats m ho 0 c).before 0 t d))
    ∗ (∃ d, owns (c : Thread nD τ) (st0_1 t) fullShare ((dats m ho 0 c).before 1 t d))
    ∗ (∃ d, owns (c : Thread nD τ) (st0_2 t) fullShare ((dats m ho 0 c).before 2 t d))
    ∗ (∃ d, owns (c : Thread nD τ) (st0_3 t) fullShare ((dats m ho 0 c).before 3 t d))
    ∗ (∃ d, owns (c : Thread nD τ) (st0_4 t) fullShare ((dats m ho 0 c).before 4 t d))
    ∗ (∃ d, owns (c : Thread nD τ) (st0_5 t) fullShare ((dats m ho 0 c).before 5 t d)))

/-- and what it returns. -/
def bodyPost (c : Dev nD) (t : Fin cfg0.N) : sProp 𝕄 :=
  iprop((dats m ho 0 c).Φ t.succ ∗ (dats m ho 0 c).owesAt () t.succ
    ∗ owns (c : Thread nD τ) (st0_0 t) fullShare ((dats m ho 0 c).after 0 t)
    ∗ owns (c : Thread nD τ) (st0_1 t) fullShare ((dats m ho 0 c).after 1 t)
    ∗ owns (c : Thread nD τ) (st0_2 t) fullShare ((dats m ho 0 c).after 2 t)
    ∗ owns (c : Thread nD τ) (st0_3 t) fullShare ((dats m ho 0 c).after 3 t)
    ∗ owns (c : Thread nD τ) (st0_4 t) fullShare ((dats m ho 0 c).after 4 t)
    ∗ owns (c : Thread nD τ) (st0_5 t) fullShare ((dats m ho 0 c).after 5 t))

/-- A whole buffer at some contents, as the region's invariant spells it and as the body takes it. -/
theorem whole_some (c : Dev nD) (b : Ref sig .tc) :
    iprop(∃ f : Buf (Elt F) ((c : Thread nD τ).loc b), (((c : Thread nD τ).loc b) ↦{fullShare} f : sProp 𝕄))
      = iprop(∃ d, owns (c : Thread nD τ) (Memref.whole b) fullShare d) := by
  congr 1
  funext X
  rw [owns_whole_eq]
  have h1 : ((((c : Thread nD τ).loc b) ↦{fullShare} X : sProp 𝕄)) ⊢ iprop(∃ f, ⌜f = X⌝ ∗ ((c : Thread nD τ).loc b) ↦{fullShare} f) := by
    iintro H; iexists X; isplitr; · ipureintro; rfl
    iexact H
  have h2 : (iprop(∃ f, ⌜f = X⌝ ∗ ((c : Thread nD τ).loc b) ↦{fullShare} f) : sProp 𝕄) ⊢ (((c : Thread nD τ).loc b) ↦{fullShare} X) := by
    iintro ⟨%f, %hf, H⟩; subst hf; iexact H
  exact sProp.ext fun a => ⟨h1 a, h2 a⟩

theorem bodyAt_eq (t : Fin cfg0.N) : bodyAt0 (F := F) t =
    body (F := F) ((bufs t).ref .b0) ((bufs t).ref .b1) ((bufs t).ref .b2) ((bufs t).ref .b3) ((bufs t).ref .b4) ((bufs t).ref .b5)
      ((bufs t).ref .b6) ((bufs t).ref .b7) ((bufs t).ref .b8) ((bufs t).ref .b9) ((bufs t).ref .b10) ((bufs t).ref .b11) ((bufs t).ref .b12)
      ((bufs t).ref .b13) ((bufs t).ref .b14) ((bufs t).ref .b15) ((bufs t).ref .b16) :=
  cc0_maxsim_eq _ _ _ _ _ _ _ _ _ _ _ _ _ _ _ _ _ _ _ _ _ _ _ _ _ _ _ _ _ _ _ _ _ _

theorem sound_body (c : Dev nD) (t : Fin cfg0.N) :
    bodyPre m ho c t ⊢ wp frame (wpE (defs₀ (F := F)) Variants.none c none) Set.univ (bodyAt0 t) (fun _ => bodyPost m ho c t) := by
  unfold bodyPre bodyPost
  rw [bodyAt_eq]
  simp only [before0_0, before0_1, before0_2, before0_3]
  rw [show (dats m ho 0 c).Φ t.succ = (dats m ho 0 c).Φ t.castSucc from rfl,
    show (dats m ho 0 c).owesAt () t.succ = (dats m ho 0 c).owesAt () t.castSucc from rfl,
    after0_0, after0_1, after0_2, after0_3, after0_4, after0_5,
    show (dats m ho 0 c).Φ t.castSucc = Pipeline.ΦA spec0 c from rfl]
  unfold Pipeline.ΦA
  rw [scopedRest0_eq]
  simp only [whole_some]
  iintro ⟨⟨⟨S0, S1, S2, S3, S4, S5, S6, S7, S8, S9, S10⟩, Hp⟩, Ho, ⟨%d0, H0⟩, ⟨%d1, H1⟩, ⟨%d2, H2⟩, ⟨%d3, H3⟩, ⟨%d4, H4⟩, ⟨%d5, H5⟩⟩
  iapply (sound_kernel c (bufs t) (iblk m c 0 t) (iblk m c 1 t) (iblk m c 2 t) (iblk m c 3 t) (ho c t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, S0, S1, S2, S3, S4, S5, S6, S7, S8, S9, S10⟩
  isplitl [Hp S0 S1 S2 S3 S4 S5 S6 S7 S8 S9 S10]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m ho 0 c) (defs₀ (F := F)) Variants.none () Set.univ := fun t => by
  rw [bigSep_W0, bigSep_W0, defs₀_row]
  exact triple_restated (sound_body m ho c t) rfl .rfl fun _ => .rfl

/-! ## The run -/

set_option backward.isDefEq.respectTransparency.types false in
/-- Every run of the program ends with the arrays of the pipeline at what its proof data computes, every other buffer
    at what the host lines make of it, and every semaphore counter at zero. -/
theorem run_main : θ_run defs (onTc (τ := τ) (main (F := F))) (s₀ m ρ)
    (fun r => Pipeline.FramePost cfgs (dats m ho) 0 (Pipeline.afterTail₀ cfgs (dats m ho) 0 (V0 m) [hostOps1]) r ∧ r.2.sem = fun _ => 0) :=
  Pipeline.θ_run_frame_around (Q' := _) cfgs (dats m ho) (0 : Fin 1) launch0 defs₀ Variants.none m ρ main
    (hbody := fun c => (body_obligation m ho c).loose) (hshare := fun c => (dats m ho 0 c).share_full fun _ => rfl)
    (howed := fun _ _ => rfl) (V₀ := V0 m) (opss := [hostOps1]) sfx_sub sfx_fresh sfx_keeps (hmain m Variants.none) (A_eq m ho)
    (hΦ := fun _ _ => rfl)

/-- Every window is its whole array: an index of its block is the same index of the array. -/
theorem emb0 (t : Fin cfg0.N) (j : S1001.Idx) : ((cfg0.win 0).blk t).view.emb j = j := by
  funext a; apply Fin.ext
  match a with
  | ⟨0, _⟩ => show 0 * 1001 + 1 * (j 0).val = (j 0).val; omega
theorem emb1 (t : Fin cfg0.N) (j : S224x128.Idx) : ((cfg0.win 1).blk t).view.emb j = j := by
  funext a; apply Fin.ext
  match a with
  | ⟨0, _⟩ => show 0 * 224 + 1 * (j 0).val = (j 0).val; omega
  | ⟨1, _⟩ => show 0 * 128 + 1 * (j 1).val = (j 1).val; omega
theorem emb2 (t : Fin cfg0.N) (j : S1x1001.Idx) : ((cfg0.win 2).blk t).view.emb j = j := by
  funext a; apply Fin.ext
  match a with
  | ⟨0, _⟩ => show 0 * 1 + 1 * (j 0).val = (j 0).val; omega
  | ⟨1, _⟩ => show 0 * 1001 + 1 * (j 1).val = (j 1).val; omega
theorem emb3 (t : Fin cfg0.N) (j : S5632x128.Idx) : ((cfg0.win 3).blk t).view.emb j = j := by
  funext a; apply Fin.ext
  match a with
  | ⟨0, _⟩ => show 0 * 5632 + 1 * (j 0).val = (j 0).val; omega
  | ⟨1, _⟩ => show 0 * 128 + 1 * (j 1).val = (j 1).val; omega
theorem emb4 (t : Fin cfg0.N) (j : S224x1000.Idx) : ((cfg0.win 4).blk t).view.emb j = j := by
  funext a; apply Fin.ext
  match a with
  | ⟨0, _⟩ => show 0 * 224 + 1 * (j 0).val = (j 0).val; omega
  | ⟨1, _⟩ => show 0 * 1000 + 1 * (j 1).val = (j 1).val; omega
theorem emb5 (t : Fin cfg0.N) (j : S7x1000.Idx) : ((cfg0.win 5).blk t).view.emb j = j := by
  funext a; apply Fin.ext
  match a with
  | ⟨0, _⟩ => show 0 * 7 + 1 * (j 0).val = (j 0).val; omega
  | ⟨1, _⟩ => show 0 * 1000 + 1 * (j 1).val = (j 1).val; omega

theorem iblk0_V (c : Dev nD) (t : Fin cfg0.N) : iblk m c 0 t = V m c main_arg2 := by
  funext j; show V m c main_arg2 (((cfg0.win 0).blk t).view.emb j) = V m c main_arg2 j; rw [emb0]
theorem iblk1_V (c : Dev nD) (t : Fin cfg0.N) : iblk m c 1 t = V m c main_v3 := by
  funext j; show V m c main_v3 (((cfg0.win 1).blk t).view.emb j) = V m c main_v3 j; rw [emb1]
theorem iblk2_V (c : Dev nD) (t : Fin cfg0.N) : iblk m c 2 t = V m c main_v4 := by
  funext j; show V m c main_v4 (((cfg0.win 2).blk t).view.emb j) = V m c main_v4 j; rw [emb2]
theorem iblk3_V (c : Dev nD) (t : Fin cfg0.N) : iblk m c 3 t = V m c main_v2 := by
  funext j; show V m c main_v2 (((cfg0.win 3).blk t).view.emb j) = V m c main_v2 j; rw [emb3]

/-- The offsets the body reads are the ones the program was launched with. -/
theorem iblk0_eq (c : Dev nD) (t : Fin cfg0.N) : iblk m c 0 t = m ((c.tc : Thread nD τ).loc main_arg2) := by
  rw [iblk0_V]; exact V_main_arg2 m c

/-- Offsets within the text pass every check of the body. -/
theorem checks_iblk (h : ∀ (c : Dev nD) (y : S1001.Idx), (m ((c.tc : Thread nD τ).loc main_arg2) y : BitVec 32).toNat ≤ 180224)
    (c : Dev nD) (t : Fin cfg0.N) : Checks (iblk m c 0 t) := by
  rw [iblk0_eq]; exact checks_of _ (h c)

/-- The frame: every run ends, leaves the arguments as they were and every semaphore counter at zero. -/
theorem frame (h : ∀ (c : Dev nD) (y : S1001.Idx), (m ((c.tc : Thread nD τ).loc main_arg2) y : BitVec 32).toNat ≤ 180224) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m (checks_iblk m h)) (A_eq m (checks_iblk m h))
      ((θ_run defs _ _).mono (fun _ h => h.1) (run_main m ρ (checks_iblk m h))))
    ((θ_run defs _ _).mono (fun _ h => h.2) (run_main m ρ (checks_iblk m h)))

end Cert.KernelIdeal.MaxSim

end
-- ==== Proof.MaxSim.Pre.lean ====
/- What the precondition says, in words and numbers: the queries are finite, the offsets ascend and lie between 0 and
   the number of tokens. -/
module

public import proofs.«01_k».proof.Proof.MaxSim.Words
public import proofs.«01_k».proof.Pre_well_formed
public import proofs.«01_k».proof.Proof.MaxSim.Access
public import Idealize.ShloMosaic.PureOps.Ideal

@[expose] public section

noncomputable section

namespace Cert.KernelIdeal.MaxSim

open Idealize.ShloMosaic Idealize.ShloMosaic.Pointwise

variable {F : FTy → Type} [FloatOps F] [Cert.Pre_well_formed.Facts]

theorem ofBool_eq_one (b : Bool) : BitVec.ofBool b = 1#1 ↔ b = true := by cases b <;> decide
theorem and_eq_one (x y : BitVec 1) : x &&& y = 1#1 ↔ x = 1#1 ∧ y = 1#1 := by revert x y; decide

/-- The word is between 0 and the number of tokens. -/
theorem le_of_inside (q : FVec F Cert.Pre_well_formed.S7x32x128 .bf16) (x : IVec Cert.Pre_well_formed.S180224x4 32) (o : IVec S1001 32)
    (h : (Cert.Pre_well_formed.fn q x o).2.2 = fun _ => 1#1) (y : S1001.Idx) : (o y).toNat ≤ 180224 := by
  have h1 : BitVec.ofBool ((0#32).sle (o y)) &&& BitVec.ofBool ((o y).sle 180224#32) = 1#1 := congrFun h y
  rw [and_eq_one, ofBool_eq_one, ofBool_eq_one] at h1
  generalize o y = w at h1 ⊢
  simp only [BitVec.sle, decide_eq_true_eq, BitVec.toInt_eq_toNat_cond] at h1
  have := w.isLt
  norm_num at h1
  split at h1 <;> omega

/-- The offset `d` as a number. -/
def num (o : IVec S1001 32) (d : ℕ) : ℕ := if h : d < 1001 then (o (ix1 ⟨d, h⟩)).toNat else 180224

/-- An offset is at most the next. -/
theorem ascend_of (q : FVec F Cert.Pre_well_formed.S7x32x128 .bf16) (x : IVec Cert.Pre_well_formed.S180224x4 32) (o : IVec S1001 32)
    (h : (Cert.Pre_well_formed.fn q x o).2.1 = fun _ => 1#1) (hin : ∀ y, (o y).toNat ≤ 180224) (d : ℕ) (hd : d < 1000) :
    num o d ≤ num o (d + 1) := by
  have h1 : BitVec.ofBool ((o (ix1 ⟨d, by omega⟩)).sle (o (ix1 ⟨d + 1, by omega⟩))) = 1#1 := by
    have := congrFun h (ix1 ⟨d, hd⟩)
    refine Eq.trans ?_ this
    show _ = BitVec.ofBool ((o _).sle (o _))
    congr 3
    · funext a; match a with
      | ⟨0, _⟩ => apply Fin.ext; show d = 0 + d; omega
    · funext a; match a with
      | ⟨0, _⟩ => apply Fin.ext; show d + 1 = 1 + d; omega
  rw [ofBool_eq_one] at h1
  unfold num
  rw [dif_pos (by omega), dif_pos (by omega)]
  have e1 := hin (ix1 ⟨d, by omega⟩)
  have e2 := hin (ix1 ⟨d + 1, by omega⟩)
  generalize o (ix1 ⟨d, _⟩) = w at h1 e1 ⊢
  generalize o (ix1 ⟨d + 1, _⟩) = w' at h1 e2 ⊢
  simp only [BitVec.sle, decide_eq_true_eq, BitVec.toInt_eq_toNat_cond] at h1
  split at h1 <;> split at h1 <;> omega

/-- A query's entries are finite. -/
theorem finite_of (q : FVec Ideal Cert.Pre_well_formed.S7x32x128 .bf16) (x : IVec Cert.Pre_well_formed.S180224x4 32) (o : IVec S1001 32)
    (h : (Cert.Pre_well_formed.fn q x o).1 = fun _ => 1#1) (y) : (q y : EReal) ≠ ⊤ ∧ (q y : EReal) ≠ ⊥ := by
  have h1 : BitVec.ofBool (decide ((q y : EReal) < Ideal.ofBits .bf16 0x7F80#16)) &&& BitVec.ofBool (decide (Ideal.ofBits .bf16 0xFF80#16 < (q y : EReal))) = 1#1 :=
    congrFun h y
  rw [and_eq_one, ofBool_eq_one, ofBool_eq_one, decide_eq_true_eq, decide_eq_true_eq] at h1
  exact ⟨ne_top_of_lt h1.1, ne_bot_of_gt h1.2⟩

end Cert.KernelIdeal.MaxSim

end
-- ==== Proof.MaxSim.Score.lean ====
/- The score of a tile: the product of a query row with the bits of a token, each bit counted as two. -/
module

public import proofs.«01_k».proof.Proof.MaxSim.Pre
public import Idealize.ShloMosaic.Lib.Pointwise
public import Idealize.ShloMosaic.Lib.BitcastPair
public import Idealize.ShloMosaic.Lib.WordArith

@[expose] public section

set_option maxRecDepth 16384

noncomputable section

namespace Cert.KernelIdeal.MaxSim

open Cert.KernelIdeal
open Idealize.ShloMosaic Idealize.ShloMosaic.TcCoe
open Facts₀ Facts
open Idealize.ShloMosaic.Pointwise

/-! ## Constants -/

theorem bits_half : Ideal.ofBits .f32 0x3F000000#32 = ((1 / 2 : ℝ) : EReal) := by
  simp [Ideal.ofBits, Ideal.ieee]; rw [← EReal.coe_mul]; norm_num
theorem bits_three_halves : Ideal.ofBits .f32 0x3FC00000#32 = ((3 / 2 : ℝ) : EReal) := by
  simp [Ideal.ofBits, Ideal.ieee]; rw [← EReal.coe_mul]; norm_num
theorem bits_five_halves : Ideal.ofBits .f32 0x40200000#32 = ((5 / 2 : ℝ) : EReal) := by
  simp [Ideal.ofBits, Ideal.ieee]; rw [← EReal.coe_mul]; norm_num
theorem bits_seven_halves : Ideal.ofBits .f32 0x40600000#32 = ((7 / 2 : ℝ) : EReal) := by
  simp [Ideal.ofBits, Ideal.ieee]; rw [← EReal.coe_mul]; norm_num
theorem bits_neg_inf : Ideal.ofBits .f32 0xFF800000#32 = ⊥ := by
  simp [Ideal.ofBits, Ideal.ieee]
theorem bits_two : Ideal.ofBits .bf16 0x4000#16 = 2 := by
  simp [Ideal.ofBits, Ideal.ieee]; rw [← EReal.coe_mul]; norm_num; rfl
theorem bits_zero : Ideal.ofBits .bf16 0x0000#16 = 0 := by
  simp [Ideal.ofBits, Ideal.ieee]

/-! ## One word's bits -/

theorem mask_bit : ∀ i : Fin 32, (1073758208#32).getLsbD i.val = decide (i.val = 14 ∨ i.val = 30) := by decide

/-- Half `h` of the masked word `y`: two if bit 14 of that half is set. -/
theorem half_value (y : BitVec 32) (h : Fin 2) :
    Ideal.ofBits .bf16 ((y &&& 1073758208#32).extractLsb' (16 * h.val) 16) = if y.getLsbD (14 + 16 * h.val) then 2 else 0 := by
  have e : (y &&& 1073758208#32).extractLsb' (16 * h.val) 16 = if y.getLsbD (14 + 16 * h.val) then 0x4000#16 else 0#16 := by
    apply BitVec.eq_of_getLsbD_eq
    intro i hi
    rw [BitVec.getLsbD_extractLsb', BitVec.getLsbD_and, mask_bit ⟨16 * h.val + i, by omega⟩]
    by_cases h14 : i = 14
    · subst h14
      have : 16 * h.val + 14 = 14 + 16 * h.val := by omega
      simp only [this]
      have h2 : 14 + 16 * h.val = 14 ∨ 14 + 16 * h.val = 30 := by omega
      have h4 : decide (14 + 16 * h.val = 14 ∨ 14 + 16 * h.val = 30) = true := decide_eq_true h2
      simp only [h4]
      cases y.getLsbD (14 + 16 * h.val) <;> simp
    · have h2 : ¬ (16 * h.val + i = 14 ∨ 16 * h.val + i = 30) := by omega
      have h3 : ∀ j : Fin 16, j.val ≠ 14 → (0x4000#16).getLsbD j.val = false := by decide
      simp only [h2, decide_false, Bool.and_false]
      split
      · exact (h3 ⟨i, hi⟩ h14).symm
      · simp
  rw [e]
  split
  · exact bits_two
  · exact bits_zero

theorem sub_small : ∀ s : Fin 8, IntOp.subi 14#32 (BitVec.ofNat 32 s.val) = BitVec.ofNat 32 (14 - s.val) := by decide
theorem sub_small7 : ∀ s : Fin 8, IntOp.subi 7#32 (BitVec.ofNat 32 s.val) = BitVec.ofNat 32 (7 - s.val) := by decide

theorem shli_small (x : BitVec 32) (n : ℕ) (hn : n < 32) : IntOp.shli .vector x (BitVec.ofNat 32 n) = x <<< n := by
  unfold IntOp.shli
  have : (BitVec.ofNat 32 n).toNat = n := by simp; omega
  rw [if_pos (by rw [this]; exact hn)]
  show x <<< (BitVec.ofNat 32 n).toNat = _
  rw [this]

theorem unpackLo_value (w : IVec S8x128 32) (s : Fin 8) (L : Fin 128) (h : Fin 2) :
    Ideal.ofBits .bf16 ((unpackLo w (ix2 s L)).extractLsb' (16 * h.val) 16) = if (w (ix2 s L)).getLsbD (s.val + 16 * h.val) then 2 else 0 := by
  have e : unpackLo w (ix2 s L) = (w (ix2 s L) <<< (14 - s.val)) &&& 1073758208#32 := by
    unfold unpackLo
    pointwise
    rw [sub_small, shli_small _ _ (by omega)]
    rfl
  rw [e, half_value, BitVec.getLsbD_shiftLeft]
  have h1 : 14 + 16 * h.val < 32 := by omega
  have h2 : ¬ 14 + 16 * h.val < 14 - s.val := by omega
  have h3 : 14 + 16 * h.val - (14 - s.val) = s.val + 16 * h.val := by omega
  simp [h1, h2, h3]

theorem unpackHi_value (w : IVec S8x128 32) (s : Fin 8) (L : Fin 128) (h : Fin 2) :
    Ideal.ofBits .bf16 ((unpackHi w (ix2 s L)).extractLsb' (16 * h.val) 16) = if (w (ix2 s L)).getLsbD (s.val + 8 + 16 * h.val) then 2 else 0 := by
  have e : unpackHi w (ix2 s L) = ((w (ix2 s L) >>> 1) <<< (7 - s.val)) &&& 1073758208#32 := by
    unfold unpackHi
    pointwise
    rw [sub_small7, shli_small _ _ (by omega)]
    rfl
  rw [e, half_value, BitVec.getLsbD_shiftLeft, BitVec.getLsbD_ushiftRight]
  have h1 : 14 + 16 * h.val < 32 := by omega
  have h2 : ¬ 14 + 16 * h.val < 7 - s.val := by omega
  have h3 : 1 + (14 + 16 * h.val - (7 - s.val)) = s.val + 8 + 16 * h.val := by omega
  simp [h1, h2, h3]

/-! ## A token's bits -/

/-- Bit `d` of four words. -/
def tokBit (x : Fin 4 → BitVec 32) (d : Fin 128) : Bool := (x ⟨d.val / 32, by omega⟩).getLsbD (d.val % 32)

/-- A query row against a token's bits, each set bit counted as two. -/
def dot2 (q : Fin 128 → EReal) (x : Fin 4 → BitVec 32) : EReal := ∑ d, q d * (if tokBit x d then 2 else 0)

/-- The feature whose bit is in row `k` of an unpacked tile. -/
def src (k : Fin 128) : Fin 128 := ⟨32 * (k.val / 32) + 8 * (k.val / 16 % 2) + k.val / 2 % 8 + 16 * (k.val % 2), by omega⟩

theorem unpack_piece (w : Tile) (k L : Fin 128) (p : Fin 4) (b : Bool) (hp : k.val / 32 = p.val) (hb : k.val / 16 % 2 = if b then 1 else 0)
    (r : Fin 8) (hr : r.val = k.val / 2 % 8) :
    Ideal.ofBits .bf16 (((if b then unpackHi (w p) else unpackLo (w p)) (ix2 r L)).extractLsb' (16 * (k.val % 2)) 16)
      = if (w p (ix2 r L)).getLsbD ((src k).val % 32) then 2 else 0 := by
  have hm : k.val % 2 < 2 := by omega
  cases b with
  | false =>
    have := unpackLo_value (w p) r L ⟨k.val % 2, hm⟩
    simp only [Bool.false_eq_true, if_false] at hb ⊢
    rw [this]
    have e : (src k).val % 32 = r.val + 16 * (k.val % 2) := by
      show (32 * (k.val / 32) + 8 * (k.val / 16 % 2) + k.val / 2 % 8 + 16 * (k.val % 2)) % 32 = _
      omega
    rw [e]
  | true =>
    have := unpackHi_value (w p) r L ⟨k.val % 2, hm⟩
    simp only [if_true] at hb ⊢
    rw [this]
    have e : (src k).val % 32 = r.val + 8 + 16 * (k.val % 2) := by
      show (32 * (k.val / 32) + 8 * (k.val / 16 % 2) + k.val / 2 % 8 + 16 * (k.val % 2)) % 32 = _
      omega
    rw [e]

theorem src_div (k : Fin 128) : (src k).val / 32 = k.val / 32 := by
  show (32 * (k.val / 32) + 8 * (k.val / 16 % 2) + k.val / 2 % 8 + 16 * (k.val % 2)) / 32 = _
  omega

theorem unpack_apply (w : Tile) (x : Fin 4 → BitVec 32) (k L : Fin 128) (hx : ∀ p s, w p (ix2 s L) = x p) :
    unpack (F := Ideal) w (ix2 k L) = if tokBit x (src k) then 2 else 0 := by
  have hk := k.isLt
  unfold unpack
  show Ideal.ofBits .bf16 (bitcast S128x128 16 _ _ (ix2 k L)) = _
  rw [bitcast_32_16]
  have hrow : Shape.row (s := S128x128) (ix2 k L) = k.val := rfl
  have hsrc : ∀ h, bitcasts_S64x128_w32_S128x128_w16.srcIdx (ix2 k L) (Shape.row (s := S128x128) (ix2 k L) / 2) h
      = ix2 (⟨k.val / 2, by omega⟩ : Fin 64) L := by
    intro h
    funext a
    apply Fin.ext
    match a with
    | ⟨0, _⟩ => rfl
    | ⟨1, _⟩ => rfl
  rw [hsrc, hrow]
  have key : ∀ p : Fin 4, k.val / 32 = p.val → (if (w p (ix2 ⟨k.val / 2 % 8, by omega⟩ L)).getLsbD ((src k).val % 32) then (2 : EReal) else 0)
      = if tokBit x (src k) then 2 else 0 := by
    intro p hp
    rw [hx]
    unfold tokBit
    have : p = ⟨(src k).val / 32, by omega⟩ := Fin.ext (hp.symm.trans (src_div k).symm)
    rw [← this]
  pointwise
  split
  · rw [← key 0 (by show _ = 0; omega), ← unpack_piece w k L 0 false (by show _ = 0; omega) (by simp; omega) ⟨k.val / 2 % 8, by omega⟩ rfl]
    congr 4; apply Fin.ext; simp; omega
  split
  · rw [← key 0 (by show _ = 0; omega), ← unpack_piece w k L 0 true (by show _ = 0; omega) (by simp; omega) ⟨k.val / 2 % 8, by omega⟩ rfl]
    congr 4; apply Fin.ext; simp; omega
  split
  · rw [← key 1 (by show _ = 1; omega), ← unpack_piece w k L 1 false (by show _ = 1; omega) (by simp; omega) ⟨k.val / 2 % 8, by omega⟩ rfl]
    congr 4; apply Fin.ext; simp; omega
  split
  · rw [← key 1 (by show _ = 1; omega), ← unpack_piece w k L 1 true (by show _ = 1; omega) (by simp; omega) ⟨k.val / 2 % 8, by omega⟩ rfl]
    congr 4; apply Fin.ext; simp; omega
  split
  · rw [← key 2 (by show _ = 2; omega), ← unpack_piece w k L 2 false (by show _ = 2; omega) (by simp; omega) ⟨k.val / 2 % 8, by omega⟩ rfl]
    congr 4; apply Fin.ext; simp; omega
  split
  · rw [← key 2 (by show _ = 2; omega), ← unpack_piece w k L 2 true (by show _ = 2; omega) (by simp; omega) ⟨k.val / 2 % 8, by omega⟩ rfl]
    congr 4; apply Fin.ext; simp; omega
  split
  · rw [← key 3 (by show _ = 3; omega), ← unpack_piece w k L 3 false (by show _ = 3; omega) (by simp; omega) ⟨k.val / 2 % 8, by omega⟩ rfl]
    congr 4; apply Fin.ext; simp; omega
  · rw [← key 3 (by show _ = 3; omega), ← unpack_piece w k L 3 true (by show _ = 3; omega) (by simp; omega) ⟨k.val / 2 % 8, by omega⟩ rfl]
    congr 4; apply Fin.ext; simp; omega

/-! ## The permuted query -/

/-- The row of an unpacked tile that holds feature `d`'s bit. -/
def dst (d : Fin 128) : Fin 128 := ⟨32 * (d.val / 32) + 16 * (d.val / 8 % 2) + 2 * (d.val % 8) + d.val / 16 % 2, by omega⟩

theorem dst_src : ∀ k : Fin 128, dst (src k) = k := by decide
theorem src_dst : ∀ k : Fin 128, src (dst k) = k := by decide

def srcEquiv : Fin 128 ≃ Fin 128 := ⟨src, dst, dst_src, src_dst⟩

theorem src_word : ∀ k : Fin 128,
    IntOp.addi (IntOp.addi (IntOp.addi (IntOp.andi (BitVec.ofNat 32 k.val) 4294967264#32)
      (IntOp.muli (IntOp.andi (IntOp.shrsi .vector (BitVec.ofNat 32 k.val) 4#32) 1#32) 8#32))
      (IntOp.andi (IntOp.shrsi .vector (BitVec.ofNat 32 k.val) 1#32) 7#32))
      (IntOp.muli (IntOp.andi (BitVec.ofNat 32 k.val) 1#32) 16#32) = BitVec.ofNat 32 (src k).val := by decide +kernel

theorem sel_ofBool {α : Type} (b : Bool) (x y : α) : Scalar.select (BitVec.ofBool b) x y = if b then x else y := by
  cases b <;> rfl

theorem sel_eq {α : Type} {w : ℕ} (a b : BitVec w) (x y : α) : Scalar.select (IntOp.cmpi .eq a b) x y = if a = b then x else y := by
  show Scalar.select (BitVec.ofBool _) x y = _
  rw [sel_ofBool]
  simp

theorem ofNat_inj {n m : ℕ} (hn : n < 2 ^ 32) (hm : m < 2 ^ 32) : BitVec.ofNat 32 n = BitVec.ofNat 32 m ↔ n = m := by
  refine ⟨fun h => ?_, fun h => h ▸ rfl⟩
  have := congrArg BitVec.toNat h
  simp only [BitVec.toNat_ofNat] at this
  omega

theorem permQ_apply (q : FVec Ideal S224x128 .bf16) (i : Fin 224) (k : Fin 128) :
    permQ (F := Ideal) q (ix2 i k) = q (ix2 i (src k)) := by
  unfold permQ
  pointwise
  simp only [src_word, sel_eq]
  have : ∀ x : Fin 128, BitVec.ofNat 32 x.val = BitVec.ofNat 32 (src k).val ↔ x = src k := fun x => by
    rw [ofNat_inj (by omega) (by omega)]; exact Fin.ext_iff.symm
  simp only [this]
  simp

/-! ## The score -/

theorem dot_unpack (q : FVec Ideal S224x128 .bf16) (w : Tile) (x : Fin 4 → BitVec 32) (i : Fin 224) (L : Fin 128)
    (hx : ∀ p s, w p (ix2 s L) = x p) :
    (∑ k : Fin 128, permQ (F := Ideal) q (ix2 i k) * unpack (F := Ideal) w (ix2 k L) : EReal) = dot2 (fun d => q (ix2 i d)) x := by
  have : ∀ k : Fin 128, (permQ (F := Ideal) q (ix2 i k) * unpack (F := Ideal) w (ix2 k L) : EReal)
      = (fun d => q (ix2 i d) * (if tokBit x d then 2 else 0 : EReal)) (srcEquiv k) := fun k => by
    rw [permQ_apply, unpack_apply w x k L hx]; rfl
  rw [Finset.sum_congr rfl fun k _ => this k]
  exact Equiv.sum_comp srcEquiv (fun d => (q (ix2 i d) * (if tokBit x d then 2 else 0 : EReal)))

theorem pairScore_apply (q : FVec Ideal S224x128 .bf16) (a b : Tile) (xa xb : Fin 4 → BitVec 32) (i : Fin 224) (L : Fin 128)
    (ha : ∀ p s, a p (ix2 s L) = xa p) (hb : ∀ p s, b p (ix2 s L) = xb p) :
    pairScore (F := Ideal) (permQ q) a b (ix2 i L) = max (dot2 (fun d => q (ix2 i d)) xa) (dot2 (fun d => q (ix2 i d)) xb) := by
  rw [← dot_unpack q a xa i L ha, ← dot_unpack q b xb i L hb]
  unfold pairScore
  pointwise

theorem score_apply (q : FVec Ideal S224x128 .bf16) (a b c d : Tile) (xa xb xc xd : Fin 4 → BitVec 32) (i : Fin 224) (L : Fin 128)
    (ha : ∀ p s, a p (ix2 s L) = xa p) (hb : ∀ p s, b p (ix2 s L) = xb p) (hc : ∀ p s, c p (ix2 s L) = xc p)
    (hd : ∀ p s, d p (ix2 s L) = xd p) :
    score (F := Ideal) (permQ q) a b c d (ix2 i L)
      = max (max (dot2 (fun d => q (ix2 i d)) xa) (dot2 (fun d => q (ix2 i d)) xb))
          (max (dot2 (fun d => q (ix2 i d)) xc) (dot2 (fun d => q (ix2 i d)) xd)) := by
  rw [← pairScore_apply q a b xa xb i L ha hb, ← pairScore_apply q c d xc xd i L hc hd]
  rfl

end Cert.KernelIdeal.MaxSim

end
-- ==== Proof.MaxSim.Stream.lean ====
/- Running maxima over runs of tokens: the largest of a function over an interval, restarted where a document starts. -/
module

public import Mathlib.Data.EReal.Basic
public import Mathlib.Order.Interval.Finset.Nat
public import Mathlib.Data.Finset.Lattice.Fold
public import Mathlib.Tactic.IntervalCases

@[expose] public section

noncomputable section

namespace Cert.KernelIdeal.MaxSim

/-! ## The largest value over an interval -/

/-- The largest of `D a`, …, `D (b - 1)`; minus infinity for none. -/
def top (D : ℕ → EReal) (a b : ℕ) : EReal := (Finset.Ico a b).sup D

theorem top_self (D : ℕ → EReal) (a : ℕ) : top D a a = ⊥ := by simp [top]

theorem top_cat (D : ℕ → EReal) {a b c : ℕ} (hab : a ≤ b) (hbc : b ≤ c) : max (top D a b) (top D b c) = top D a c := by
  unfold top
  rw [← Finset.Ico_union_Ico_eq_Ico hab hbc, Finset.sup_union]

theorem top_one (D : ℕ → EReal) (a : ℕ) : top D a (a + 1) = D a := by simp [top]

theorem top_succ (D : ℕ → EReal) {a b : ℕ} (h : a ≤ b) : top D a (b + 1) = max (top D a b) (D b) := by
  rw [← top_cat D h (Nat.le_succ b), top_one]

theorem le_top (D : ℕ → EReal) {a b t : ℕ} (h : a ≤ t) (h' : t < b) : D t ≤ top D a b :=
  Finset.le_sup (f := D) (Finset.mem_Ico.mpr ⟨h, h'⟩)

theorem top_le (D : ℕ → EReal) {a b : ℕ} {x : EReal} (h : ∀ t, a ≤ t → t < b → D t ≤ x) : top D a b ≤ x :=
  Finset.sup_le fun t ht => h t (Finset.mem_Ico.mp ht).1 (Finset.mem_Ico.mp ht).2

/-! ## Where documents start -/

/-- The start inside group `G` of the last document starting there, plus one; zero if none does. -/
def cod (S : ℕ → ℕ) (G : ℕ) : ℕ :=
  if h : ∃ d, d < 1024 ∧ S d / 4 = G ∧ S (d + 1) / 4 ≠ G then S h.choose % 4 + 1 else 0

theorem last_unique {S : ℕ → ℕ} (hS : Monotone S) {G d d' : ℕ} (h : S d / 4 = G ∧ S (d + 1) / 4 ≠ G) (h' : S d' / 4 = G ∧ S (d' + 1) / 4 ≠ G) :
    d = d' := by
  have key : ∀ a b : ℕ, a < b → S a / 4 = G → S (a + 1) / 4 ≠ G → S b / 4 = G → False := fun a b hab h1 h2 h3 => by
    have e1 := hS (show a ≤ a + 1 by omega)
    have e2 := hS (show a + 1 ≤ b by omega)
    omega
  rcases Nat.lt_trichotomy d d' with hl | he | hl
  · exact (key d d' hl h.1 h.2 h'.1).elim
  · exact he
  · exact (key d' d hl h'.1 h'.2 h.1).elim

theorem cod_of {S : ℕ → ℕ} (hS : Monotone S) {G d : ℕ} (hd : d < 1024) (h : S d / 4 = G) (h' : S (d + 1) / 4 ≠ G) : cod S G = S d % 4 + 1 := by
  have hex : ∃ d, d < 1024 ∧ S d / 4 = G ∧ S (d + 1) / 4 ≠ G := ⟨d, hd, h, h'⟩
  unfold cod
  rw [dif_pos hex, last_unique hS hex.choose_spec.2 ⟨h, h'⟩]

theorem cod_zero {S : ℕ → ℕ} {G : ℕ} (h : ∀ d, d < 1024 → S d / 4 ≠ G) : cod S G = 0 := by
  unfold cod
  rw [dif_neg]
  rintro ⟨d, hd, e, _⟩
  exact h d hd e

theorem cod_le (S : ℕ → ℕ) (G : ℕ) : cod S G ≤ 4 := by
  unfold cod
  split <;> omega

/-! ## The running maximum of a stream -/

/-- The running maximum after `n` groups of the stream that begins with group `B`. -/
def runMax (D : ℕ → EReal) (S : ℕ → ℕ) (B : ℕ) : ℕ → EReal
  | 0 => ⊥
  | n + 1 => max (if cod S (B + n) = 0 then runMax D S B n else ⊥) (top D (4 * (B + n) + (cod S (B + n) - 1)) (4 * (B + n) + 4))

/-- From the last start on. -/
theorem runMax_from (D : ℕ → EReal) (S : ℕ → ℕ) (B a n : ℕ) (han : a ≤ n) (ha : cod S (B + a) ≠ 0)
    (h : ∀ i, a < i → i ≤ n → cod S (B + i) = 0) :
    runMax D S B (n + 1) = top D (4 * (B + a) + (cod S (B + a) - 1)) (4 * (B + n) + 4) := by
  induction n with
  | zero =>
    obtain rfl : a = 0 := by omega
    show max (if cod S (B + 0) = 0 then _ else ⊥) _ = _
    rw [if_neg ha]
    exact bot_sup_eq _
  | succ n ih =>
    by_cases e : a = n + 1
    · subst e
      show max (if cod S (B + (n + 1)) = 0 then _ else ⊥) _ = _
      rw [if_neg ha]
      exact bot_sup_eq _
    · have hz := h (n + 1) (by omega) le_rfl
      have hc := cod_le S (B + a)
      show max (if cod S (B + (n + 1)) = 0 then runMax D S B (n + 1) else ⊥) _ = _
      rw [if_pos hz, ih (by omega) (fun i h1 h2 => h i h1 (by omega)), hz]
      have e1 : 4 * (B + n) + 4 = 4 * (B + (n + 1)) + (0 - 1) := by omega
      rw [e1]
      exact top_cat D (by omega) (by omega)

/-- From the stream's beginning. -/
theorem runMax_whole (D : ℕ → EReal) (S : ℕ → ℕ) (B n : ℕ) (h : ∀ i, i < n → cod S (B + i) = 0) :
    runMax D S B n = top D (4 * B) (4 * (B + n)) := by
  induction n with
  | zero => exact (top_self D _).symm
  | succ n ih =>
    have hz := h n (by omega)
    show max (if cod S (B + n) = 0 then runMax D S B n else ⊥) _ = _
    rw [if_pos hz, ih (fun i hi => h i (by omega)), hz]
    exact top_cat D (by omega) (by omega)

/-- One group's part: the tokens before the start are replaced by the group's last. -/
theorem top_group (D : ℕ → EReal) (G c : ℕ) (hc : c ≤ 4) :
    max (max (if 2 ≤ c then D (4 * G + 3) else D (4 * G)) (if 3 ≤ c then D (4 * G + 3) else D (4 * G + 1)))
      (max (if 4 ≤ c then D (4 * G + 3) else D (4 * G + 2)) (D (4 * G + 3))) = top D (4 * G + (c - 1)) (4 * G + 4) := by
  have h4 : ∀ a, a ≤ 4 * G + 3 → top D a (4 * G + 4) = max (top D a (4 * G + 3)) (D (4 * G + 3)) := fun a ha => top_succ D ha
  have h3 : ∀ a, a ≤ 4 * G + 2 → top D a (4 * G + 3) = max (top D a (4 * G + 2)) (D (4 * G + 2)) := fun a ha => top_succ D ha
  have h2 : ∀ a, a ≤ 4 * G + 1 → top D a (4 * G + 2) = max (top D a (4 * G + 1)) (D (4 * G + 1)) := fun a ha => top_succ D ha
  have h1 : top D (4 * G) (4 * G + 1) = D (4 * G) := top_one D _
  interval_cases c
  · rw [show 4 * G + (0 - 1) = 4 * G from rfl, h4 _ (by omega), h3 _ (by omega), h2 _ (by omega), h1]
    simp [max_assoc]
  · rw [show 4 * G + (1 - 1) = 4 * G from rfl, h4 _ (by omega), h3 _ (by omega), h2 _ (by omega), h1]
    simp [max_assoc]
  · rw [show 4 * G + (2 - 1) = 4 * G + 1 from rfl, h4 _ (by omega), h3 _ (by omega), h2 _ le_rfl, top_self]
    simp [max_assoc, max_comm, max_left_comm]
  · rw [show 4 * G + (3 - 1) = 4 * G + 2 from rfl, h4 _ (by omega), h3 _ le_rfl, top_self]
    simp [max_assoc, max_comm, max_left_comm]
  · rw [show 4 * G + (4 - 1) = 4 * G + 3 from rfl, h4 _ le_rfl, top_self]
    simp

/-! ## The carry over streams -/

/-- The largest of `A L'` over the streams `L'` up to `L` that no flagged stream separates from `L`. -/
def window (A : ℕ → EReal) (f : ℕ → Prop) (W L : ℕ) : EReal :=
  by
    classical
    exact ((Finset.range (L + 1)).filter fun L' => L < L' + W ∧ ∀ i, L' < i → i ≤ L → ¬ f i).sup A

theorem window_one (A : ℕ → EReal) (f : ℕ → Prop) (L : ℕ) : window A f 1 L = A L := by
  classical
  unfold window
  have : ((Finset.range (L + 1)).filter fun L' => L < L' + 1 ∧ ∀ i, L' < i → i ≤ L → ¬ f i) = {L} := by
    ext x
    simp only [Finset.mem_filter, Finset.mem_range, Finset.mem_singleton]
    constructor
    · rintro ⟨h1, h2, _⟩; omega
    · rintro rfl; exact ⟨by omega, by omega, fun i h1 h2 => by omega⟩
  rw [this, Finset.sup_singleton]

/-- Doubling the window where no stream in it is flagged and there is one more window before it. -/
theorem window_take (A : ℕ → EReal) (f : ℕ → Prop) (W L : ℕ) (hW : W ≤ L) (h : ∀ i, L < i + W → i ≤ L → ¬ f i) :
    window A f (2 * W) L = max (window A f W L) (window A f W (L - W)) := by
  classical
  unfold window
  rw [← Finset.sup_union]
  congr 1
  ext x
  simp only [Finset.mem_union, Finset.mem_filter, Finset.mem_range]
  constructor
  · rintro ⟨h1, h2, h3⟩
    by_cases hx : L < x + W
    · exact .inl ⟨h1, hx, h3⟩
    · exact .inr ⟨by omega, by omega, fun i hi hi' => h3 i hi (by omega)⟩
  · rintro (⟨h1, h2, h3⟩ | ⟨h1, h2, h3⟩)
    · exact ⟨h1, by omega, h3⟩
    · refine ⟨by omega, by omega, fun i hi hi' => ?_⟩
      by_cases hx : L < i + W
      · exact h i hx hi'
      · exact h3 i hi (by omega)

theorem window_keep (A : ℕ → EReal) (f : ℕ → Prop) (W L : ℕ) (h : L < W ∨ ∃ i, L < i + W ∧ i ≤ L ∧ f i) :
    window A f (2 * W) L = window A f W L := by
  classical
  unfold window
  congr 1
  ext x
  simp only [Finset.mem_filter, Finset.mem_range]
  constructor
  · rintro ⟨h1, h2, h3⟩
    refine ⟨h1, ?_, h3⟩
    rcases h with hL | ⟨i, hi1, hi2, hi3⟩
    · omega
    · by_contra hx
      exact h3 i (by omega) hi2 hi3
  · rintro ⟨h1, h2, h3⟩
    exact ⟨h1, by omega, h3⟩

/-- The whole carry: from a flagged stream whose successors up to `L` are not flagged. -/
theorem window_run (D A : ℕ → EReal) (f : ℕ → Prop) (W L a s : ℕ) (hL : L < W) (ha : a ≤ L) (hf : f a) (h : ∀ i, a < i → i ≤ L → ¬ f i)
    (hs : s ≤ 1408 * (a + 1)) (hA : A a = top D s (1408 * (a + 1))) (hA' : ∀ i, a < i → i ≤ L → A i = top D (1408 * i) (1408 * (i + 1))) :
    window A f W L = top D s (1408 * (L + 1)) := by
  classical
  have key : ∀ n, a + n ≤ L → (Finset.Ico a (a + n + 1)).sup A = top D s (1408 * (a + n + 1)) := by
    intro n
    induction n with
    | zero => intro _; simpa using hA
    | succ n ih =>
      intro hn
      have e : Finset.Ico a (a + (n + 1) + 1) = Finset.Ico a (a + n + 1) ∪ {a + n + 1} := by
        ext x; simp only [Finset.mem_Ico, Finset.mem_union, Finset.mem_singleton]; omega
      rw [e, Finset.sup_union, ih (by omega), Finset.sup_singleton, hA' _ (by omega) (by omega)]
      exact top_cat D (by omega) (by omega)
  unfold window
  have e : ((Finset.range (L + 1)).filter fun L' => L < L' + W ∧ ∀ i, L' < i → i ≤ L → ¬ f i) = Finset.Ico a (a + (L - a) + 1) := by
    ext x
    simp only [Finset.mem_filter, Finset.mem_range, Finset.mem_Ico]
    constructor
    · rintro ⟨h1, h2, h3⟩
      refine ⟨?_, by omega⟩
      by_contra hx
      exact h3 a (by omega) ha hf
    · rintro ⟨h1, h2⟩
      exact ⟨by omega, by omega, fun i hi hi' => h i (by omega) hi'⟩
  rw [e, key _ (by omega), show a + (L - a) + 1 = L + 1 by omega]

end Cert.KernelIdeal.MaxSim

end
-- ==== Proof.MaxSim.Code.lean ====
/- The codes at the exact instance: each is the number `cod` of its group. -/
module

public import proofs.«01_k».proof.Proof.MaxSim.Score
public import proofs.«01_k».proof.Proof.MaxSim.Stream
public import proofs.«01_k».proof.Proof.MaxSim.Values

@[expose] public section

set_option maxRecDepth 16384

noncomputable section

namespace Cert.KernelIdeal.MaxSim

open Cert.KernelIdeal
open Idealize.ShloMosaic Idealize.ShloMosaic.TcCoe
open Facts₀ Facts
open Idealize.ShloMosaic.Pointwise

/-! ## Words that hold small numbers -/

theorem toInt_small (n : ℕ) (hn : n < 2 ^ 31) : (BitVec.ofNat 32 n).toInt = n := WordArith.toInt_ofNat_small n hn

theorem shrsi_small (n k : ℕ) (hn : n < 2 ^ 31) (hk : k < 32) :
    IntOp.shrsi .vector (BitVec.ofNat 32 n) (BitVec.ofNat 32 k) = BitVec.ofNat 32 (n / 2 ^ k) := by
  unfold IntOp.shrsi
  have e : (BitVec.ofNat 32 k).toNat = k := by simp; omega
  rw [if_pos (by rw [e]; exact hk)]
  apply BitVec.eq_of_toInt_eq
  have hd : n / 2 ^ k ≤ n := Nat.div_le_self _ _
  rw [toInt_small _ (by omega)]
  show ((BitVec.ofNat 32 n).sshiftRight (BitVec.ofNat 32 k).toNat).toInt = _
  rw [BitVec.toInt_sshiftRight, e, toInt_small n hn, Int.shiftRight_eq_div_pow]
  norm_cast

theorem muli_small (a b : ℕ) : IntOp.muli (BitVec.ofNat 32 a) (BitVec.ofNat 32 b) = BitVec.ofNat 32 (a * b) := (BitVec.ofNat_mul a b).symm
theorem addi_small (a b : ℕ) : IntOp.addi (BitVec.ofNat 32 a) (BitVec.ofNat 32 b) = BitVec.ofNat 32 (a + b) := (BitVec.ofNat_add a b).symm

theorem subi_small (a b : ℕ) (h : b ≤ a) (ha : a < 2 ^ 32) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub]
  simp only [BitVec.toNat_ofNat]
  omega

theorem andi_three (a : ℕ) (ha : a < 2 ^ 32) : IntOp.andi (BitVec.ofNat 32 a) 3#32 = BitVec.ofNat 32 (a % 4) := by
  apply BitVec.eq_of_toNat_eq
  show (BitVec.ofNat 32 a &&& 3#32).toNat = _
  rw [BitVec.toNat_and]
  simp only [BitVec.toNat_ofNat]
  rw [show 3 % 2 ^ 32 = 2 ^ 2 - 1 from rfl, Nat.and_two_pow_sub_one_eq_mod]
  omega

theorem lane_div : ∀ x : Fin 1409, x.val * 5958 / 65536 = x.val / 11 := by decide +kernel

/-- The stream of a group. -/
theorem lane_word (g : ℕ) (hg : g ≤ 45056) :
    IntOp.shrsi .vector (IntOp.muli (IntOp.shrsi .vector (BitVec.ofNat 32 g) 5#32) 5958#32) 16#32 = BitVec.ofNat 32 (g / 352) := by
  rw [shrsi_small g 5 (by omega) (by omega), muli_small, shrsi_small _ 16 (by omega) (by omega)]
  have := lane_div ⟨g / 32, by omega⟩
  simp only at this
  rw [show (2 : ℕ) ^ 5 = 32 from rfl, show (2 : ℕ) ^ 16 = 65536 from rfl, this]
  congr 1
  omega

theorem sel_ne {α : Type} {w : ℕ} (a b : BitVec w) (x y : α) : Scalar.select (IntOp.cmpi .ne a b) x y = if a = b then y else x := by
  show Scalar.select (BitVec.ofBool _) x y = _
  rw [sel_ofBool]
  by_cases h : a = b <;> simp [h]

/-! ## The codes -/

theorem codeOf_apply (s e : IVec S1x1024 32) (S : ℕ → ℕ) (hs : ∀ d : Fin 1024, s (ix2 0 d) = BitVec.ofNat 32 (S d.val))
    (he : ∀ d : Fin 1024, e (ix2 0 d) = BitVec.ofNat 32 (S (d.val + 1))) (hS : ∀ d, S d ≤ 180224) (n : Fin 352) (L : Fin 128) :
    codeOf (F := Ideal) s e (ix2 n L)
      = ∑ d : Fin 1024, if S d.val / 4 = 352 * L.val + n.val ∧ S (d.val + 1) / 4 ≠ 352 * L.val + n.val then (((S d.val % 4 + 1 : ℕ) : ℝ) : EReal) else 0 := by
  unfold codeOf codeMul rowHot laneHot valOf groupOf laneOf
  pointwise
  refine Finset.sum_congr rfl fun d _ => ?_
  have h1 := hS d.val
  have h2 := hS (d.val + 1)
  rw [hs, he]
  rw [show (2#32 : BitVec 32) = BitVec.ofNat 32 2 from rfl, shrsi_small _ 2 (by omega) (by omega), shrsi_small _ 2 (by omega) (by omega),
    lane_word _ (by omega), muli_small, subi_small _ _ (by omega) (by omega), andi_three _ (by omega),
    show (1#32 : BitVec 32) = BitVec.ofNat 32 1 from rfl, addi_small, sel_eq, sel_ne, sel_eq]
  simp only [show (2 : ℕ) ^ 2 = 4 from rfl]
  have i1 : BitVec.ofNat 32 L.val = BitVec.ofNat 32 (S d.val / 4 / 352) ↔ L.val = S d.val / 4 / 352 := ofNat_inj (by omega) (by omega)
  have i2 : BitVec.ofNat 32 (S (d.val + 1) / 4) = BitVec.ofNat 32 (S d.val / 4) ↔ S (d.val + 1) / 4 = S d.val / 4 := ofNat_inj (by omega) (by omega)
  have i3 : BitVec.ofNat 32 n.val = BitVec.ofNat 32 (S d.val / 4 - S d.val / 4 / 352 * 352) ↔ n.val = S d.val / 4 - S d.val / 4 / 352 * 352 :=
    ofNat_inj (by omega) (by omega)
  simp only [i1, i2, i3]
  have hv : (FloatOps.sitofp FTy.f32 (BitVec.ofNat 32 (S d.val % 4 + 1)) : Ideal .f32) = (((S d.val % 4 + 1 : ℕ) : ℝ) : EReal) := by
    show ((((BitVec.ofNat 32 (S d.val % 4 + 1)).toInt : ℝ)) : EReal) = _
    rw [toInt_small _ (by omega)]
    norm_cast
  rw [hv]
  by_cases hL : L.val = S d.val / 4 / 352
  · rw [if_pos hL]
    by_cases hn : n.val = S d.val / 4 - S d.val / 4 / 352 * 352
    · have e : S d.val / 4 = 352 * L.val + n.val := by omega
      by_cases hne : S (d.val + 1) / 4 = S d.val / 4
      · rw [if_pos hne, if_neg (by omega)]
      · rw [if_neg hne, if_pos hn, if_pos (by omega)]
    · have hf : ¬ (S d.val / 4 = 352 * L.val + n.val ∧ S (d.val + 1) / 4 ≠ 352 * L.val + n.val) := by omega
      rw [if_neg hn, if_neg hf]
      split <;> rfl
  · rw [if_neg hL, if_neg (by omega)]

theorem codeOf_eq (s e : IVec S1x1024 32) (S : ℕ → ℕ) (hs : ∀ d : Fin 1024, s (ix2 0 d) = BitVec.ofNat 32 (S d.val))
    (he : ∀ d : Fin 1024, e (ix2 0 d) = BitVec.ofNat 32 (S (d.val + 1))) (hS : ∀ d, S d ≤ 180224) (hm : Monotone S) (n : Fin 352) (L : Fin 128) :
    codeOf (F := Ideal) s e (ix2 n L) = ((cod S (352 * L.val + n.val) : ℕ) : ℝ) := by
  rw [codeOf_apply s e S hs he hS]
  by_cases h : ∃ d, d < 1024 ∧ S d / 4 = 352 * L.val + n.val ∧ S (d + 1) / 4 ≠ 352 * L.val + n.val
  · obtain ⟨d, hd, h1, h2⟩ := h
    rw [cod_of hm hd h1 h2, Finset.sum_eq_single (⟨d, hd⟩ : Fin 1024)]
    · rw [if_pos ⟨h1, h2⟩]
    · intro d' _ hne
      rw [if_neg]
      intro h'
      exact hne (Fin.ext (last_unique hm h' ⟨h1, h2⟩))
    · intro hx; exact absurd (Finset.mem_univ _) hx
  · rw [Finset.sum_eq_zero]
    · unfold cod
      rw [dif_neg h]
      simp
    · intro d _
      rw [if_neg]
      exact fun h' => h ⟨d.val, d.isLt, h'⟩

/-! ## The row of starts -/

theorem num_le (o : IVec S1001 32) (ho : ∀ y, (o y).toNat ≤ 180224) (d : ℕ) : num o d ≤ 180224 := by
  unfold num
  split
  · exact ho _
  · exact le_rfl

theorem num_mono (o : IVec S1001 32) (ho : ∀ y, (o y).toNat ≤ 180224) (h : ∀ d, d < 1000 → num o d ≤ num o (d + 1)) : Monotone (num o) := by
  refine monotone_nat_of_le_succ fun d => ?_
  by_cases hd : d < 1000
  · exact h d hd
  · have : num o (d + 1) = 180224 := by unfold num; rw [dif_neg (by omega)]
    rw [this]
    exact num_le o ho d

/-- The row of starts holds the numbers `num`. -/
theorem srowC_num (o : IVec S1001 32) (o2 : IVec S1x1001 32) (h : ∀ d : Fin 1001, o2 (ix2 0 d) = o (ix1 d)) (d : Fin 1024) :
    srowC o2 (ix2 0 d) = BitVec.ofNat 32 (num o d.val) := by
  unfold srowC num
  by_cases hd : d.val < 1001
  · rw [dif_pos (show ((ix2 (0 : Fin 1) d : S1x1024.Idx) 1).val < 1001 from hd), dif_pos hd]
    refine (h ⟨d.val, hd⟩).trans ?_
    simp
  · rw [dif_neg (show ¬ ((ix2 (0 : Fin 1) d : S1x1024.Idx) 1).val < 1001 from hd), dif_neg hd]

theorem endRow_num (o : IVec S1001 32) (o2 : IVec S1x1001 32) (h : ∀ d : Fin 1001, o2 (ix2 0 d) = o (ix1 d)) (d : Fin 1024) :
    endRow (F := Ideal) (srowC o2) (ix2 0 d) = BitVec.ofNat 32 (num o (d.val + 1)) := by
  unfold endRow
  pointwise
  refine (sel_eq _ _ _ _).trans ?_
  have i1 : BitVec.ofNat 32 d.val = 1023#32 ↔ d.val = 1023 := ofNat_inj (m := 1023) (by omega) (by omega)
  by_cases hd : d.val = 1023
  · refine (if_pos (i1.mpr hd)).trans ?_
    unfold num
    rw [dif_neg (by omega)]
  · refine (if_neg (fun h' => hd (i1.mp h'))).trans ?_
    refine (srowC_num o o2 h ⟨(d.val + 1024 - 1023) % 1024, by omega⟩).trans ?_
    congr 2
    show (d.val + 1024 - 1023) % 1024 = _
    omega

end Cert.KernelIdeal.MaxSim

end
-- ==== Proof.MaxSim.Scan.lean ====
/- The scan over the streams at the exact instance: the windows of doubling width. -/
module

public import proofs.«01_k».proof.Proof.MaxSim.Score
public import proofs.«01_k».proof.Proof.MaxSim.Stream
public import proofs.«01_k».proof.Proof.MaxSim.Values

@[expose] public section

set_option maxRecDepth 16384

noncomputable section

namespace Cert.KernelIdeal.MaxSim

open Cert.KernelIdeal
open Idealize.ShloMosaic Idealize.ShloMosaic.TcCoe
open Facts₀ Facts
open Idealize.ShloMosaic.Pointwise

/-- One half. -/
abbrev half : EReal := ((1 / 2 : ℝ) : EReal)

theorem sge_word : ∀ i W : Fin 128, IntOp.cmpi .sge (BitVec.ofNat 32 i.val) (BitVec.ofNat 32 W.val) = BitVec.ofBool (decide (W.val ≤ i.val)) := by
  decide +kernel

theorem andi_dec (a b : Prop) [Decidable a] [Decidable b] :
    IntOp.andi (BitVec.ofBool (decide a)) (BitVec.ofBool (decide b)) = BitVec.ofBool (decide (a ∧ b)) := by
  rw [WordArith.andi_ofBool]
  congr 1
  exact (Bool.decide_and a b).symm

theorem scanC_apply (W : Fin 128) (f c : FVec Ideal S128x128 .f32) (i L : Fin 128) :
    scanC (F := Ideal) (BitVec.ofNat 32 W.val) f c (ix2 i L)
      = if f (ix2 i L) < half ∧ W.val ≤ i.val then max (c (ix2 i L)) (c (ix2 ⟨i.val - W.val, by omega⟩ L)) else c (ix2 i L) := by
  unfold scanC takeMask rowsGe
  pointwise
  rw [sge_word, bits_half]
  have e := andi_dec ((f (ix2 i L) : EReal) < half) (W.val ≤ i.val)
  refine (congrArg (fun b => Scalar.select b _ _) e).trans ?_
  refine (sel_ofBool _ _ _).trans ?_
  by_cases h : (f (ix2 i L) : EReal) < half ∧ W.val ≤ i.val
  · rw [if_pos h]
    refine (if_pos (decide_eq_true h)).trans ?_
    congr 2
    have hW := h.2
    have hw : (BitVec.ofNat 32 W.val).toNat = W.val := by simp; omega
    funext a
    apply Fin.ext
    match a with
    | ⟨0, _⟩ =>
      show (i.val + 128 - (BitVec.ofNat 32 W.val).toNat % 128) % 128 = i.val - W.val
      rw [hw]; omega
    | ⟨1, _⟩ => rfl
  · rw [if_neg h]
    exact if_neg fun h' => h (of_decide_eq_true h')

theorem scanF_apply (W : Fin 128) (f : FVec Ideal S128x128 .f32) (i L : Fin 128) :
    scanF (F := Ideal) (BitVec.ofNat 32 W.val) f (ix2 i L)
      = if W.val ≤ i.val then max (f (ix2 i L)) (f (ix2 ⟨i.val - W.val, by omega⟩ L)) else f (ix2 i L) := by
  unfold scanF rowsGe
  pointwise
  rw [sge_word]
  refine (sel_ofBool _ _ _).trans ?_
  by_cases h : W.val ≤ i.val
  · rw [if_pos h]
    refine (if_pos (decide_eq_true h)).trans ?_
    congr 2
    have hw : (BitVec.ofNat 32 W.val).toNat = W.val := by simp; omega
    funext a
    apply Fin.ext
    match a with
    | ⟨0, _⟩ =>
      show (i.val + 128 - (BitVec.ofNat 32 W.val).toNat % 128) % 128 = i.val - W.val
      rw [hw]; omega
    | ⟨1, _⟩ => rfl
  · rw [if_neg h]
    exact if_neg fun h' => h (of_decide_eq_true h')

/-- The flags hold, for width `W`, whether some stream of the window is flagged. -/
def FlagsAt (P : ℕ → Prop) (L : Fin 128) (W : ℕ) (f : FVec Ideal S128x128 .f32) : Prop :=
  ∀ i : Fin 128, f (ix2 i L) < half ↔ ∀ i', i.val < i' + W → i' ≤ i.val → ¬ P i'

theorem flags_step (P : ℕ → Prop) (L W : Fin 128) (f : FVec Ideal S128x128 .f32) (h : FlagsAt P L W.val f) :
    FlagsAt P L (2 * W.val) (scanF (F := Ideal) (BitVec.ofNat 32 W.val) f) := by
  intro i
  rw [scanF_apply]
  by_cases hW : W.val ≤ i.val
  · rw [if_pos hW]
    refine max_lt_iff.trans ((and_congr (h i) (h ⟨i.val - W.val, by omega⟩)).trans ?_)
    constructor
    · rintro ⟨h1, h2⟩ i' hi hi'
      by_cases hx : i.val < i' + W.val
      · exact h1 i' hx hi'
      · exact h2 i' (show i.val - W.val < i' + W.val by omega) (show i' ≤ i.val - W.val by omega)
    · intro h1
      refine ⟨fun i' hi hi' => h1 i' (by omega) hi', fun i' hi hi' => ?_⟩
      have hi : i.val - W.val < i' + W.val := hi
      have hi' : i' ≤ i.val - W.val := hi'
      exact h1 i' (by omega) (by omega)
  · rw [if_neg hW]
    refine (h i).trans ?_
    constructor
    · intro h1 i' hi hi'; exact h1 i' (by omega) hi'
    · intro h1 i' hi hi'; exact h1 i' (by omega) hi'

theorem carry_step (P : ℕ → Prop) (A : ℕ → EReal) (L W : Fin 128) (f c : FVec Ideal S128x128 .f32) (h : FlagsAt P L W.val f)
    (hc : ∀ i : Fin 128, c (ix2 i L) = window A P W.val i.val) (i : Fin 128) :
    scanC (F := Ideal) (BitVec.ofNat 32 W.val) f c (ix2 i L) = window A P (2 * W.val) i.val := by
  rw [scanC_apply]
  by_cases hx : f (ix2 i L) < half ∧ W.val ≤ i.val
  · rw [if_pos hx, hc, hc]
    exact (window_take A P W.val i.val hx.2 ((h i).mp hx.1)).symm
  · rw [if_neg hx, hc]
    refine (window_keep A P W.val i.val ?_).symm
    by_cases hW : i.val < W.val
    · exact .inl hW
    · right
      have : ¬ f (ix2 i L) < half := fun hf => hx ⟨hf, by omega⟩
      rw [h i] at this
      push Not at this
      exact this

theorem scan_apply (P : ℕ → Prop) (A : ℕ → EReal) (L : Fin 128) (f c : FVec Ideal S128x128 .f32)
    (hf : ∀ i : Fin 128, f (ix2 i L) < half ↔ ¬ P i.val) (hc : ∀ i : Fin 128, c (ix2 i L) = A i.val) (i : Fin 128) :
    scan (F := Ideal) f c (ix2 i L) = window A P 128 i.val := by
  have f1 : FlagsAt P L 1 f := fun i => (hf i).trans
    ⟨fun h i' h1 h2 => by have : i' = i.val := by omega
                          rw [this]; exact h,
      fun h => h i.val (by omega) le_rfl⟩
  have c1 : ∀ i : Fin 128, c (ix2 i L) = window A P 1 i.val := fun i => (hc i).trans (window_one A P i.val).symm
  have f2 := flags_step P L 1 f f1
  have f4 := flags_step P L 2 _ f2
  have f8 := flags_step P L 4 _ f4
  have f16 := flags_step P L 8 _ f8
  have f32 := flags_step P L 16 _ f16
  have f64 := flags_step P L 32 _ f32
  have c2 := carry_step P A L 1 f c f1 c1
  have c4 := carry_step P A L 2 _ _ f2 c2
  have c8 := carry_step P A L 4 _ _ f4 c4
  have c16 := carry_step P A L 8 _ _ f8 c8
  have c32 := carry_step P A L 16 _ _ f16 c16
  have c64 := carry_step P A L 32 _ _ f32 c32
  exact carry_step P A L 64 _ _ f64 c64 i

/-- The flag of a stream is below one half exactly when all its codes are. -/
theorem flag0_lt (code : FVec Ideal S352x128 .f32) (i L : Fin 128) :
    flag0 (F := Ideal) code (ix2 i L) < half ↔ ∀ n : Fin 352, code (ix2 n i) < half := by
  unfold flag0
  pointwise
  rw [bits_neg_inf]
  refine (Finset.fold_max_lt half).trans ?_
  simp [EReal.bot_lt_coe]

end Cert.KernelIdeal.MaxSim

end
-- ==== Proof.MaxSim.Acc.lean ====
/- The running maxima of the streams at the exact instance. -/
module

public import proofs.«01_k».proof.Proof.MaxSim.Code
public import proofs.«01_k».proof.Proof.MaxSim.Scan

@[expose] public section

set_option maxRecDepth 16384

noncomputable section

namespace Cert.KernelIdeal.MaxSim

open Cert.KernelIdeal
open Idealize.ShloMosaic Idealize.ShloMosaic.TcCoe
open Facts₀ Facts
open Idealize.ShloMosaic.Pointwise

/-- The four words of token `t`, in the layout of four rows per 128 tokens. -/
def tokW (raw : IVec S5632x128 32) (t : ℕ) (w : Fin 4) : BitVec 32 :=
  raw (ix2 (⟨(4 * (t / 128) + w.val) % 5632, by omega⟩ : Fin 5632) (⟨t % 128, by omega⟩ : Fin 128))

/-- Token `t` against query row `i`. -/
def tokD (q : FVec Ideal S224x128 .bf16) (raw : IVec S5632x128 32) (i : Fin 224) (t : ℕ) : EReal :=
  dot2 (fun d => q (ix2 i d)) (tokW raw t)

theorem stepWordV_apply (k : Fin k0_t2_loop.trips) (w : Fin 4) (raw : IVec S5632x128 32) (r L : Fin 128) :
    stepWordV k w raw (ix2 r L) = tokW raw (1408 * L.val + 128 * k.val + r.val) w := by
  have hk : k.val < 11 := k.isLt.trans_eq trips2
  unfold stepWordV
  pointwise
  refine (rd2s (A := 5632) (B := 128) (m := 128) (n := 128) (p := 4 * k.val + w.val) (t := 44) _ (off25_eq k w) _ (fun i => by omega) le_rfl raw L r).trans ?_
  unfold tokW
  refine congrArg raw (funext fun a => Fin.ext ?_)
  match a with
  | ⟨0, _⟩ =>
    show 4 * k.val + w.val + 44 * L.val = (4 * ((1408 * L.val + 128 * k.val + r.val) / 128) + w.val) % 5632
    omega
  | ⟨1, _⟩ =>
    show r.val = (1408 * L.val + 128 * k.val + r.val) % 128
    omega

theorem tileV_apply (x : IVec S4x128x128 32) (r : ℕ) (hr : r < 128) (w : Fin 4) (s : Fin 8) (L : Fin 128) :
    tileV x r hr w (ix2 s L) = x (ix3 w ⟨r, hr⟩ L) := by
  unfold tileV
  match w with
  | ⟨0, _⟩ => exact rowV_apply x 0 r _ hr s L
  | ⟨1, _⟩ => exact rowV_apply x 1 r _ hr s L
  | ⟨2, _⟩ => exact rowV_apply x 2 r _ hr s L
  | ⟨3, _⟩ => exact rowV_apply x 3 r _ hr s L

theorem wtC_bits (k : Fin k0_t2_loop.trips) (raw : IVec S5632x128 32) (w : Fin 4) (r L : Fin 128) :
    wtC k raw (ix3 w r L) = tokW raw (1408 * L.val + 128 * k.val + r.val) w := stepWordV_apply k w raw r L

theorem codeRow_apply (k : Fin k0_t2_loop.trips) (g : Fin 32) (code : FVec Ideal S352x128 .f32) (L : Fin 128) (n : Fin 352)
    (hn : n.val = 32 * k.val + g.val) : codeRow k g code (ix2 0 L) = code (ix2 n L) := by
  unfold codeRow
  refine (rd2 (A := 352) (B := 128) (m := 1) (n := 128) (p := 32 * k.val + g.val) (q := 0) _ (off26_eq k g) _ code 0 L).trans ?_
  refine congrArg code (funext fun a => Fin.ext ?_)
  match a with
  | ⟨0, _⟩ => exact hn.symm
  | ⟨1, _⟩ => show 0 + L.val = L.val; omega

theorem dropMask_apply (code : FVec Ideal S1x128 .f32) (b : BitVec 32) (s : Fin 8) (L : Fin 128) :
    dropMask (F := Ideal) code b (ix2 s L) = BitVec.ofBool (decide (Ideal.ofBits .f32 b < code (ix2 0 L))) := by
  unfold dropMask
  pointwise

theorem accNext_apply (code : FVec Ideal S1x128 .f32) (acc y : FVec Ideal S224x128 .f32) (i : Fin 224) (L : Fin 128) :
    accNext (F := Ideal) code acc y (ix2 i L) = max (if half < code (ix2 0 L) then ⊥ else acc (ix2 i L)) (y (ix2 i L)) := by
  unfold accNext
  pointwise
  rw [bits_half, bits_neg_inf]

theorem lt_nat (a : ℝ) (c : ℕ) : ((a : EReal) < ((c : ℝ) : EReal)) ↔ a < c := EReal.coe_lt_coe_iff

theorem half_lt (c : ℕ) : (half < ((c : ℝ) : EReal)) ↔ 1 ≤ c := by
  rw [lt_nat]
  constructor
  · intro h; by_contra hc; interval_cases c; norm_num at h
  · intro h
    have : (1 : ℝ) ≤ c := by exact_mod_cast h
    linarith

theorem lt_half (c : ℕ) : (((c : ℝ) : EReal) < half) ↔ c = 0 := by
  rw [EReal.coe_lt_coe_iff]
  constructor
  · intro h; by_contra hc
    have : (1 : ℝ) ≤ c := by exact_mod_cast Nat.one_le_iff_ne_zero.mpr hc
    linarith
  · rintro rfl; norm_num

theorem nat_half (k c : ℕ) : (((k : ℝ) + 1 / 2 : ℝ) : EReal) < ((c : ℝ) : EReal) ↔ k + 1 ≤ c := by
  rw [lt_nat]
  constructor
  · intro h; by_contra hc
    have : (c : ℝ) ≤ k := by exact_mod_cast Nat.lt_succ_iff.mp (not_le.mp hc)
    linarith
  · intro h
    have : ((k + 1 : ℕ) : ℝ) ≤ c := by exact_mod_cast h
    push_cast at this
    linarith

theorem groupY_apply (q : FVec Ideal S224x128 .bf16) (raw : IVec S5632x128 32) (k : Fin k0_t2_loop.trips) (g : Fin 32)
    (code : FVec Ideal S1x128 .f32) (i : Fin 224) (L : Fin 128) (c : ℕ) (hc : code (ix2 0 L) = ((c : ℝ) : EReal)) (hc4 : c ≤ 4) :
    groupY (F := Ideal) (permQ q) code (wtC k raw) g (ix2 i L)
      = top (tokD q raw i) (4 * (352 * L.val + (32 * k.val + g.val)) + (c - 1)) (4 * (352 * L.val + (32 * k.val + g.val)) + 4) := by
  have hg := g.isLt
  have tok : ∀ (j : ℕ) (hj : 4 * g.val + j < 128) (p : Fin 4) (s : Fin 8), tileV (wtC k raw) (4 * g.val + j) hj p (ix2 s L)
      = tokW raw (4 * (352 * L.val + (32 * k.val + g.val)) + j) p := fun j hj p s => by
    rw [tileV_apply, wtC_bits]
    congr 1
    show 1408 * L.val + 128 * k.val + (4 * g.val + j) = _
    omega
  have sel : ∀ (b : BitVec 32) (m : ℕ) (hb : Ideal.ofBits .f32 b < ((c : ℝ) : EReal) ↔ m ≤ c) (j : ℕ) (hj : 4 * g.val + j < 128) (p : Fin 4) (s : Fin 8),
      select (dropMask (F := Ideal) code b) (tileV (wtC k raw) (4 * g.val + 3) (by omega) p) (tileV (wtC k raw) (4 * g.val + j) hj p) (ix2 s L)
        = (if m ≤ c then tokW raw (4 * (352 * L.val + (32 * k.val + g.val)) + 3) else tokW raw (4 * (352 * L.val + (32 * k.val + g.val)) + j)) p := by
    intro b m hb j hj p s
    show Scalar.select _ _ _ = _
    rw [dropMask_apply, sel_ofBool, hc, tok, tok]
    by_cases h : m ≤ c
    · rw [if_pos h, if_pos (decide_eq_true (hb.mpr h))]
    · rw [if_neg h, if_neg fun h' => h (hb.mp (of_decide_eq_true h'))]
  have e1 : ∀ b, b = 0x3FC00000#32 → (Ideal.ofBits .f32 b < ((c : ℝ) : EReal) ↔ 2 ≤ c) := by
    rintro b rfl; rw [bits_three_halves, ← nat_half 1 c]; norm_num
  have e2 : ∀ b, b = 0x40200000#32 → (Ideal.ofBits .f32 b < ((c : ℝ) : EReal) ↔ 3 ≤ c) := by
    rintro b rfl; rw [bits_five_halves, ← nat_half 2 c]; norm_num
  have e3 : ∀ b, b = 0x40600000#32 → (Ideal.ofBits .f32 b < ((c : ℝ) : EReal) ↔ 4 ≤ c) := by
    rintro b rfl; rw [bits_seven_halves, ← nat_half 3 c]; norm_num
  unfold groupY
  refine (score_apply q _ _ _ _ _ _ _ _ i L (sel _ 2 (e1 _ rfl) 0 (by omega)) (sel _ 3 (e2 _ rfl) 1 (by omega)) (sel _ 4 (e3 _ rfl) 2 (by omega))
    (tok 3 (by omega))).trans ?_
  rw [← top_group (tokD q raw i) _ c hc4]
  unfold tokD
  simp only [apply_ite (dot2 fun d => q (ix2 i d)), Nat.add_zero]

/-- The running maximum after `n` groups. -/
theorem accN_apply (q : FVec Ideal S224x128 .bf16) (raw : IVec S5632x128 32) (code : FVec Ideal S352x128 .f32) (S : ℕ → ℕ)
    (hcode : ∀ (n : Fin 352) (L : Fin 128), code (ix2 n L) = ((cod S (352 * L.val + n.val) : ℕ) : ℝ)) (i : Fin 224) (L : Fin 128) (n : ℕ) (hn : n ≤ 352) :
    accN (F := Ideal) (permQ q) code raw n (ix2 i L) = runMax (tokD q raw i) S (352 * L.val) n := by
  induction n with
  | zero =>
    show negAcc (F := Ideal) (ix2 i L) = ⊥
    unfold negAcc
    pointwise
    exact bits_neg_inf
  | succ n ih =>
    have hk : (stepIx n).val = n / 32 := by show n / 32 % 11 = _; omega
    have hg : (grpIx n).val = n % 32 := rfl
    have hm : 32 * (stepIx n).val + (grpIx n).val = n := by rw [hk, hg]; omega
    have hc : codeRow (F := Ideal) (stepIx n) (grpIx n) code (ix2 0 L) = (((cod S (352 * L.val + n) : ℕ) : ℝ) : EReal) := by
      rw [codeRow_apply _ _ code L ⟨n, by omega⟩ hm.symm, hcode]
    show groupN (F := Ideal) (permQ q) (stepIx n) (grpIx n) code (wtC (stepIx n) raw) (accN (F := Ideal) (permQ q) code raw n) (ix2 i L) = _
    unfold groupN
    rw [accNext_apply, groupY_apply q raw (stepIx n) (grpIx n) _ i L _ hc (cod_le S _), hc, hm]
    show max (if half < _ then ⊥ else rd rAcc.toLoadRect _ (ix2 i L)) _ = max (if _ then _ else ⊥) _
    rw [show rd rAcc.toLoadRect (accN (F := Ideal) (permQ q) code raw n) = accN (F := Ideal) (permQ q) code raw n from rd_full _ _, ih (by omega)]
    by_cases h : cod S (352 * L.val + n) = 0
    · rw [if_pos h, if_neg (by rw [half_lt]; omega)]
    · rw [if_neg h, if_pos (by rw [half_lt]; omega)]

end Cert.KernelIdeal.MaxSim

end
-- ==== Proof.MaxSim.Before.lean ====
/- A document's maximum from its last group and its earlier groups. -/
module

public import proofs.«01_k».proof.Proof.MaxSim.Stream
public import proofs.«01_k».proof.Proof.MaxSim.Words

@[expose] public section

noncomputable section

namespace Cert.KernelIdeal.MaxSim

/-- Some document starts in stream `L`. -/
def flagged (S : ℕ → ℕ) (L : ℕ) : Prop := ∃ n, n < 352 ∧ cod S (352 * L + n) ≠ 0

/-- The running maximum at a stream's end. -/
def streamEnd (D : ℕ → EReal) (S : ℕ → ℕ) (L : ℕ) : EReal := runMax D S (352 * L) 352

/-- What the kernel gathers for a document from `a` to `b`: the running maximum before its last group, and the carry into its stream. -/
def before (D : ℕ → EReal) (S : ℕ → ℕ) (a b : ℕ) : EReal :=
  max (if hasBefore a b then runMax D S (352 * (((b - 1) / 4 - 1) / 352)) (((b - 1) / 4 - 1) % 352 + 1) else ⊥)
    (if hasBefore a b ∧ a / 4 / 352 < ((b - 1) / 4 - 1) / 352 then window (streamEnd D S) (flagged S) 128 (((b - 1) / 4 - 1) / 352 - 1) else ⊥)

theorem top_congr (D : ℕ → EReal) {a b a' b' : ℕ} (ha : a = a') (hb : b = b') : top D a b = top D a' b' := by rw [ha, hb]

theorem before_not (D : ℕ → EReal) (S : ℕ → ℕ) (a b : ℕ) (h : ¬ hasBefore a b) : before D S a b = ⊥ := by
  unfold before
  rw [if_neg h, if_neg (fun h' => h h'.1)]
  exact bot_sup_eq _

theorem before_eq (D : ℕ → EReal) (S : ℕ → ℕ) (hm : Monotone S) (hS : ∀ d, S d ≤ 180224) (d : ℕ) (hd : d < 1024) (h : hasBefore (S d) (S (d + 1))) :
    before D S (S d) (S (d + 1)) = top D (S d) (4 * ((S (d + 1) - 1) / 4)) := by
  have hab := hm (show d ≤ d + 1 by omega)
  have hb := hS (d + 1)
  have h' : S d / 4 < (S (d + 1) - 1) / 4 := h
  have hcod : cod S (S d / 4) = S d % 4 + 1 := cod_of hm hd rfl (by omega)
  have hzero : ∀ G, S d / 4 < G → G < (S (d + 1) - 1) / 4 → cod S G = 0 := by
    intro G h1 h2
    refine cod_zero fun d' _ he => ?_
    by_cases hl : d' ≤ d
    · have := hm hl
      omega
    · have := hm (show d + 1 ≤ d' by omega)
      omega
  unfold before
  rw [if_pos h]
  generalize hgl : (S (d + 1) - 1) / 4 = gl at *
  generalize hgs : S d / 4 = gs at *
  have hgl' : gl ≤ 45056 := by omega
  by_cases hs : gs / 352 < (gl - 1) / 352
  · rw [if_pos ⟨h, hs⟩]
    have e1 : runMax D S (352 * ((gl - 1) / 352)) ((gl - 1) % 352 + 1) = top D (1408 * ((gl - 1) / 352)) (4 * gl) := by
      rw [runMax_whole D S _ _ (fun i hi => hzero _ (by omega) (by omega))]
      exact top_congr D (by omega) (by omega)
    have e2 : window (streamEnd D S) (flagged S) 128 ((gl - 1) / 352 - 1) = top D (S d) (1408 * ((gl - 1) / 352 - 1 + 1)) := by
      refine window_run D _ _ 128 ((gl - 1) / 352 - 1) (gs / 352) (S d) (by omega) (by omega) ?_ ?_ (by omega) ?_ ?_
      · refine ⟨gs % 352, by omega, ?_⟩
        rw [show 352 * (gs / 352) + gs % 352 = gs by omega, hcod]
        omega
      · rintro i h1 h2 ⟨n, hn, hne⟩
        exact hne (hzero _ (by omega) (by omega))
      · show runMax D S (352 * (gs / 352)) (351 + 1) = _
        rw [runMax_from D S (352 * (gs / 352)) (gs % 352) 351 (by omega)]
        · rw [show 352 * (gs / 352) + gs % 352 = gs by omega, hcod]
          exact top_congr D (by omega) (by omega)
        · rw [show 352 * (gs / 352) + gs % 352 = gs by omega, hcod]
          omega
        · intro i h1 h2
          exact hzero _ (by omega) (by omega)
      · intro i h1 h2
        show runMax D S (352 * i) 352 = _
        rw [runMax_whole D S _ _ (fun n hn => hzero _ (by omega) (by omega))]
        exact top_congr D (by omega) (by omega)
    rw [e1, e2, max_comm, show (gl - 1) / 352 - 1 + 1 = (gl - 1) / 352 by omega]
    exact top_cat D (by omega) (by omega)
  · rw [if_neg (fun hh => hs hh.2), max_bot_right]
    have e : (gl - 1) / 352 = gs / 352 := by omega
    rw [e, runMax_from D S (352 * (gs / 352)) (gs % 352) ((gl - 1) % 352) (by omega)]
    · rw [show 352 * (gs / 352) + gs % 352 = gs by omega, hcod]
      exact top_congr D (by omega) (by omega)
    · rw [show 352 * (gs / 352) + gs % 352 = gs by omega, hcod]
      omega
    · intro i h1 h2
      exact hzero _ (by omega) (by omega)

/-- The last group's part: tokens outside the document are replaced by its last. -/
theorem top_own (D : ℕ → EReal) (a b A : ℕ) (hab : a < b) (h1 : A ≤ b - 1) (h2 : b - 1 < A + 4) :
    max (max (if a ≤ A + 0 ∧ A + 0 ≤ b - 1 then D (A + 0) else D (b - 1)) (if a ≤ A + 1 ∧ A + 1 ≤ b - 1 then D (A + 1) else D (b - 1)))
      (max (if a ≤ A + 2 ∧ A + 2 ≤ b - 1 then D (A + 2) else D (b - 1)) (if a ≤ A + 3 ∧ A + 3 ≤ b - 1 then D (A + 3) else D (b - 1)))
      = top D (max a A) b := by
  have piece : ∀ j, (if a ≤ A + j ∧ A + j ≤ b - 1 then D (A + j) else D (b - 1)) ≤ top D (max a A) b := by
    intro j
    split
    · exact le_top D (by omega) (by omega)
    · exact le_top D (by omega) (by omega)
  refine le_antisymm (max_le (max_le (piece 0) (piece 1)) (max_le (piece 2) (piece 3))) (top_le D fun t ht ht' => ?_)
  obtain ⟨j, hj, rfl⟩ : ∃ j, j < 4 ∧ t = A + j := ⟨t - A, by omega, by omega⟩
  have hc : a ≤ A + j ∧ A + j ≤ b - 1 := by omega
  have hp : D (A + j) = if a ≤ A + j ∧ A + j ≤ b - 1 then D (A + j) else D (b - 1) := (if_pos hc).symm
  rw [hp]
  interval_cases j
  · exact le_max_of_le_left (le_max_left _ _)
  · exact le_max_of_le_left (le_max_right _ _)
  · exact le_max_of_le_right (le_max_left _ _)
  · exact le_max_of_le_right (le_max_right _ _)

/-- Both parts together. -/
theorem top_doc (D : ℕ → EReal) (S : ℕ → ℕ) (hm : Monotone S) (hS : ∀ d, S d ≤ 180224) (d : ℕ) (hd : d < 1024) (h : S d < S (d + 1)) :
    max (top D (max (S d) (4 * ((S (d + 1) - 1) / 4))) (S (d + 1))) (before D S (S d) (S (d + 1))) = top D (S d) (S (d + 1)) := by
  by_cases hb : hasBefore (S d) (S (d + 1))
  · have h' : S d / 4 < (S (d + 1) - 1) / 4 := hb
    have hab := hm (show d ≤ d + 1 by omega)
    have e : max (S d) (4 * ((S (d + 1) - 1) / 4)) = 4 * ((S (d + 1) - 1) / 4) := max_eq_right (by omega)
    rw [before_eq D S hm hS d hd hb, e, max_comm]
    exact top_cat D (by omega) (by omega)
  · have h' : ¬ S d / 4 < (S (d + 1) - 1) / 4 := hb
    have e : max (S d) (4 * ((S (d + 1) - 1) / 4)) = S d := max_eq_left (by omega)
    rw [before_not D S _ _ hb, max_bot_right, e]

end Cert.KernelIdeal.MaxSim

end
-- ==== Proof.MaxSim.Gather.lean ====
/- What the kernel gathers for each document, at the exact instance. -/
module

public import proofs.«01_k».proof.Proof.MaxSim.Acc
public import proofs.«01_k».proof.Proof.MaxSim.Before

@[expose] public section

set_option maxRecDepth 16384

noncomputable section

namespace Cert.KernelIdeal.MaxSim

open Cert.KernelIdeal
open Idealize.ShloMosaic Idealize.ShloMosaic.TcCoe
open Facts₀ Facts
open Idealize.ShloMosaic.Pointwise

/-- The codes of the groups are the numbers `cod`. -/
def CodeIs (code : FVec Ideal S352x128 .f32) (S : ℕ → ℕ) : Prop :=
  ∀ (n : Fin 352) (L : Fin 128), code (ix2 n L) = ((cod S (352 * L.val + n.val) : ℕ) : ℝ)

theorem topT_apply (a : FVec Ideal S224x128 .f32) (L i : Fin 128) : topT (F := Ideal) a (ix2 L i) = a (ix2 ⟨i.val, by omega⟩ L) := by
  unfold topT
  pointwise

theorem botT_apply (a : FVec Ideal S224x128 .f32) (L : Fin 128) (i : Fin 96) : botT (F := Ideal) a (ix2 L i) = a (ix2 ⟨128 + i.val, by omega⟩ L) := by
  unfold botT
  pointwise

theorem widen_apply (v : FVec Ideal S128x96 .f32) (L : Fin 128) (i : Fin 96) : widen (F := Ideal) v (ix2 L ⟨i.val, by omega⟩) = v (ix2 L i) := by
  unfold widen
  pointwise

theorem flag_lt (code : FVec Ideal S352x128 .f32) (S : ℕ → ℕ) (hc : CodeIs code S) (L j : Fin 128) :
    flag0 (F := Ideal) code (ix2 L j) < half ↔ ¬ flagged S L.val := by
  rw [flag0_lt]
  unfold flagged
  push Not
  constructor
  · intro h n hn
    have := h ⟨n, hn⟩
    rw [hc, lt_half] at this
    exact this
  · intro h n
    rw [hc, lt_half]
    exact h n.val n.isLt

/-- The carry at stream `L`. -/
theorem carry0 (q : FVec Ideal S224x128 .bf16) (raw : IVec S5632x128 32) (code : FVec Ideal S352x128 .f32) (S : ℕ → ℕ) (hc : CodeIs code S) (L i : Fin 128) :
    scan (F := Ideal) (flag0 code) (topT (accN (F := Ideal) (permQ q) code raw 352)) (ix2 L i)
      = window (streamEnd (tokD q raw ⟨i.val, by omega⟩) S) (flagged S) 128 L.val :=
  scan_apply (flagged S) _ i _ _ (fun L => flag_lt code S hc L i)
    (fun L => (topT_apply _ L i).trans (accN_apply q raw code S hc _ L 352 le_rfl)) L

theorem carry1 (q : FVec Ideal S224x128 .bf16) (raw : IVec S5632x128 32) (code : FVec Ideal S352x128 .f32) (S : ℕ → ℕ) (hc : CodeIs code S) (L : Fin 128) (i : Fin 96) :
    scan (F := Ideal) (flag0 code) (widen (botT (accN (F := Ideal) (permQ q) code raw 352))) (ix2 L ⟨i.val, by omega⟩)
      = window (streamEnd (tokD q raw ⟨128 + i.val, by omega⟩) S) (flagged S) 128 L.val :=
  scan_apply (flagged S) _ ⟨i.val, by omega⟩ _ _ (fun L => flag_lt code S hc L _)
    (fun L => (widen_apply _ L i).trans ((botT_apply _ L i).trans (accN_apply q raw code S hc _ L 352 le_rfl))) L

/-- The word at an offset. -/
theorem word_apply (o : IVec S1001 32) (off : Fin 1 → ℕ) (h) (p : ℕ) (hp : p < 1001) (hoff : off = ![p]) : word o off h = o (ix1 ⟨p, hp⟩) := by
  subst hoff
  unfold word
  refine congrArg o (funext fun a => Fin.ext ?_)
  match a with
  | ⟨0, _⟩ =>
    show p + 1 * _ = p
    rfl

theorem word_num (o : IVec S1001 32) (off : Fin 1 → ℕ) (h) (p : ℕ) (hp : p < 1001) (hoff : off = ![p]) : word o off h = W (num o p) := by
  rw [word_apply o off h p hp hoff]
  unfold num
  rw [dif_pos hp]
  exact eq_W _

theorem startW_num (o : IVec S1001 32) (k : Fin k0_t3_loop.trips) (b : Fin 8) (d : ℕ) (hd : d < 1000) (hkb : 8 * k.val + b.val = d) :
    startW k b o = W (num o d) :=
  word_num o _ _ d (by omega) ((startOff_eq k b).trans (by rw [hkb, min_eq_left (by omega)]))

theorem stopW_num (o : IVec S1001 32) (k : Fin k0_t3_loop.trips) (b : Fin 8) (d : ℕ) (hd : d < 1000) (hkb : 8 * k.val + b.val = d) :
    stopW k b o = W (num o (d + 1)) :=
  word_num o _ _ (d + 1) (by omega) ((stopOff_eq k b).trans (by rw [hkb, min_eq_left (by omega)]))

theorem s0C_val (q : FVec Ideal S224x128 .bf16) (raw : IVec S5632x128 32) (code : FVec Ideal S352x128 .f32) (S : ℕ → ℕ) (hc : CodeIs code S)
    (a b : ℕ) (R : Fin 45064) (hR : R.val = rowIx a b) (hb : b ≤ 180224) (j i : Fin 128) (hj : j.val = i.val) :
    s0C (F := Ideal) (permQ q) code raw (ix2 R j)
      = if hasBefore a b then runMax (tokD q raw ⟨i.val, by omega⟩) S (352 * (((b - 1) / 4 - 1) / 352)) (((b - 1) / 4 - 1) % 352 + 1) else ⊥ := by
  cases (Fin.ext hj : j = i)
  obtain ⟨R, hlt⟩ := R
  have hr : R = if hasBefore a b then ((b - 1) / 4 - 1) % 352 * 128 + ((b - 1) / 4 - 1) / 352 else 45056 := hR
  by_cases hh : hasBefore a b
  · rw [if_pos hh] at hr ⊢
    have e1 : R / 128 = ((b - 1) / 4 - 1) % 352 := by omega
    have e2 : R % 128 = ((b - 1) / 4 - 1) / 352 := by omega
    have h2 : R < 45056 := by omega
    rw [← e1, ← e2]
    refine (s0C_in _ _ _ ⟨R, hlt⟩ _ h2).trans ?_
    refine (topT_apply _ _ _).trans ?_
    exact accN_apply q raw code S hc _ _ _ (show R / 128 + 1 ≤ 352 by omega)
  · rw [if_neg hh] at hr ⊢
    exact (s0C_out _ _ _ ⟨R, hlt⟩ _ (show ¬ R < 45056 by omega)).trans bits_neg_inf

theorem s1C_val (q : FVec Ideal S224x128 .bf16) (raw : IVec S5632x128 32) (code : FVec Ideal S352x128 .f32) (S : ℕ → ℕ) (hc : CodeIs code S)
    (a b : ℕ) (R : Fin 45064) (hR : R.val = rowIx a b) (hb : b ≤ 180224) (j i : Fin 96) (hj : j.val = i.val) :
    s1C (F := Ideal) (permQ q) code raw (ix2 R j)
      = if hasBefore a b then runMax (tokD q raw ⟨128 + i.val, by omega⟩) S (352 * (((b - 1) / 4 - 1) / 352)) (((b - 1) / 4 - 1) % 352 + 1) else ⊥ := by
  cases (Fin.ext hj : j = i)
  obtain ⟨R, hlt⟩ := R
  have hr : R = if hasBefore a b then ((b - 1) / 4 - 1) % 352 * 128 + ((b - 1) / 4 - 1) / 352 else 45056 := hR
  by_cases hh : hasBefore a b
  · rw [if_pos hh] at hr ⊢
    have e1 : R / 128 = ((b - 1) / 4 - 1) % 352 := by omega
    have e2 : R % 128 = ((b - 1) / 4 - 1) / 352 := by omega
    have h2 : R < 45056 := by omega
    rw [← e1, ← e2]
    refine (s1C_in _ _ _ ⟨R, hlt⟩ _ h2).trans ?_
    refine (botT_apply _ _ _).trans ?_
    exact accN_apply q raw code S hc _ _ _ (show R / 128 + 1 ≤ 352 by omega)
  · rw [if_neg hh] at hr ⊢
    exact (s1C_out _ _ _ ⟨R, hlt⟩ _ (show ¬ R < 45056 by omega)).trans bits_neg_inf

theorem c0C_val (q : FVec Ideal S224x128 .bf16) (raw : IVec S5632x128 32) (code : FVec Ideal S352x128 .f32) (S : ℕ → ℕ) (hc : CodeIs code S)
    (a b : ℕ) (R : Fin 136) (hR : R.val = carryIx a b) (hb : b ≤ 180224) (j : Fin 128) (i : Fin 128) (hj : j.val = i.val) :
    c0C (F := Ideal) (permQ q) code raw (ix2 R j)
      = if hasBefore a b ∧ a / 4 / 352 < ((b - 1) / 4 - 1) / 352 then
          window (streamEnd (tokD q raw ⟨i.val, by omega⟩) S) (flagged S) 128 (((b - 1) / 4 - 1) / 352 - 1) else ⊥ := by
  obtain ⟨j, hlj⟩ := j
  obtain rfl : j = i.val := hj
  obtain ⟨R, hlt⟩ := R
  have hr : R = if hasBefore a b ∧ a / 4 / 352 < ((b - 1) / 4 - 1) / 352 then ((b - 1) / 4 - 1) / 352 - 1 else 128 := hR
  by_cases hh : hasBefore a b ∧ a / 4 / 352 < ((b - 1) / 4 - 1) / 352
  · rw [if_pos hh] at hr ⊢
    have h2 : R < 128 := by omega
    rw [← hr]
    refine (c0C_in _ _ _ ⟨R, hlt⟩ _ h2).trans ?_
    exact carry0 q raw code S hc ⟨R, h2⟩ i
  · rw [if_neg hh] at hr ⊢
    exact (c0C_out _ _ _ ⟨R, hlt⟩ _ (show ¬ R < 128 by omega)).trans bits_neg_inf

theorem c1C_val (q : FVec Ideal S224x128 .bf16) (raw : IVec S5632x128 32) (code : FVec Ideal S352x128 .f32) (S : ℕ → ℕ) (hc : CodeIs code S)
    (a b : ℕ) (R : Fin 136) (hR : R.val = carryIx a b) (hb : b ≤ 180224) (j : Fin 128) (i : Fin 96) (hj : j.val = i.val) :
    c1C (F := Ideal) (permQ q) code raw (ix2 R j)
      = if hasBefore a b ∧ a / 4 / 352 < ((b - 1) / 4 - 1) / 352 then
          window (streamEnd (tokD q raw ⟨128 + i.val, by omega⟩) S) (flagged S) 128 (((b - 1) / 4 - 1) / 352 - 1) else ⊥ := by
  obtain ⟨j, hlj⟩ := j
  obtain rfl : j = i.val := hj
  obtain ⟨R, hlt⟩ := R
  have hr : R = if hasBefore a b ∧ a / 4 / 352 < ((b - 1) / 4 - 1) / 352 then ((b - 1) / 4 - 1) / 352 - 1 else 128 := hR
  by_cases hh : hasBefore a b ∧ a / 4 / 352 < ((b - 1) / 4 - 1) / 352
  · rw [if_pos hh] at hr ⊢
    have h2 : R < 128 := by omega
    rw [← hr]
    refine (c1C_in _ _ _ ⟨R, hlt⟩ _ h2).trans ?_
    exact carry1 q raw code S hc ⟨R, h2⟩ i
  · rw [if_neg hh] at hr ⊢
    exact (c1C_out _ _ _ ⟨R, hlt⟩ _ (show ¬ R < 128 by omega)).trans bits_neg_inf

theorem m0C_apply (o : IVec S1001 32) (hin : ∀ y, (o y).toNat ≤ 180224) (ho : Checks o) (q : FVec Ideal S224x128 .bf16) (raw : IVec S5632x128 32)
    (code : FVec Ideal S352x128 .f32) (hc : CodeIs code (num o)) (d : Fin 1024) (hd : d.val < 1000) (i : Fin 128) :
    m0C (F := Ideal) o ho (s0C (permQ q) code raw) (c0C (permQ q) code raw) (ix2 d i)
      = before (tokD q raw ⟨i.val, by omega⟩) (num o) (num o d.val) (num o (d.val + 1)) := by
  have ha := num_le o hin d.val
  have hb := num_le o hin (d.val + 1)
  have hkb : 8 * (d.val / 8) + d.val % 8 = d.val := by omega
  show docV0 (F := Ideal) (⟨d.val / 8, _⟩ : Fin k0_t3_loop.trips) (⟨d.val % 8, _⟩ : Fin 8) o ho _ _ (ix2 (0 : Fin 1) i) = _
  unfold docV0
  show max _ _ = _
  unfold before
  congr 1
  · refine (rd2 (A := 45064) (B := 128) (m := 1) (n := 128) (p := rowIx (num o d.val) (num o (d.val + 1))) (q := 0) _ ?_ _ _ 0 i).trans ?_
    · rw [startW_num o _ _ d.val hd hkb, stopW_num o _ _ d.val hd hkb, off31_eq _ _ ha hb]
    · exact s0C_val q raw code (num o) hc _ _ _ (Nat.add_zero _) hb _ i (Nat.zero_add _)
  · refine (rd2 (A := 136) (B := 128) (m := 1) (n := 128) (p := carryIx (num o d.val) (num o (d.val + 1))) (q := 0) _ ?_ _ _ 0 i).trans ?_
    · rw [startW_num o _ _ d.val hd hkb, stopW_num o _ _ d.val hd hkb, off32_eq _ _ ha hb]
    · exact c0C_val q raw code (num o) hc _ _ _ (Nat.add_zero _) hb _ i (Nat.zero_add _)

theorem m1C_apply (o : IVec S1001 32) (hin : ∀ y, (o y).toNat ≤ 180224) (ho : Checks o) (q : FVec Ideal S224x128 .bf16) (raw : IVec S5632x128 32)
    (code : FVec Ideal S352x128 .f32) (hc : CodeIs code (num o)) (d : Fin 1024) (hd : d.val < 1000) (i : Fin 96) :
    m1C (F := Ideal) o ho (s1C (permQ q) code raw) (c1C (permQ q) code raw) (ix2 d i)
      = before (tokD q raw ⟨128 + i.val, by omega⟩) (num o) (num o d.val) (num o (d.val + 1)) := by
  have ha := num_le o hin d.val
  have hb := num_le o hin (d.val + 1)
  have hkb : 8 * (d.val / 8) + d.val % 8 = d.val := by omega
  show docV1 (F := Ideal) (⟨d.val / 8, _⟩ : Fin k0_t3_loop.trips) (⟨d.val % 8, _⟩ : Fin 8) o ho _ _ (ix2 (0 : Fin 1) i) = _
  unfold docV1
  show max _ _ = _
  unfold before
  congr 1
  · refine (rd2 (A := 45064) (B := 96) (m := 1) (n := 96) (p := rowIx (num o d.val) (num o (d.val + 1))) (q := 0) _ ?_ _ _ 0 i).trans ?_
    · rw [startW_num o _ _ d.val hd hkb, stopW_num o _ _ d.val hd hkb, off34_eq _ _ ha hb]
    · exact s1C_val q raw code (num o) hc _ _ _ (Nat.add_zero _) hb _ i (Nat.zero_add _)
  · refine (rd2 (A := 136) (B := 128) (m := 1) (n := 96) (p := carryIx (num o d.val) (num o (d.val + 1))) (q := 0) _ ?_ _ _ 0 i).trans ?_
    · rw [startW_num o _ _ d.val hd hkb, stopW_num o _ _ d.val hd hkb, off35_eq _ _ ha hb]
    · exact c1C_val q raw code (num o) hc _ _ _ (Nat.add_zero _) hb _ i (Nat.zero_add _)

end Cert.KernelIdeal.MaxSim

end
-- ==== Proof.MaxSim.Own.lean ====
/- The part of a document in its last group, and a block's results, at the exact instance. -/
module

public import proofs.«01_k».proof.Proof.MaxSim.Gather

@[expose] public section

set_option maxRecDepth 16384

noncomputable section

namespace Cert.KernelIdeal.MaxSim

open Cert.KernelIdeal
open Idealize.ShloMosaic Idealize.ShloMosaic.TcCoe
open Facts₀ Facts
open Idealize.ShloMosaic.Pointwise

/-! ## Words -/

theorem W_eq (a b : ℕ) (ha : a < 2 ^ 32) (hb : b < 2 ^ 32) : IntOp.cmpi .eq (W a) (W b) = BitVec.ofBool (decide (a = b)) := by
  show BitVec.ofBool (W a == W b) = _
  congr 1
  rw [Bool.eq_iff_iff, beq_iff_eq, decide_eq_true_iff]
  exact ofNat_inj ha hb

/-- A difference of small numbers, which may be negative, against a small number. -/
theorem sub_sle (a c j : ℕ) (ha : a < 2 ^ 30) (hc : c < 2 ^ 30) (hj : j < 2 ^ 30) :
    IntOp.cmpi .sle (IntOp.subi (W a) (W c)) (W j) = BitVec.ofBool (decide (a ≤ c + j)) := by
  show BitVec.ofBool ((W a - W c).sle (W j)) = _
  have e : (W a - W c).toInt = (a : ℤ) - c := by
    rw [BitVec.toInt_sub, W_toInt a (by omega), W_toInt c (by omega)]
    exact Int.bmod_eq_of_le (by omega) (by omega)
  rw [BitVec.sle, e, W_toInt j (by omega)]
  congr 1
  rw [decide_eq_decide]
  omega

/-- A group's first token. -/
theorem last4 (u v : ArithUnit) (b : ℕ) (hb : b < 2 ^ 30) (h : 0 < b) :
    IntOp.shli v (IntOp.shrsi u (IntOp.subi (W b) (W 1)) (W 2)) (W 2) = W (4 * ((b - 1) / 4)) := by
  rw [W_sub _ _ (by omega), W_shr _ _ _ (by omega) (by omega)]
  unfold IntOp.shli
  rw [if_pos (by decide)]
  apply BitVec.eq_of_toNat_eq
  rw [BitVec.shiftLeft_eq', BitVec.toNat_shiftLeft, W_toNat ((b - 1) / 2 ^ 2) (by omega), W_toNat (4 * ((b - 1) / 4)) (by omega), W_toNat 2 (by omega), Nat.shiftLeft_eq]
  omega

/-! ## The last group -/

theorem lastGroup4_apply (e : IVec S1x128 32) (l : Fin 128) (b : ℕ) (hb : b < 2 ^ 30) (h : 0 < b) (he : e (ix2 (0 : Fin 1) l) = W b) :
    lastGroup4 e (ix2 (0 : Fin 1) l) = W (4 * ((b - 1) / 4)) := by
  unfold lastGroup4
  pointwise
  rw [he]
  exact last4 _ _ b hb h

theorem bcast_apply (x : IVec S1x128 32) (s : Fin 8) (l : Fin 128) : bcast x (ix2 s l) = x (ix2 (0 : Fin 1) l) := by
  unfold bcast
  pointwise

theorem tailWord_apply (hi r0 r1 r2 r3 : IVec S8x128 32) (s : Fin 8) (l : Fin 128) (h : ℕ) (hh : h < 4) (e : hi (ix2 s l) = W h)
    (r : ℕ → BitVec 32) (h0 : r0 (ix2 s l) = r 0) (h1 : r1 (ix2 s l) = r 1) (h2 : r2 (ix2 s l) = r 2) (h3 : r3 (ix2 s l) = r 3) :
    tailWord hi r0 r1 r2 r3 (ix2 s l) = r h := by
  unfold tailWord
  pointwise
  rw [e, h0, h1, h2, h3]
  have w := fun j (hj : j < 4) => W_eq h j (by omega) (by omega)
  have e1 := w 1 (by omega)
  have e2 := w 2 (by omega)
  have e3 := w 3 (by omega)
  simp only [W] at e1 e2 e3 ⊢
  rw [e1, e2, e3, select_ofBool, select_ofBool, select_ofBool]
  interval_cases h <;> rfl

/-- A kept token. -/
theorem keep_word (lo hi : BitVec 32) (a A b j : ℕ) (ha : a < 2 ^ 29) (hA : A < 2 ^ 29) (hb : b < 2 ^ 29) (hj : j < 4) (h : A ≤ b - 1)
    (hlo : lo = IntOp.subi (W a) (W A)) (hhi : hi = W (b - 1 - A)) (r t : BitVec 32) :
    Scalar.select (IntOp.andi (IntOp.cmpi .sle lo (W j)) (IntOp.cmpi .sge hi (W j))) r t = if a ≤ A + j ∧ A + j ≤ b - 1 then r else t := by
  rw [hlo, hhi, sub_sle _ _ _ (by omega) (by omega) (by omega), W_sge _ _ (by omega) (by omega), ofBool_and, select_ofBool, ← Bool.decide_and]
  by_cases hc : a ≤ A + j ∧ A + j ≤ b - 1
  · rw [if_pos hc, if_pos (decide_eq_true (show a ≤ A + j ∧ j ≤ b - 1 - A by omega))]
  · rw [if_neg hc, decide_eq_false (show ¬ (a ≤ A + j ∧ j ≤ b - 1 - A) by omega)]
    rfl

theorem keepTile_apply (lo hi : IVec S8x128 32) (j : BitVec 32) (r t : Tile) (w : Fin 4) (s : Fin 8) (l : Fin 128) :
    keepTile lo hi j r t w (ix2 s l)
      = Scalar.select (IntOp.andi (IntOp.cmpi .sle (lo (ix2 s l)) j) (IntOp.cmpi .sge (hi (ix2 s l)) j)) (r w (ix2 s l)) (t w (ix2 s l)) := by
  unfold keepTile
  pointwise

/-- The last group's part of one document: the words at its four tokens are those of tokens `A`, `A + 1`, `A + 2`, `A + 3`. -/
theorem ownScore_apply (q : FVec Ideal S224x128 .bf16) (raw : IVec S5632x128 32) (s e : IVec S1x128 32) (r0 r1 r2 r3 : Tile)
    (i : Fin 224) (l : Fin 128) (a b : ℕ) (ha : a < 2 ^ 29) (hb : b < 2 ^ 29) (hab : a < b)
    (hs : s (ix2 (0 : Fin 1) l) = W a) (he : e (ix2 (0 : Fin 1) l) = W b)
    (h0 : ∀ p s, r0 p (ix2 s l) = tokW raw (4 * ((b - 1) / 4) + 0) p) (h1 : ∀ p s, r1 p (ix2 s l) = tokW raw (4 * ((b - 1) / 4) + 1) p)
    (h2 : ∀ p s, r2 p (ix2 s l) = tokW raw (4 * ((b - 1) / 4) + 2) p) (h3 : ∀ p s, r3 p (ix2 s l) = tokW raw (4 * ((b - 1) / 4) + 3) p) :
    ownScore (F := Ideal) (permQ q) s e r0 r1 r2 r3 (ix2 i l) = top (tokD q raw i) (max a (4 * ((b - 1) / 4))) b := by
  unfold ownScore
  have hA : lastGroup4 e (ix2 (0 : Fin 1) l) = W (4 * ((b - 1) / 4)) := lastGroup4_apply e l b (by omega) (by omega) he
  have hlo : ∀ s', bcast (subi s (lastGroup4 e)) (ix2 s' l) = IntOp.subi (W a) (W (4 * ((b - 1) / 4))) := by
    intro s'
    rw [bcast_apply, ← hs, ← hA]
    rfl
  have hhi : ∀ s', bcast (subi (subi e (broadcast S1x128 1#32)) (lastGroup4 e)) (ix2 s' l) = W (b - 1 - 4 * ((b - 1) / 4)) := by
    intro s'
    rw [bcast_apply, ← W_sub _ _ (show 4 * ((b - 1) / 4) ≤ b - 1 by omega), ← W_sub _ _ (show 1 ≤ b by omega), ← hA, ← he]
    rfl
  have ht : ∀ p s', tailWord (bcast (subi (subi e (broadcast S1x128 1#32)) (lastGroup4 e))) (r0 p) (r1 p) (r2 p) (r3 p) (ix2 s' l) = tokW raw (b - 1) p := by
    intro p s'
    refine (tailWord_apply _ _ _ _ _ s' l (b - 1 - 4 * ((b - 1) / 4)) (by omega) (hhi s') (fun j => tokW raw (4 * ((b - 1) / 4) + j) p) (h0 p s') (h1 p s') (h2 p s') (h3 p s')).trans ?_
    show tokW raw _ p = _
    congr 1
    omega
  have hk : ∀ (j : ℕ) (hj : j < 4) (r : Tile) (hr : ∀ p s, r p (ix2 s l) = tokW raw (4 * ((b - 1) / 4) + j) p) p s',
      keepTile (bcast (subi s (lastGroup4 e))) (bcast (subi (subi e (broadcast S1x128 1#32)) (lastGroup4 e))) (W j) r
        (fun w => tailWord (bcast (subi (subi e (broadcast S1x128 1#32)) (lastGroup4 e))) (r0 w) (r1 w) (r2 w) (r3 w)) p (ix2 s' l)
        = if a ≤ 4 * ((b - 1) / 4) + j ∧ 4 * ((b - 1) / 4) + j ≤ b - 1 then tokW raw (4 * ((b - 1) / 4) + j) p else tokW raw (b - 1) p := by
    intro j hj r hr p s'
    rw [keepTile_apply, keep_word _ _ a (4 * ((b - 1) / 4)) b j ha (by omega) hb hj (by omega) (hlo s') (hhi s'), hr, ht]
  have hd : ∀ (c : Prop) [Decidable c] (x y : Fin 4 → BitVec 32),
      dot2 (fun d => q (ix2 i d)) (fun p => if c then x p else y p)
        = if c then dot2 (fun d => q (ix2 i d)) x else dot2 (fun d => q (ix2 i d)) y := by
    intro c _ x y
    by_cases hc : c
    · simp only [if_pos hc]
    · simp only [if_neg hc]
  refine (score_apply q _ _ _ _ _ _ _ _ i l (hk 0 (by omega) r0 h0) (hk 1 (by omega) r1 h1) (hk 2 (by omega) r2 h2) (hk 3 (by omega) r3 h3)).trans ?_
  rw [hd, hd, hd, hd]
  exact top_own (tokD q raw i) a b (4 * ((b - 1) / 4)) hab (by omega) (by omega)

/-! ## The words of the last groups -/

theorem tailSel_apply (b : Fin 8) (v : BitVec 32) (x : Vec Ideal S4x128 .i32) (w j : Fin 4) (n : ℕ) (hn : n ≤ 180224) (hv : v = W n)
    (k : Fin 128) (hk : k.val = (4 * ((n - 1) / 4) + j.val) % 128) : tailSel (F := Ideal) b v x (ix2 w j) = x (ix2 w k) := by
  unfold tailSel
  pointwise
  refine congrArg (fun k : Fin 128 => x (ix2 w k)) (Fin.ext ?_)
  show _ = k.val
  rw [hk, hv]
  have e : IntOp.muli 4#32 (IntOp.shrsi .scalar (IntOp.maxsi (IntOp.subi (W n) 1#32) 0#32) 2#32) = W (4 * ((n - 1) / 4)) := by
    rw [show (1#32 : BitVec 32) = W 1 from rfl, show (0#32 : BitVec 32) = W 0 from rfl, show (2#32 : BitVec 32) = W 2 from rfl,
      show (4#32 : BitVec 32) = W 4 from rfl, W_pred _ (by omega), W_shr _ _ _ (by omega) (by omega), W_mul]
    rfl
  have e2 : (IntOp.andi (IntOp.subi (BitVec.ofNat 32 (4 * b.val)) (IntOp.muli 4#32 (IntOp.shrsi .scalar (IntOp.maxsi (IntOp.subi (W n) 1#32) 0#32) 2#32))) 127#32).toNat
      = (2 ^ 32 - 4 * ((n - 1) / 4) + 4 * b.val) % 2 ^ 32 % 128 := by
    rw [e]
    show ((W (4 * b.val) - W (4 * ((n - 1) / 4))) &&& 127#32).toNat = _
    rw [BitVec.toNat_and, BitVec.toNat_sub, W_toNat _ (by omega), W_toNat _ (by omega)]
    exact Nat.and_two_pow_sub_one_eq_mod _ 7
  have hb := b.isLt
  have hj := j.isLt
  simp only [Scalar.andi, Scalar.subi, Scalar.muli, Scalar.shrsi, Scalar.maxsi, e2]
  omega

theorem evC_apply (o : IVec S1001 32) (hin : ∀ y, (o y).toNat ≤ 180224) (ho : Checks o) (raw : IVec S5632x128 32) (R : Fin 512) (C : Fin 128)
    (hC : C.val < 32) (hd : 128 * (C.val / 4) + R.val / 4 < 1000) :
    evC (F := Ideal) o ho raw (ix2 R C)
      = tokW raw (4 * ((num o (128 * (C.val / 4) + R.val / 4 + 1) - 1) / 4) + C.val % 4) ⟨R.val % 4, by omega⟩ := by
  have hn := num_le o hin (128 * (C.val / 4) + R.val / 4 + 1)
  show tailV (F := Ideal) (⟨R.val / 4, _⟩ : Fin k0_t1_loop.trips) (⟨C.val / 4 % 8, _⟩ : Fin 8) o ho raw (ix2 (⟨R.val % 4, _⟩ : Fin 4) (⟨C.val % 4, _⟩ : Fin 4)) = _
  unfold tailV
  have hw : word o (endOff ⟨R.val / 4, by rw [trips1]; omega⟩ (C.val / 4 % 8)) (endOff_inb ⟨R.val / 4, by rw [trips1]; omega⟩ ⟨C.val / 4 % 8, by omega⟩)
      = W (num o (128 * (C.val / 4) + R.val / 4 + 1)) := by
    refine word_num o _ _ _ (by omega) ((endOff_eq _ ⟨C.val / 4 % 8, by omega⟩).trans ?_)
    show ![min (R.val / 4 + 128 * (C.val / 4 % 8) + 1) 1000] = _
    rw [show min (R.val / 4 + 128 * (C.val / 4 % 8) + 1) 1000 = 128 * (C.val / 4) + R.val / 4 + 1 by omega]
  refine (tailSel_apply _ _ _ ⟨R.val % 4, by omega⟩ ⟨C.val % 4, by omega⟩ _ hn hw
    ⟨(4 * ((num o (128 * (C.val / 4) + R.val / 4 + 1) - 1) / 4) + C.val % 4) % 128, by omega⟩ rfl).trans ?_
  refine (rd2 (A := 5632) (B := 128) (m := 4) (n := 128) (p := (num o (128 * (C.val / 4) + R.val / 4 + 1) - 1) / 4 / 32 * 4) (q := 0) _ ?_ _ _ _ _).trans ?_
  · rw [hw, off2_eq _ hn]
  · unfold tokW
    refine congrArg raw (congrArg₂ ix2 (Fin.ext ?_) (Fin.ext ?_))
    · show (num o (128 * (C.val / 4) + R.val / 4 + 1) - 1) / 4 / 32 * 4 + R.val % 4
        = (4 * ((4 * ((num o (128 * (C.val / 4) + R.val / 4 + 1) - 1) / 4) + C.val % 4) / 128) + R.val % 4) % 5632
      omega
    · show 0 + _ = _
      exact Nat.zero_add _

/-- The words of block `b`'s tile `j`. -/
theorem x8C_apply (o : IVec S1001 32) (hin : ∀ y, (o y).toNat ≤ 180224) (ho : Checks o) (raw : IVec S5632x128 32) (b : Fin 8) (j : ℕ) (hj : j < 4)
    (r : Fin 128) (hr : r.val = 4 * b.val + j) (w : Fin 4) (l : Fin 128) (hd : 128 * b.val + l.val < 1000) :
    x8C (evC (F := Ideal) o ho raw) (ix3 w r l) = tokW raw (4 * ((num o (128 * b.val + l.val + 1) - 1) / 4) + j) w := by
  have hb := b.isLt
  have hw := w.isLt
  refine (evC_apply o hin ho raw ⟨w.val + 4 * l.val, by omega⟩ r (by omega) (show 128 * (r.val / 4) + (w.val + 4 * l.val) / 4 < 1000 by omega)).trans ?_
  have e1 : 128 * (r.val / 4) + (w.val + 4 * l.val) / 4 + 1 = 128 * b.val + l.val + 1 := by omega
  have e2 : r.val % 4 = j := by omega
  have e3 : (⟨(w.val + 4 * l.val) % 4, by omega⟩ : Fin 4) = w := Fin.ext (show (w.val + 4 * l.val) % 4 = w.val by omega)
  show tokW raw (4 * ((num o (128 * (r.val / 4) + (w.val + 4 * l.val) / 4 + 1) - 1) / 4) + r.val % 4) ⟨(w.val + 4 * l.val) % 4, _⟩ = _
  rw [e1, e2, e3]

/-! ## A block's results -/

theorem qsumOf_apply (q : FVec Ideal S224x128 .bf16) (i : Fin 224) : qsumOf (F := Ideal) (permQ q) (ix2 i (0 : Fin 1)) = ∑ d : Fin 128, q (ix2 i d) := by
  have e : qsumOf (F := Ideal) (permQ q) (ix2 i (0 : Fin 1)) = ∑ x : Fin 128, permQ (F := Ideal) q (ix2 i x) := by
    unfold qsumOf
    pointwise
  rw [e]
  refine (Finset.sum_congr rfl fun x _ => permQ_apply q i x).trans ?_
  exact Equiv.sum_comp srcEquiv (fun d => q (ix2 i d))

theorem blockRow_apply (x : IVec S1x1024 32) (b : Fin 8) (l : Fin 128) : blockRow x b (ix2 (0 : Fin 1) l) = x (ix2 (0 : Fin 1) (⟨128 * b.val + l.val, by omega⟩ : Fin 1024)) := by
  unfold blockRow
  pointwise

theorem blockMax_apply (q : FVec Ideal S224x1 .f32) (s e : IVec S1x128 32) (y : FVec Ideal S224x128 .f32) (m0 : Vec Ideal S128x128 .f32) (m1 : Vec Ideal S128x96 .f32)
    (i : Fin 224) (l : Fin 128) :
    blockMax (F := Ideal) q s e y m0 m1 (ix2 i l)
      = Scalar.select (IntOp.cmpi .sgt (e (ix2 (0 : Fin 1) l)) (s (ix2 (0 : Fin 1) l)))
          (max (y (ix2 i l)) (if h : i.val < 128 then m0 (ix2 l ⟨i.val, h⟩) else m1 (ix2 l ⟨i.val - 128, by omega⟩)) - q (ix2 i (0 : Fin 1))) (0 : EReal) := by
  unfold blockMax
  pointwise

/-- The result for query row `i` and document `d`. -/
def docMax (q : FVec Ideal S224x128 .bf16) (raw : IVec S5632x128 32) (S : ℕ → ℕ) (i : Fin 224) (d : ℕ) : EReal :=
  if S d < S (d + 1) then top (tokD q raw i) (S d) (S (d + 1)) - ∑ k : Fin 128, q (ix2 i k) else 0

theorem mC_apply (o : IVec S1001 32) (hin : ∀ y, (o y).toNat ≤ 180224) (hm : Monotone (num o)) (ho : Checks o) (q : FVec Ideal S224x128 .bf16)
    (o2 : IVec S1x1001 32) (h2 : ∀ d : Fin 1001, o2 (ix2 0 d) = o (ix1 d)) (raw : IVec S5632x128 32) (b : Fin 8) (i : Fin 224) (l : Fin 128)
    (hd : 128 * b.val + l.val < 1000) :
    mC (F := Ideal) o ho q o2 raw b (ix2 i l) = docMax q raw (num o) i (128 * b.val + l.val) := by
  have hle := num_le o hin
  have hcode : CodeIs (codeC (F := Ideal) o2) (num o) := fun n L =>
    codeOf_eq _ _ (num o) (srowC_num o o2 h2) (endRow_num o o2 h2) hle hm n L
  have hq : qV (F := Ideal) q = permQ (F := Ideal) q := congrArg (permQ (F := Ideal)) (rd_full _ q)
  have hs : blockRow (srowC o2) b (ix2 (0 : Fin 1) l) = W (num o (128 * b.val + l.val)) := (blockRow_apply _ b l).trans (srowC_num o o2 h2 _)
  have he : blockRow (endRow (F := Ideal) (srowC o2)) b (ix2 (0 : Fin 1) l) = W (num o (128 * b.val + l.val + 1)) := (blockRow_apply _ b l).trans (endRow_num o o2 h2 _)
  unfold mC blockV
  rw [hq]
  refine (blockMax_apply _ _ _ _ _ _ i l).trans ?_
  have h1 := hle (128 * b.val + l.val)
  have h2 := hle (128 * b.val + l.val + 1)
  rw [hs, he, W_sgt _ _ (by omega) (by omega), select_ofBool, qsumOf_apply]
  unfold docMax
  by_cases hab : num o (128 * b.val + l.val) < num o (128 * b.val + l.val + 1)
  · rw [if_pos (decide_eq_true hab), if_pos hab]
    congr 1
    rw [← top_doc (tokD q raw i) (num o) hm hle _ (show 128 * b.val + l.val < 1024 by omega) hab]
    congr 1
    · refine ownScore_apply q raw _ _ _ _ _ _ i l _ _ (by omega) (by omega) hab hs he ?_ ?_ ?_ ?_
      · exact fun p s => (tileV_apply _ _ _ p s l).trans (x8C_apply o hin ho raw b 0 (by omega) _ rfl p l hd)
      · exact fun p s => (tileV_apply _ _ _ p s l).trans (x8C_apply o hin ho raw b 1 (by omega) _ rfl p l hd)
      · exact fun p s => (tileV_apply _ _ _ p s l).trans (x8C_apply o hin ho raw b 2 (by omega) _ rfl p l hd)
      · exact fun p s => (tileV_apply _ _ _ p s l).trans (x8C_apply o hin ho raw b 3 (by omega) _ rfl p l hd)
    · by_cases hi : i.val < 128
      · refine (dif_pos hi).trans ?_
        refine (rd2 (A := 1024) (B := 128) (m := 128) (n := 128) (p := 128 * b.val) (q := 0) _ rfl _ _ l ⟨i.val, hi⟩).trans ?_
        refine (m0C_apply o hin ho q raw _ hcode ⟨128 * b.val + l.val, by omega⟩ hd ⟨0 + i.val, by omega⟩).trans ?_
        refine congrArg (fun k => before (tokD q raw k) (num o) _ _) (Fin.ext ?_)
        exact Nat.zero_add _
      · refine (dif_neg hi).trans ?_
        refine (rd2 (A := 1024) (B := 96) (m := 128) (n := 96) (p := 128 * b.val) (q := 0) _ rfl _ _ l ⟨i.val - 128, by omega⟩).trans ?_
        refine (m1C_apply o hin ho q raw _ hcode ⟨128 * b.val + l.val, by omega⟩ hd ⟨0 + (i.val - 128), by omega⟩).trans ?_
        refine congrArg (fun k => before (tokD q raw k) (num o) _ _) (Fin.ext ?_)
        show 128 + (0 + (i.val - 128)) = i.val
        omega
  · rw [if_neg (fun h => hab (of_decide_eq_true h)), if_neg hab]

/-! ## The two outputs -/

theorem sumQ_apply (m : FVec Ideal S224x128 .f32) (k : Fin 7) (l : Fin 128) :
    sumQ (F := Ideal) m k (ix2 (0 : Fin 1) l) = ∑ j : Fin 32, m (ix2 (⟨32 * k.val + j.val, by omega⟩ : Fin 224) l) := by
  unfold sumQ
  pointwise

theorem sumQ104_apply (m : FVec Ideal S224x128 .f32) (k : Fin 7) (l : Fin 104) :
    sumQ104 (F := Ideal) m k (ix2 (0 : Fin 1) l) = ∑ j : Fin 32, m (ix2 (⟨32 * k.val + j.val, by omega⟩ : Fin 224) (⟨l.val, by omega⟩ : Fin 128)) := by
  unfold sumQ104
  pointwise

theorem outM_apply (o : IVec S1001 32) (hin : ∀ y, (o y).toNat ≤ 180224) (hm : Monotone (num o)) (ho : Checks o) (q : FVec Ideal S224x128 .bf16)
    (o2 : IVec S1x1001 32) (h2 : ∀ d : Fin 1001, o2 (ix2 0 d) = o (ix1 d)) (raw : IVec S5632x128 32) (i : Fin 224) (d : Fin 1000) :
    outM (F := Ideal) o ho q o2 raw (ix2 i d) = docMax q raw (num o) i d.val := by
  have hd : 128 * (d.val / 128) + d.val % 128 = d.val := by omega
  refine (mC_apply o hin hm ho q o2 h2 raw ⟨d.val / 128, by omega⟩ i ⟨d.val % 128, by omega⟩ (show 128 * (d.val / 128) + d.val % 128 < 1000 by omega)).trans ?_
  exact congrArg (docMax q raw (num o) i) hd

theorem outS_apply (o : IVec S1001 32) (hin : ∀ y, (o y).toNat ≤ 180224) (hm : Monotone (num o)) (ho : Checks o) (q : FVec Ideal S224x128 .bf16)
    (o2 : IVec S1x1001 32) (h2 : ∀ d : Fin 1001, o2 (ix2 0 d) = o (ix1 d)) (raw : IVec S5632x128 32) (k : Fin 7) (d : Fin 1000) :
    outS (F := Ideal) o ho q o2 raw (ix2 k d) = ∑ j : Fin 32, docMax q raw (num o) ⟨32 * k.val + j.val, by omega⟩ d.val := by
  have hd : 128 * (d.val / 128) + d.val % 128 = d.val := by omega
  by_cases hc : d.val < 896
  · refine (if_pos hc).trans ?_
    refine (sumQ_apply _ k ⟨d.val % 128, by omega⟩).trans (Finset.sum_congr rfl fun j _ => ?_)
    refine (mC_apply o hin hm ho q o2 h2 raw ⟨d.val / 128, by omega⟩ _ ⟨d.val % 128, by omega⟩ (show 128 * (d.val / 128) + d.val % 128 < 1000 by omega)).trans ?_
    exact congrArg (docMax q raw (num o) _) hd
  · refine (if_neg hc).trans ?_
    refine (sumQ104_apply _ k ⟨d.val % 128 % 104, by omega⟩).trans (Finset.sum_congr rfl fun j _ => ?_)
    refine (mC_apply o hin hm ho q o2 h2 raw 7 _ ⟨d.val % 128 % 104, by omega⟩ (show 128 * 7 + d.val % 128 % 104 < 1000 by omega)).trans ?_
    exact congrArg (docMax q raw (num o) _) (show 128 * 7 + d.val % 128 % 104 = d.val by omega)

end Cert.KernelIdeal.MaxSim

end
-- ==== Proof.MaxSim.Host.lean ====
/- The host lines around the kernel: what it is called with, and what is made of its two results. -/
module

public import proofs.«01_k».proof.Proof.MaxSim.Launch
public import proofs.«01_k».proof.Proof.MaxSim.Own
public import Idealize.ShloMosaic.Lib.Pipeline.ValueKit.Geometry

@[expose] public section

set_option maxRecDepth 16384

noncomputable section

namespace Cert.KernelIdeal.MaxSim

open Cert.KernelIdeal Cert.KernelIdeal.Gen
open Idealize.ShloMosaic Idealize.ShloMosaic.TcCoe Idealize.ShloMosaic.StableHlo
open Idealize.SL.Sem
open Idealize.ShloMosaic.Pointwise
open Idealize.ShloMosaic.Pipeline (Dat)

variable {F : FTy → Type} [FloatOps F]

/-! ## Before -/

/-- The query as one matrix, -/
def hostQ (q : FVec F S7x32x128 .bf16) : FVec F S224x128 .bf16 := shapeCast _ q shapeCasts_S7x32x128_S224x128
/-- the words of 128 tokens beside each other, -/
def hostX (x : IVec S180224x4 32) : IVec S5632x128 32 :=
  shapeCast _ (transpose S1408x4x128 [0, 2, 1] (shapeCast S1408x128x4 x shapeCasts_S180224x4_S1408x128x4) transposes_S1408x128x4_S1408x4x128_0_2_1)
    shapeCasts_S1408x4x128_S5632x128
/-- and the offsets as a row. -/
def hostO (o : IVec S1001 32) : IVec S1x1001 32 := shapeCast _ o shapeCasts_S1001_S1x1001

theorem hostQ_apply (q : FVec F S7x32x128 .bf16) (n : Fin 7) (j : Fin 32) (k : Fin 128) (i : Fin 224) (hi : i.val = 32 * n.val + j.val) :
    hostQ q (ix2 i k) = q (ix3 n j k) := by
  unfold hostQ
  pointwise
  congr 1
  have e1 : (⟨i.val / 32, by omega⟩ : Fin 7) = n := Fin.ext (show i.val / 32 = n.val by omega)
  have e2 : (⟨i.val % 32, by omega⟩ : Fin 32) = j := Fin.ext (show i.val % 32 = j.val by omega)
  exact congrArg₂ (fun a b => ix3 a b k) e1 e2

theorem hostO_apply (o : IVec S1001 32) (d : Fin 1001) : hostO o (ix2 0 d) = o (ix1 d) := by
  unfold hostO
  pointwise

theorem hostX_apply (x : IVec S180224x4 32) (t : Fin 180224) (w : Fin 4) : tokW (hostX x) t.val w = x (ix2 t w) := by
  unfold tokW hostX
  pointwise

/-! ## After -/

/-- The maxima by document, query and row, -/
def hostM (a : FVec F S224x1000 .f32) : FVec F S1000x7x32 .f32 :=
  transpose S1000x7x32 [2, 0, 1] (shapeCast S7x32x1000 a shapeCasts_S224x1000_S7x32x1000) transposes_S7x32x1000_S1000x7x32_2_0_1
/-- and the scores by document and query. -/
def hostS (a : FVec F S7x1000 .f32) : FVec F S1000x7 .f32 := transpose S1000x7 [1, 0] a transposes_S7x1000_S1000x7_1_0

theorem hostM_apply (a : FVec F S224x1000 .f32) (d : Fin 1000) (n : Fin 7) (j : Fin 32) :
    hostM a (ix3 d n j) = a (ix2 (⟨32 * n.val + j.val, by omega⟩ : Fin 224) d) := by
  unfold hostM
  pointwise
  have e : (⟨n.val * 32 + j.val, by omega⟩ : Fin 224) = ⟨32 * n.val + j.val, by omega⟩ := Fin.ext (show n.val * 32 + j.val = 32 * n.val + j.val by omega)
  exact congrArg (fun b => a (ix2 b d)) e

theorem hostS_apply (a : FVec F S7x1000 .f32) (d : Fin 1000) (n : Fin 7) : hostS a (ix2 d n) = a (ix2 n d) := by
  unfold hostS
  pointwise

/-! ## The lines run -/

variable (m : (ℓ : Loc nD τ sig) → Buf (Elt F) ℓ) (ρ : Dev nD → PrngReg)
variable (ho : ∀ (c : Dev nD) (t : Fin cfg0.N), Checks (iblk m c 0 t))

theorem V_main_v3 (c : Dev nD) : V m c main_v3 = hostQ (m ((c.tc : Thread nD τ).loc main_arg0)) := by
  unfold V V0
  simp only [hostOps0, List.flatten_cons, List.flatten_nil, List.append_nil]
  after_results_simp <;> rfl

theorem V_main_v4 (c : Dev nD) : V m c main_v4 = hostO (m ((c.tc : Thread nD τ).loc main_arg2)) := by
  unfold V V0
  simp only [hostOps0, List.flatten_cons, List.flatten_nil, List.append_nil]
  after_results_simp <;> rfl

theorem V_main_v2 (c : Dev nD) : V m c main_v2 = hostX (m ((c.tc : Thread nD τ).loc main_arg1)) := by
  unfold V V0
  simp only [hostOps0, List.flatten_cons, List.flatten_nil, List.append_nil]
  after_results_simp <;> rfl

/-- The first result's array at the end of the call, -/
theorem final4 (c : Dev nD) : (dats m ho 0 c).arrAt 4 cfg0.N =
    outM (iblk m c 0 t0_0) (ho c t0_0) (iblk m c 1 t0_0) (iblk m c 2 t0_0) (iblk m c 3 t0_0) := by
  refine (dats m ho 0 c).arrAt_eq_of_covers 4 _ (by decide +kernel) fun t hf y => ?_
  obtain rfl := fin_N0 t
  rw [emb4]
  exact congrFun (after0_4 m ho c t0_0) y

/-- and the second's. -/
theorem final5 (c : Dev nD) : (dats m ho 0 c).arrAt 5 cfg0.N =
    outS (iblk m c 0 t0_0) (ho c t0_0) (iblk m c 1 t0_0) (iblk m c 2 t0_0) (iblk m c 3 t0_0) := by
  refine (dats m ho 0 c).arrAt_eq_of_covers 5 _ (by decide +kernel) fun t hf y => ?_
  obtain rfl := fin_N0 t
  rw [emb5]
  exact congrFun (after0_5 m ho c t0_0) y

theorem arr_inj : Function.Injective (Pipeline.arrRef spec0) := by decide

theorem tail_v7 (c : Dev nD) : Pipeline.afterTail₀ cfgs (dats m ho) 0 (V0 m) [hostOps1] c main_v7 = hostM ((dats m ho 0 c).arrAt 4 cfg0.N) := by
  unfold Pipeline.afterTail₀
  have e : Pipeline.withArrays spec0 c (V0 m c) (fun w => (dats m ho 0 c).arrAt w cfg0.N) (Proc.devRef .tc main_v5_0) = (dats m ho 0 c).arrAt 4 cfg0.N :=
    Pipeline.withArrays_arr spec0 arr_inj c (V0 m c) (fun w => (dats m ho 0 c).arrAt w cfg0.N) 4
  rw [← e]
  generalize Pipeline.withArrays (cfgs 0).spec c (V0 m c) (fun w => (dats m ho 0 c).arrAt w (cfgs 0).N) = X
  simp only [hostOps1, List.flatten_cons, List.flatten_nil, List.append_nil]
  after_results_simp <;> rfl

theorem tail_v8 (c : Dev nD) : Pipeline.afterTail₀ cfgs (dats m ho) 0 (V0 m) [hostOps1] c main_v8 = hostS ((dats m ho 0 c).arrAt 5 cfg0.N) := by
  unfold Pipeline.afterTail₀
  have e : Pipeline.withArrays spec0 c (V0 m c) (fun w => (dats m ho 0 c).arrAt w cfg0.N) (Proc.devRef .tc main_v5_1) = (dats m ho 0 c).arrAt 5 cfg0.N :=
    Pipeline.withArrays_arr spec0 arr_inj c (V0 m c) (fun w => (dats m ho 0 c).arrAt w cfg0.N) 5
  rw [← e]
  generalize Pipeline.withArrays (cfgs 0).spec c (V0 m c) (fun w => (dats m ho 0 c).arrAt w (cfgs 0).N) = X
  simp only [hostOps1, List.flatten_cons, List.flatten_nil, List.append_nil]
  after_results_simp <;> rfl

end Cert.KernelIdeal.MaxSim

end
-- ==== Proof.MaxSim.Ref.lean ====
/- The reference: its results at an index, at the exact instance. -/
module

public import proofs.«01_k».proof.Proof.MaxSim.Own
public import proofs.«01_k».proof.Proof.Gen.ReferenceIdeal.Run
public import Idealize.ShloMosaic.Lib.IndicatorCount

@[expose] public section

set_option maxRecDepth 16384

noncomputable section

namespace Cert.KernelIdeal.MaxSim.Ref

open Cert.ReferenceIdeal Cert.ReferenceIdeal.Gen
open Idealize.ShloMosaic Idealize.ShloMosaic.TcCoe Idealize.ShloMosaic.StableHlo
open Idealize.ShloMosaic.Pointwise

/-- The words' bits as signs. -/
def signs (x : IVec S180224x4 32) : FVec Ideal S180224x4x32 .bf16 :=
  sitofp .bf16 (subi (muli (broadcastInDim S180224x4x32 ![] bcast_S_S180224x4x32 (constantI S_ 32 2#32)) (id (andi (Host.shrui (broadcastInDim S180224x4x32 ![0, 1, 2] bcast_S180224x4x1_S180224x4x32_0_1_2 (broadcastInDim S180224x4x1 ![0, 1] bcast_S180224x4_S180224x4x1_0_1 x)) (broadcastInDim S180224x4x32 ![0, 1, 2] bcast_S1x1x32_S180224x4x32_0_1_2 (broadcastInDim S1x1x32 ![2] bcast_S32_S1x1x32_2 (iotaInDim S32 32 0)))) (broadcastInDim S180224x4x32 ![] bcast_S_S180224x4x32 (constantI S_ 32 1#32))))) (broadcastInDim S180224x4x32 ![] bcast_S_S180224x4x32 (constantI S_ 32 1#32)))

/-- Every token against every query row. -/
def prods (q : FVec Ideal S7x32x128 .bf16) (x : IVec S180224x4 32) : FVec Ideal S180224x7x32 .f32 :=
  Host.dotGeneral dot_S180224x4x32_S7x32x4x32_S180224x7x32_21_32_0_01_n_n none (signs x) (shapeCast _ q shapeCasts_S7x32x128_S7x32x4x32)

/-- Each token's document. -/
def seg (o : IVec S1001 32) : IVec S180224 32 :=
  subi (Host.reduce IntOp.addi (extui 32 (cmpi .sle (broadcastInDim S1001x180224 ![0, 1] bcast_S1001x1_S1001x180224_0_1 (broadcastInDim S1001x1 ![0] bcast_S1001_S1001x1_0 o)) (broadcastInDim S1001x180224 ![0, 1] bcast_S1x180224_S1001x180224_0_1 (broadcastInDim S1x180224 ![1] bcast_S180224_S1x180224_1 (iotaInDim S180224 32 0)))) natLt_1_32) (constantI S_ 32 0#32) reducesTo_S1001x180224_S180224_d0 h_S_) (broadcastInDim S180224 ![] bcast_S_S180224 (constantI S_ 32 1#32))

/-- Whether a token is a document's. -/
def mem (o : IVec S1001 32) : IVec S1000x180224x1x1 1 :=
  broadcastInDim S1000x180224x1x1 ![0, 1] bcast_S1000x180224_S1000x180224x1x1_0_1 (cmpi .eq (broadcastInDim S1000x180224 ![0, 1] bcast_S1x180224_S1000x180224_0_1 (broadcastInDim S1x180224 ![1] bcast_S180224_S1x180224_1 (seg o))) (broadcastInDim S1000x180224 ![0, 1] bcast_S1000x1_S1000x180224_0_1 (broadcastInDim S1000x1 ![0] bcast_S1000_S1000x1_0 (iotaInDim S1000 32 0))))

/-- The products of a document's tokens, minus infinity at the other tokens. -/
def masked (q : FVec Ideal S7x32x128 .bf16) (x : IVec S180224x4 32) (o : IVec S1001 32) : FVec Ideal S1000x180224x7x32 .f32 :=
  select (broadcastInDim S1000x180224x7x32 ![0, 1, 2, 3] bcast_S1000x180224x1x1_S1000x180224x7x32_0_1_2_3 (mem o)) (broadcastInDim S1000x180224x7x32 ![0, 1, 2, 3] bcast_S1x180224x7x32_S1000x180224x7x32_0_1_2_3 (broadcastInDim S1x180224x7x32 ![1, 2, 3] bcast_S180224x7x32_S1x180224x7x32_1_2_3 (prods q x))) (broadcastInDim S1000x180224x7x32 ![] bcast_S_S1000x180224x7x32 (id (constant (F := Ideal) S_ .f32 0xFF800000#32)))

/-- The maxima. -/
def refM (q : FVec Ideal S7x32x128 .bf16) (x : IVec S180224x4 32) (o : IVec S1001 32) : FVec Ideal S1000x7x32 .f32 :=
  select (broadcastInDim S1000x7x32 ![0, 1, 2] bcast_S1000x1x1_S1000x7x32_0_1_2 (broadcastInDim S1000x1x1 ![0] bcast_S1000_S1000x1x1_0 (cmpi .eq (extractStridedSlice S1000 ![1] o slices_S1001_S1000_1) (extractStridedSlice S1000 ![0] o slices_S1001_S1000_0)))) (broadcastInDim S1000x7x32 ![] bcast_S_S1000x7x32 (constant (F := Ideal) S_ .f32 0x00000000#32)) (Host.reduce (α := Ideal .f32) FloatOps.maximumf (masked q x o) (constant (F := Ideal) S_ .f32 0xFF800000#32) reducesTo_S1000x180224x7x32_S1000x7x32_d1 h_S_)

/-- The scores. -/
def refS (q : FVec Ideal S7x32x128 .bf16) (x : IVec S180224x4 32) (o : IVec S1001 32) : FVec Ideal S1000x7 .f32 :=
  Host.reduceAdd (refM q x o) (constant (F := Ideal) S_ .f32 0x00000000#32) reducesTo_S1000x7x32_S1000x7_d2 h_S_

/-! ## The pieces at an index -/

theorem sign_word (b : BitVec 32) (j : Fin 32) :
    IntOp.subi (IntOp.muli 2#32 (IntOp.andi (IntOp.shrui .host b (BitVec.ofNat 32 j.val)) 1#32)) 1#32 = if b.getLsbD j.val then 1#32 else BitVec.allOnes 32 := by
  have hs : IntOp.andi (IntOp.shrui .host b (BitVec.ofNat 32 j.val)) 1#32 = if b.getLsbD j.val then 1#32 else 0#32 := by
    unfold IntOp.shrui
    have hj : (BitVec.ofNat 32 j.val).toNat = j.val := W_toNat _ (by omega)
    rw [if_pos (by rw [hj]; exact j.isLt)]
    show (b >>> (BitVec.ofNat 32 j.val)) &&& 1#32 = _
    apply BitVec.eq_of_getLsbD_eq
    intro k hk
    rw [BitVec.getLsbD_and, BitVec.ushiftRight_eq', BitVec.getLsbD_ushiftRight, hj]
    by_cases h0 : k = 0
    · subst h0
      cases hb : b.getLsbD j.val <;> simp [hb]
    · cases hb : b.getLsbD j.val <;> simp [hb, h0]
  rw [hs]
  cases b.getLsbD j.val <;> rfl

theorem signs_apply (x : IVec S180224x4 32) (t : Fin 180224) (w : Fin 4) (j : Fin 32) :
    signs x (ix3 t w j) = (((if (x (ix2 t w)).getLsbD j.val then 1 else -1 : ℝ)) : EReal) := by
  unfold signs
  simp only [id_eq]
  pointwise
  rw [sign_word]
  show (((_ : BitVec 32).toInt : ℝ) : EReal) = _
  cases (x (ix2 t w)).getLsbD j.val
  · show ((((BitVec.allOnes 32).toInt : ℤ) : ℝ) : EReal) = _
    rw [show (BitVec.allOnes 32).toInt = -1 from by decide]
    norm_num
  · show ((((1#32 : BitVec 32).toInt : ℤ) : ℝ) : EReal) = _
    rw [show (1#32 : BitVec 32).toInt = 1 from by decide]
    norm_num

theorem prods_apply (q : FVec Ideal S7x32x128 .bf16) (x : IVec S180224x4 32) (t : Fin 180224) (n : Fin 7) (j : Fin 32) :
    prods q x (ix3 t n j) = ∑ b : Fin 32, ∑ w : Fin 4, signs x (ix3 t w b) * q (ix3 n j (⟨w.val * 32 + b.val, by omega⟩ : Fin 128)) := by
  unfold prods
  pointwise

theorem seg_apply (o : IVec S1001 32) (t : Fin 180224) :
    seg o (ix1 t) = IntOp.subi (Finset.fold IntOp.addi (0#32)
        (fun x : Fin 1001 => BitVec.setWidth 32 (IntOp.cmpi .sle (o (ix1 x)) (BitVec.ofNat 32 t.val))) Finset.univ) 1#32 := by
  unfold seg
  pointwise

theorem mem_apply (o : IVec S1001 32) (d : Fin 1000) (t : Fin 180224) :
    mem o (ix4 d t (0 : Fin 1) (0 : Fin 1)) = IntOp.cmpi .eq (seg o (ix1 t)) (BitVec.ofNat 32 d.val) := by
  unfold mem
  pointwise

theorem masked_apply (q : FVec Ideal S7x32x128 .bf16) (x : IVec S180224x4 32) (o : IVec S1001 32) (d : Fin 1000) (t : Fin 180224) (n : Fin 7) (j : Fin 32) :
    masked q x o (ix4 d t n j) = Scalar.select (mem o (ix4 d t (0 : Fin 1) (0 : Fin 1))) (prods q x (ix3 t n j)) (⊥ : EReal) := by
  unfold masked
  simp only [id_eq]
  pointwise
  rw [bits_neg_inf]

theorem refM_apply (q : FVec Ideal S7x32x128 .bf16) (x : IVec S180224x4 32) (o : IVec S1001 32) (d : Fin 1000) (n : Fin 7) (j : Fin 32) :
    refM q x o (ix3 d n j) = Scalar.select (IntOp.cmpi .eq (o (ix1 (⟨1 + d.val, by omega⟩ : Fin 1001))) (o (ix1 (⟨d.val, by omega⟩ : Fin 1001)))) (0 : EReal)
      (Finset.fold max (⊥ : EReal) (fun t : Fin 180224 => masked q x o (ix4 d t n j)) Finset.univ) := by
  unfold refM
  pointwise
  rw [bits_neg_inf]

theorem refS_apply (q : FVec Ideal S7x32x128 .bf16) (x : IVec S180224x4 32) (o : IVec S1001 32) (d : Fin 1000) (n : Fin 7) :
    refS q x o (ix2 d n) = ∑ j : Fin 32, refM q x o (ix3 d n j) := by
  unfold refS
  pointwise

/-! ## A token's document -/

/-- The offsets up to a token, counted. -/
theorem count_iff (o : IVec S1001 32) (hm : Monotone (num o)) (d t : ℕ) (hd : d < 1000) :
    (Finset.univ.filter fun x : Fin 1001 => num o x.val ≤ t).card = d + 1 ↔ num o d ≤ t ∧ t < num o (d + 1) := by
  constructor
  · intro h
    constructor
    · by_contra hc
      have hsub : (Finset.univ.filter fun x : Fin 1001 => num o x.val ≤ t) ⊆ Finset.Iio (⟨d, by omega⟩ : Fin 1001) := by
        intro x hx
        rw [Finset.mem_filter] at hx
        rw [Finset.mem_Iio, Fin.lt_def]
        by_contra hn
        exact hc (le_trans (hm (not_lt.1 hn)) hx.2)
      have := Finset.card_le_card hsub
      rw [Fin.card_Iio] at this
      simp only at this
      omega
    · by_contra hc
      have hsub : Finset.Iic (⟨d + 1, by omega⟩ : Fin 1001) ⊆ (Finset.univ.filter fun x : Fin 1001 => num o x.val ≤ t) := by
        intro x hx
        rw [Finset.mem_Iic, Fin.le_def] at hx
        rw [Finset.mem_filter]
        exact ⟨Finset.mem_univ _, le_trans (hm hx) (not_lt.1 hc)⟩
      have := Finset.card_le_card hsub
      rw [Fin.card_Iic] at this
      simp only at this
      omega
  · rintro ⟨h1, h2⟩
    have e : (Finset.univ.filter fun x : Fin 1001 => num o x.val ≤ t) = Finset.Iic (⟨d, by omega⟩ : Fin 1001) := by
      ext x
      rw [Finset.mem_filter, Finset.mem_Iic, Fin.le_def]
      constructor
      · intro hx
        by_contra hn
        have := hm (show d + 1 ≤ x.val by simp only at hn; omega)
        omega
      · intro hx
        exact ⟨Finset.mem_univ _, le_trans (hm hx) h1⟩
    rw [e, Fin.card_Iic]

theorem num_fin (o : IVec S1001 32) (x : Fin 1001) : o (ix1 x) = W (num o x.val) := by
  unfold num
  rw [dif_pos x.isLt]
  exact eq_W _

theorem mem_eq (o : IVec S1001 32) (hin : ∀ y, (o y).toNat ≤ 180224) (hm : Monotone (num o)) (d : Fin 1000) (t : Fin 180224) :
    mem o (ix4 d t (0 : Fin 1) (0 : Fin 1)) = BitVec.ofBool (decide (num o d.val ≤ t.val ∧ t.val < num o (d.val + 1))) := by
  rw [mem_apply, seg_apply, IndicatorCount.fold_addi_setWidth_eq_card]
  have e : (Finset.univ.filter fun x : Fin 1001 => IntOp.cmpi .sle (o (ix1 x)) (BitVec.ofNat 32 t.val) = 1#1)
      = Finset.univ.filter fun x : Fin 1001 => num o x.val ≤ t.val := by
    refine Finset.filter_congr fun x _ => ?_
    have hx := num_le o hin x.val
    rw [num_fin o x]
    show BitVec.ofBool ((W (num o x.val)).sle (W t.val)) = 1#1 ↔ _
    rw [BitVec.sle, W_toInt _ (by omega), W_toInt _ (by omega)]
    constructor
    · intro h
      by_contra hc
      rw [decide_eq_false (by omega)] at h
      exact absurd h (by decide)
    · intro h
      rw [decide_eq_true (by omega)]
      rfl
  rw [e]
  have hc : (Finset.univ.filter fun x : Fin 1001 => num o x.val ≤ t.val).card ≤ 1001 := by
    simpa using Finset.card_le_univ (Finset.univ.filter fun x : Fin 1001 => num o x.val ≤ t.val)
  have hk := count_iff o hm d.val t.val d.isLt
  generalize (Finset.univ.filter fun x : Fin 1001 => num o x.val ≤ t.val).card = n at hc hk
  show BitVec.ofBool (BitVec.ofNat 32 n - 1#32 == BitVec.ofNat 32 d.val) = _
  congr 1
  rw [Bool.eq_iff_iff, beq_iff_eq, decide_eq_true_iff, ← hk]
  have i1 : BitVec.ofNat 32 n - 1#32 = BitVec.ofNat 32 d.val ↔ BitVec.ofNat 32 n = BitVec.ofNat 32 (d.val + 1) := by
    rw [BitVec.ofNat_add, ← sub_eq_iff_eq_add]
  rw [i1]
  exact ofNat_inj (by omega) (by omega)

/-! ## A token's product -/

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Words and bits of a token as its features. -/
def feat : Fin 32 × Fin 4 ≃ Fin 128 where
  toFun p := ⟨p.2.val * 32 + p.1.val, by omega⟩
  invFun d := (⟨d.val % 32, by omega⟩, ⟨d.val / 32, by omega⟩)
  left_inv p := by
    obtain ⟨b, w⟩ := p
    refine Prod.ext (Fin.ext ?_) (Fin.ext ?_)
    · show (w.val * 32 + b.val) % 32 = b.val
      omega
    · show (w.val * 32 + b.val) / 32 = w.val
      omega
  right_inv d := Fin.ext (show d.val / 32 * 32 + d.val % 32 = d.val by omega)

theorem prods_eq (q : FVec Ideal S7x32x128 .bf16) (x : IVec S180224x4 32) (t : Fin 180224) (n : Fin 7) (j : Fin 32)
    (r : Fin 128 → ℝ) (hr : ∀ d, q (ix3 n j d) = ((r d : ℝ) : EReal)) :
    prods q x (ix3 t n j) = dot2 (fun d => q (ix3 n j d)) (fun w => x (ix2 t w)) - ∑ d : Fin 128, q (ix3 n j d) := by
  rw [prods_apply, ← Finset.sum_product']
  have e : ∀ p : Fin 32 × Fin 4, signs x (ix3 t p.2 p.1) * q (ix3 n j (⟨p.2.val * 32 + p.1.val, by omega⟩ : Fin 128))
      = (fun d : Fin 128 => (((if tokBit (fun w => x (ix2 t w)) d then r d else - r d : ℝ)) : EReal)) (feat p) := by
    rintro ⟨b, w⟩
    rw [signs_apply, hr, ← EReal.coe_mul]
    have hb : tokBit (fun w => x (ix2 t w)) (feat (b, w)) = (x (ix2 t w)).getLsbD b.val := by
      unfold tokBit
      have h1 : (⟨(feat (b, w)).val / 32, by omega⟩ : Fin 4) = w := Fin.ext (show (w.val * 32 + b.val) / 32 = w.val by omega)
      have h2 : (feat (b, w)).val % 32 = b.val := show (w.val * 32 + b.val) % 32 = b.val by omega
      show (x (ix2 t (⟨(feat (b, w)).val / 32, _⟩ : Fin 4))).getLsbD ((feat (b, w)).val % 32) = _
      rw [h1, h2]
    show _ = (((if tokBit (fun w => x (ix2 t w)) (feat (b, w)) then r (feat (b, w)) else - r (feat (b, w)) : ℝ)) : EReal)
    rw [hb]
    have hf : (⟨w.val * 32 + b.val, by omega⟩ : Fin 128) = feat (b, w) := rfl
    rw [hf]
    cases (x (ix2 t w)).getLsbD b.val
    · congr 1
      simp
    · congr 1
      simp
  refine (Finset.sum_congr rfl fun p _ => e p).trans ?_
  rw [Finset.univ_product_univ, Equiv.sum_comp feat (fun d : Fin 128 => (((if tokBit (fun w => x (ix2 t w)) d then r d else - r d : ℝ)) : EReal))]
  unfold dot2
  have e2 : ∀ d : Fin 128, q (ix3 n j d) * (if tokBit (fun w => x (ix2 t w)) d then (2 : EReal) else 0)
      = (((if tokBit (fun w => x (ix2 t w)) d then 2 * r d else 0 : ℝ)) : EReal) := by
    intro d
    rw [hr]
    cases tokBit (fun w => x (ix2 t w)) d
    · simp
    · show ((r d : ℝ) : EReal) * 2 = ((2 * r d : ℝ) : EReal)
      rw [show (2 : EReal) = ((2 : ℝ) : EReal) from rfl, ← EReal.coe_mul, mul_comm]
  rw [Finset.sum_congr rfl (fun d _ => e2 d), Finset.sum_congr rfl (fun d _ => hr d), ← coe_sum, ← coe_sum, ← coe_sum, ← EReal.coe_sub, ← Finset.sum_sub_distrib]
  congr 1
  refine Finset.sum_congr rfl fun d _ => ?_
  cases tokBit (fun w => x (ix2 t w)) d
  · simp
  · show r d = 2 * r d - r d
    ring

/-! ## The maxima -/

/-- A maximum over a document's tokens, all others at minus infinity. -/
theorem fold_doc (D : ℕ → EReal) (Q : EReal) (a b : ℕ) (hab : a < b) (hb : b ≤ 180224) (f : Fin 180224 → EReal)
    (hf : ∀ t : Fin 180224, f t = if a ≤ t.val ∧ t.val < b then D t.val - Q else ⊥) :
    Finset.fold max (⊥ : EReal) f Finset.univ = top D a b - Q := by
  show Finset.univ.sup f = _
  refine le_antisymm (Finset.sup_le fun t _ => ?_) ?_
  · rw [hf]
    split
    · rename_i h
      exact EReal.sub_le_sub (le_top D h.1 h.2) le_rfl
    · exact bot_le
  · obtain ⟨t, ht, e⟩ := Finset.exists_mem_eq_sup (Finset.Ico a b) ⟨a, Finset.mem_Ico.2 ⟨le_rfl, hab⟩⟩ D
    rw [Finset.mem_Ico] at ht
    show (Finset.Ico a b).sup D - Q ≤ _
    rw [e]
    have := Finset.le_sup (f := f) (Finset.mem_univ (⟨t, by omega⟩ : Fin 180224))
    rw [hf, if_pos ht] at this
    exact this

/-- A result of the reference: the document's best token, zero for a document without tokens. -/
theorem refM_eq (q : FVec Ideal S7x32x128 .bf16) (hq : ∀ y, (q y : EReal) ≠ ⊤ ∧ (q y : EReal) ≠ ⊥) (x : IVec S180224x4 32) (o : IVec S1001 32)
    (hin : ∀ y, (o y).toNat ≤ 180224) (hm : Monotone (num o)) (d : Fin 1000) (n : Fin 7) (j : Fin 32)
    (D : ℕ → EReal) (hD : ∀ t : Fin 180224, D t.val = dot2 (fun d => q (ix3 n j d)) (fun w => x (ix2 t w))) :
    refM q x o (ix3 d n j) = if num o d.val < num o (d.val + 1) then top D (num o d.val) (num o (d.val + 1)) - ∑ k : Fin 128, q (ix3 n j k) else 0 := by
  have hr : ∀ k, q (ix3 n j k) = (((q (ix3 n j k) : EReal).toReal : ℝ) : EReal) := fun k => (EReal.coe_toReal (hq _).1 (hq _).2).symm
  have h1 := num_le o hin (d.val + 1)
  have h0 := hm (show d.val ≤ d.val + 1 by omega)
  rw [refM_apply, num_fin o ⟨1 + d.val, by omega⟩, num_fin o ⟨d.val, by omega⟩]
  show Scalar.select (IntOp.cmpi .eq (W (num o (1 + d.val))) (W (num o d.val))) _ _ = _
  rw [Nat.add_comm 1 d.val, W_eq _ _ (by omega) (by omega), select_ofBool]
  by_cases hab : num o d.val < num o (d.val + 1)
  · have hne : ¬ num o (d.val + 1) = num o d.val := by omega
    rw [if_neg (fun h => hne (of_decide_eq_true h)), if_pos hab]
    refine fold_doc D _ _ _ hab h1 _ fun t => ?_
    rw [masked_apply, mem_eq o hin hm, select_ofBool, prods_eq q x t n j _ hr, hD]
    by_cases hc : num o d.val ≤ t.val ∧ t.val < num o (d.val + 1)
    · rw [if_pos hc, if_pos (decide_eq_true hc)]
    · rw [if_neg hc, if_neg (fun h => hc (of_decide_eq_true h))]
  · rw [if_pos (decide_eq_true (show num o (d.val + 1) = num o d.val by omega)), if_neg hab]

end Cert.KernelIdeal.MaxSim.Ref

end
-- ==== Proof.MaxSim.Same.lean ====
/- The frames: each program runs to its end, leaves its arguments as they were and every semaphore counter at zero.

   The program at its own formats and the program at the exact formats are the same text, so their definitions are
   equal and a fact proved of the second at every reading of the floats is one of the first. -/
module

public import proofs.«01_k».proof.Defs
public import proofs.«01_k».proof.Proof.MaxSim.Launch
public import proofs.«01_k».proof.Proof.MaxSim.Pre
public import proofs.«01_k».proof.Proof.Gen.Kernel
public import proofs.«01_k».proof.Proof.Gen.KernelIdeal
public import proofs.«01_k».proof.Proof.Gen.Pre_well_formed
public import proofs.«01_k».proof.Proof.Gen.ReferenceIdeal.Run

@[expose] public section

set_option maxRecDepth 16384
set_option maxHeartbeats 4000000

noncomputable section

namespace Cert.KernelIdeal.MaxSim

open Idealize.ShloMosaic Idealize.ShloMosaic.TcCoe Idealize.SL.Sem

section
variable {F : FTy → Type} [FloatOps F]

theorem defs0_eq : @Cert.Kernel.defs₀ F _ _ = @Cert.KernelIdeal.defs₀ F _ _ := by
  unfold Cert.Kernel.defs₀ Cert.KernelIdeal.defs₀
  refine congrArg Defs.onTc ?_
  funext l x
  match l, x with
  | 0, (t, s) => rfl

theorem defs_eq : @Cert.Kernel.defs F _ _ = @Cert.KernelIdeal.defs F _ _ := by
  unfold Cert.Kernel.defs Cert.KernelIdeal.defs
  exact congrArg (Pipeline.defs Cert.KernelIdeal.pcfgs) defs0_eq

theorem main_eq : @Cert.Kernel.main F _ = @Cert.KernelIdeal.main F _ := rfl

end

theorem frame_kernel : Cert.quiescent_Kernel := fun m ρ h => by
  have e := frame (F := Bits) m ρ (fun c y => le_of_inside _ _ _ (h c).2.2 y)
  rw [← defs_eq, ← main_eq] at e
  exact e

theorem frame_ideal : Cert.quiescent_KernelIdeal := fun m ρ h =>
  frame (F := Ideal) m ρ (fun c y => le_of_inside _ _ _ (h c).2.2 y)

theorem frame_reference : Cert.quiescent_ReferenceIdeal := fun m ρ _ =>
  (θ_run Cert.ReferenceIdeal.defs _ _).mono (fun r h => ⟨fun c => ⟨(h c).2.2.1, (h c).2.2.2.1, (h c).2.2.2.2⟩,
      sem_eq_zero_of_no_sems (by decide) r.2⟩)
    (Cert.ReferenceIdeal.Value.run (F := Ideal) m ρ)

end Cert.KernelIdeal.MaxSim

end
-- ==== Proof.MaxSim.Value.lean ====
/- The kernel's two results are the reference's, at the exact instance. -/
module

public import proofs.«01_k».proof.Proof.MaxSim.Host
public import proofs.«01_k».proof.Proof.MaxSim.Ref
public import proofs.«01_k».proof.Proof.MaxSim.Same

@[expose] public section

set_option maxRecDepth 16384

noncomputable section

namespace Cert.KernelIdeal.MaxSim

open Cert.KernelIdeal Cert.KernelIdeal.Gen
open Idealize.ShloMosaic Idealize.ShloMosaic.TcCoe Idealize.ShloMosaic.StableHlo
open Idealize.SL.Sem
open Idealize.ShloMosaic.Pipeline (Dat)

/-! ## The two results as functions of the inputs -/

theorem ix3_all {a b c : ℕ} (y : (⟨3, ![a, b, c]⟩ : Shape).Idx) : ∃ (i : Fin a) (j : Fin b) (k : Fin c), y = ix3 i j k :=
  ⟨y 0, y 1, y 2, by funext k; fin_cases k <;> rfl⟩
theorem ix2_all {a b : ℕ} (y : (⟨2, ![a, b]⟩ : Shape).Idx) : ∃ (i : Fin a) (j : Fin b), y = ix2 i j :=
  ⟨y 0, y 1, by funext k; fin_cases k <;> rfl⟩

variable (q : FVec Ideal S7x32x128 .bf16) (x : IVec S180224x4 32) (o : IVec S1001 32)

/-- A document's maximum for one query row is the reference's. -/
theorem docMax_eq (hq : ∀ y, (q y : EReal) ≠ ⊤ ∧ (q y : EReal) ≠ ⊥) (hin : ∀ y, (o y).toNat ≤ 180224) (hm : Monotone (num o))
    (d : Fin 1000) (n : Fin 7) (j : Fin 32) (i : Fin 224) (hi : i.val = 32 * n.val + j.val) :
    docMax (hostQ q) (hostX x) (num o) i d.val = Ref.refM q x o (ix3 d n j) := by
  have hrow : (fun k : Fin 128 => (hostQ q (ix2 i k) : EReal)) = fun k => q (ix3 n j k) := funext fun k => hostQ_apply q n j k i hi
  refine Eq.trans ?_ (Ref.refM_eq q hq x o hin hm d n j (tokD (hostQ q) (hostX x) i) fun t => ?_).symm
  · unfold docMax
    rw [hrow]
  · exact congrArg₂ dot2 hrow (funext fun w => hostX_apply x t w)

theorem value_m (hq : ∀ y, (q y : EReal) ≠ ⊤ ∧ (q y : EReal) ≠ ⊥) (hin : ∀ y, (o y).toNat ≤ 180224) (hm : Monotone (num o)) (ho : Checks o) :
    hostM (outM (F := Ideal) o ho (hostQ q) (hostO o) (hostX x)) = Ref.refM q x o := by
  funext y
  obtain ⟨d, n, j, rfl⟩ := ix3_all y
  rw [hostM_apply]
  exact (outM_apply o hin hm ho _ _ (hostO_apply o) _ _ _).trans (docMax_eq q x o hq hin hm d n j _ rfl)

theorem value_s (hq : ∀ y, (q y : EReal) ≠ ⊤ ∧ (q y : EReal) ≠ ⊥) (hin : ∀ y, (o y).toNat ≤ 180224) (hm : Monotone (num o)) (ho : Checks o) :
    hostS (outS (F := Ideal) o ho (hostQ q) (hostO o) (hostX x)) = Ref.refS q x o := by
  funext y
  obtain ⟨d, n, rfl⟩ := ix2_all y
  rw [hostS_apply]
  refine (outS_apply o hin hm ho _ _ (hostO_apply o) _ _ _).trans ?_
  exact (Finset.sum_congr rfl fun j _ => docMax_eq q x o hq hin hm d n j _ rfl).trans (Ref.refS_apply q x o d n).symm

/-! ## The runs -/

/-- Equal inputs pass the same checks and give equal results. -/
theorem outM_congr {o o' : IVec S1001 32} (ho : Checks o) (ho' : Checks o') (e : o = o') {q q' : FVec Ideal S224x128 .bf16} (eq : q = q')
    {p p' : IVec S1x1001 32} (ep : p = p') {r r' : IVec S5632x128 32} (er : r = r') : outM (F := Ideal) o ho q p r = outM o' ho' q' p' r' := by
  subst e eq ep er; rfl
theorem outS_congr {o o' : IVec S1001 32} (ho : Checks o) (ho' : Checks o') (e : o = o') {q q' : FVec Ideal S224x128 .bf16} (eq : q = q')
    {p p' : IVec S1x1001 32} (ep : p = p') {r r' : IVec S5632x128 32} (er : r = r') : outS (F := Ideal) o ho q p r = outS o' ho' q' p' r' := by
  subst e eq ep er; rfl

variable (m : (ℓ : Loc nD τ sig) → Buf (Elt Ideal) ℓ) (ρ : Dev nD → PrngReg)

/-- Every run of the program ends with the reference's scores and maxima of its arguments, the arguments unchanged. -/
theorem run_value (h : Cert.Pre_KernelIdeal m) :
    θ_run defs (onTc (τ := τ) (main (F := Ideal))) ⟨m, fun _ => 0, ρ⟩ (fun r => ∀ c : Dev nD,
      r.2.mem ((c.tc : Thread nD τ).loc main_v8) = Ref.refS (m ((c.tc : Thread nD τ).loc main_arg0)) (m ((c.tc : Thread nD τ).loc main_arg1)) (m ((c.tc : Thread nD τ).loc main_arg2))
      ∧ r.2.mem ((c.tc : Thread nD τ).loc main_v7) = Ref.refM (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hin : ∀ (c : Dev nD) (y : S1001.Idx), (m ((c.tc : Thread nD τ).loc main_arg2) y : BitVec 32).toNat ≤ 180224 :=
    fun c y => le_of_inside _ _ _ (h c).2.2 y
  have hm : ∀ c : Dev nD, Monotone (num (m ((c.tc : Thread nD τ).loc main_arg2))) :=
    fun c => num_mono _ (hin c) (fun d hd => ascend_of _ _ _ (h c).2.1 (hin c) d hd)
  have hq : ∀ (c : Dev nD) (y : S7x32x128.Idx), m ((c.tc : Thread nD τ).loc main_arg0) y ≠ (⊤ : EReal) ∧ m ((c.tc : Thread nD τ).loc main_arg0) y ≠ (⊥ : EReal) :=
    fun c y => finite_of _ _ _ (h c).1 y
  have hoA : ∀ c : Dev nD, Checks (m ((c.tc : Thread nD τ).loc main_arg2)) := fun c => checks_of _ (hin c)
  refine (θ_run defs _ _).mono (fun r hr c => ?_)
    (θ_run_and ((θ_run defs _ _).mono (fun _ h => h.1) (run_main m ρ (checks_iblk m hin))) (frame m ρ hin))
  obtain ⟨hp, hf, _⟩ := hr
  have e0 := iblk0_eq m c t0_0
  have e1 := (iblk1_V m c t0_0).trans (V_main_v3 m c)
  have e2 := (iblk2_V m c t0_0).trans (V_main_v4 m c)
  have e3 := (iblk3_V m c t0_0).trans (V_main_v2 m c)
  refine ⟨?_, ?_, hf c⟩
  · refine ((hp c).2 main_v8 (Pipeline.mem_restRefs_of main_v8 (by decide) (by decide))).trans ?_
    rw [tail_v8, final5]
    exact (congrArg hostS (outS_congr _ (hoA c) e0 e1 e2 e3)).trans (value_s _ _ _ (hq c) (hin c) (hm c) (hoA c))
  · refine ((hp c).2 main_v7 (Pipeline.mem_restRefs_of main_v7 (by decide) (by decide))).trans ?_
    rw [tail_v7, final4]
    exact (congrArg hostM (outM_congr _ (hoA c) e0 e1 e2 e3)).trans (value_m _ _ _ (hq c) (hin c) (hm c) (hoA c))

theorem algebraic : Cert.algebraic_KernelIdeal_ReferenceIdeal := fun m g m' g' h hag =>
  ⟨_, _, run_value m g h, (θ_run Cert.ReferenceIdeal.defs _ _).mono (fun r hr c => by
    obtain ⟨h35, h34, ha⟩ := hr c
    obtain ⟨a0, a1, a2⟩ := hag c
    refine ⟨?_, ?_, ha⟩
    · refine h35.trans ?_
      rw [a0, a1, a2]
      rfl
    · refine h34.trans ?_
      rw [a0, a1, a2]
      rfl) (Cert.ReferenceIdeal.Value.run (F := Ideal) m' g')⟩

theorem frame_reference_pre : Cert.quiescent_ReferenceIdeal_pre_well_formed := fun m ρ _ => frame_reference m ρ trivial

end Cert.KernelIdeal.MaxSim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_well_formed
public import proofs.«01_k».proof.Proof.MaxSim.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_well_formed.Gen.facts,
  KernelIdeal.MaxSim.frame_kernel, KernelIdeal.MaxSim.frame_ideal, KernelIdeal.MaxSim.frame_reference,
  KernelIdeal.MaxSim.frame_reference_pre, trivial, KernelIdeal.MaxSim.algebraic⟩

end Cert.Proof

end
